-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInRefIdeal (m : (ℓ : Loc Cert.RetInRefIdeal.nD Cert.RetInRefIdeal.τ Cert.RetInRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_NsaOut (m : (ℓ : Loc Cert.NsaOut.nD Cert.NsaOut.τ Cert.NsaOut.sig) → Buf (Elt Bits) ℓ) : Prop :=
  True

def Pre_NsaOutIdeal (m : (ℓ : Loc Cert.NsaOutIdeal.nD Cert.NsaOutIdeal.τ Cert.NsaOutIdeal.sig) → Buf (Elt Ideal) ℓ) : Prop :=
  True

def Pre_NsaOutRefIdeal (m : (ℓ : Loc Cert.NsaOutRefIdeal.nD Cert.NsaOutRefIdeal.τ Cert.NsaOutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_NsaQ (m : (ℓ : Loc Cert.NsaQ.nD Cert.NsaQ.τ Cert.NsaQ.sig) → Buf (Elt Bits) ℓ) : Prop :=
  True

def Pre_NsaQIdeal (m : (ℓ : Loc Cert.NsaQIdeal.nD Cert.NsaQIdeal.τ Cert.NsaQIdeal.sig) → Buf (Elt Ideal) ℓ) : Prop :=
  True

def Pre_NsaQRefIdeal (m : (ℓ : Loc Cert.NsaQRefIdeal.nD Cert.NsaQRefIdeal.τ Cert.NsaQRefIdeal.sig) → Buf (Elt Ideal) ℓ) : Prop :=
  True

def Pre_PleS (m : (ℓ : Loc Cert.PleS.nD Cert.PleS.τ Cert.PleS.sig) → Buf (Elt Bits) ℓ) : Prop :=
  True

def Pre_PleSIdeal (m : (ℓ : Loc Cert.PleSIdeal.nD Cert.PleSIdeal.τ Cert.PleSIdeal.sig) → Buf (Elt Ideal) ℓ) : Prop :=
  True

def Pre_PleSRefIdeal (m : (ℓ : Loc Cert.PleSRefIdeal.nD Cert.PleSRefIdeal.τ Cert.PleSRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_RetS (m : (ℓ : Loc Cert.RetS.nD Cert.RetS.τ Cert.RetS.sig) → Buf (Elt Bits) ℓ) : Prop :=
  True

def Pre_RetSIdeal (m : (ℓ : Loc Cert.RetSIdeal.nD Cert.RetSIdeal.τ Cert.RetSIdeal.sig) → Buf (Elt Ideal) ℓ) : Prop :=
  True

def Pre_RetSRefIdeal (m : (ℓ : Loc Cert.RetSRefIdeal.nD Cert.RetSRefIdeal.τ Cert.RetSRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ r.2.sem = fun _ => 0)

def quiescent_RetInRefIdeal [hRetInRefIdeal : Cert.RetInRefIdeal.Facts] : Prop :=
  ∀ (m : (ℓ : Loc Cert.RetInRefIdeal.nD Cert.RetInRefIdeal.τ Cert.RetInRefIdeal.sig) → Buf (Elt Ideal) ℓ) (g : Dev Cert.RetInRefIdeal.nD → PrngReg), Pre_RetInRefIdeal m →
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2))
      ∧ r.2.sem = fun _ => 0)

def quiescent_NsaOut [hNsaOut : Cert.NsaOut.Facts] : Prop :=
  ∀ (m : (ℓ : Loc Cert.NsaOut.nD Cert.NsaOut.τ Cert.NsaOut.sig) → Buf (Elt Bits) ℓ) (g : Dev Cert.NsaOut.nD → PrngReg), Pre_NsaOut m →
    θ_run (Cert.NsaOut.defs (F := Bits)) (onTc (τ := Cert.NsaOut.τ) (Cert.NsaOut.main (F := Bits))) ⟨m, fun _ => 0, g⟩ (fun r => (∀ c : Dev Cert.NsaOut.nD,
      r.2.mem ((c.tc : Thread Cert.NsaOut.nD Cert.NsaOut.τ).loc Cert.NsaOut.main_arg0) = m ((c.tc : Thread Cert.NsaOut.nD Cert.NsaOut.τ).loc Cert.NsaOut.main_arg0)
      ∧ r.2.mem ((c.tc : Thread Cert.NsaOut.nD Cert.NsaOut.τ).loc Cert.NsaOut.main_arg1) = m ((c.tc : Thread Cert.NsaOut.nD Cert.NsaOut.τ).loc Cert.NsaOut.main_arg1)
      ∧ r.2.mem ((c.tc : Thread Cert.NsaOut.nD Cert.NsaOut.τ).loc Cert.NsaOut.main_arg2) = m ((c.tc : Thread Cert.NsaOut.nD Cert.NsaOut.τ).loc Cert.NsaOut.main_arg2))
      ∧ r.2.sem = fun _ => 0)

def quiescent_NsaOutIdeal [hNsaOutIdeal : Cert.NsaOutIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg), Pre_NsaOutIdeal m →
    θ_run (Cert.NsaOutIdeal.defs (F := Ideal)) (onTc (τ := Cert.NsaOutIdeal.τ) (Cert.NsaOutIdeal.main (F := Ideal))) ⟨m, fun _ => 0, g⟩ (fun r => (∀ c : Dev Cert.NsaOutIdeal.nD,
      r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
      ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1)
      ∧ r.2.mem ((c.tc : Thread Cert.NsaOutIdeal.nD Cert.NsaOutIdeal.τ).loc Cert.NsaOutIdeal.main_arg2) = m ((c.tc : Thread Cert.NsaOutIdeal.nD Cert.NsaOutIdeal.τ).loc Cert.NsaOutIdeal.main_arg2))
      ∧ r.2.sem = fun _ => 0)

def quiescent_NsaOutRefIdeal [hNsaOutRefIdeal : Cert.NsaOutRefIdeal.Facts] : Prop :=
  ∀ (m : (ℓ : Loc Cert.NsaOutRefIdeal.nD Cert.NsaOutRefIdeal.τ Cert.NsaOutRefIdeal.sig) → Buf (Elt Ideal) ℓ) (g : Dev Cert.NsaOutRefIdeal.nD → PrngReg), Pre_NsaOutRefIdeal m →
    θ_run (Cert.NsaOutRefIdeal.defs (F := Ideal)) (onTc (τ := Cert.NsaOutRefIdeal.τ) (Cert.NsaOutRefIdeal.main (F := Ideal))) ⟨m, fun _ => 0, g⟩ (fun r => (∀ c : Dev Cert.NsaOutRefIdeal.nD,
      r.2.mem ((c.tc : Thread Cert.NsaOutRefIdeal.nD Cert.NsaOutRefIdeal.τ).loc Cert.NsaOutRefIdeal.main_arg0) = m ((c.tc : Thread Cert.NsaOutRefIdeal.nD Cert.NsaOutRefIdeal.τ).loc Cert.NsaOutRefIdeal.main_arg0)
      ∧ r.2.mem ((c.tc : Thread Cert.NsaOutRefIdeal.nD Cert.NsaOutRefIdeal.τ).loc Cert.NsaOutRefIdeal.main_arg1) = m ((c.tc : Thread Cert.NsaOutRefIdeal.nD Cert.NsaOutRefIdeal.τ).loc Cert.NsaOutRefIdeal.main_arg1)
      ∧ r.2.mem ((c.tc : Thread Cert.NsaOutRefIdeal.nD Cert.NsaOutRefIdeal.τ).loc Cert.NsaOutRefIdeal.main_arg2) = m ((c.tc : Thread Cert.NsaOutRefIdeal.nD Cert.NsaOutRefIdeal.τ).loc Cert.NsaOutRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_NsaQ [hNsaQ : Cert.NsaQ.Facts] : Prop :=
  ∀ (m : (ℓ : Loc Cert.NsaQ.nD Cert.NsaQ.τ Cert.NsaQ.sig) → Buf (Elt Bits) ℓ) (g : Dev Cert.NsaQ.nD → PrngReg), Pre_NsaQ m →
    θ_run (Cert.NsaQ.defs (F := Bits)) (onTc (τ := Cert.NsaQ.τ) (Cert.NsaQ.main (F := Bits))) ⟨m, fun _ => 0, g⟩ (fun r => (∀ c : Dev Cert.NsaQ.nD,
      r.2.mem ((c.tc : Thread Cert.NsaQ.nD Cert.NsaQ.τ).loc Cert.NsaQ.main_arg0) = m ((c.tc : Thread Cert.NsaQ.nD Cert.NsaQ.τ).loc Cert.NsaQ.main_arg0)
      ∧ r.2.mem ((c.tc : Thread Cert.NsaQ.nD Cert.NsaQ.τ).loc Cert.NsaQ.main_arg1) = m ((c.tc : Thread Cert.NsaQ.nD Cert.NsaQ.τ).loc Cert.NsaQ.main_arg1)
      ∧ r.2.mem ((c.tc : Thread Cert.NsaQ.nD Cert.NsaQ.τ).loc Cert.NsaQ.main_arg2) = m ((c.tc : Thread Cert.NsaQ.nD Cert.NsaQ.τ).loc Cert.NsaQ.main_arg2))
      ∧ r.2.sem = fun _ => 0)

def quiescent_NsaQIdeal [hNsaQIdeal : Cert.NsaQIdeal.Facts] : Prop :=
  ∀ (m : (ℓ : Loc Cert.NsaQIdeal.nD Cert.NsaQIdeal.τ Cert.NsaQIdeal.sig) → Buf (Elt Ideal) ℓ) (g : Dev Cert.NsaQIdeal.nD → PrngReg), Pre_NsaQIdeal m →
    θ_run (Cert.NsaQIdeal.defs (F := Ideal)) (onTc (τ := Cert.NsaQIdeal.τ) (Cert.NsaQIdeal.main (F := Ideal))) ⟨m, fun _ => 0, g⟩ (fun r => (∀ c : Dev Cert.NsaQIdeal.nD,
      r.2.mem ((c.tc : Thread Cert.NsaQIdeal.nD Cert.NsaQIdeal.τ).loc Cert.NsaQIdeal.main_arg0) = m ((c.tc : Thread Cert.NsaQIdeal.nD Cert.NsaQIdeal.τ).loc Cert.NsaQIdeal.main_arg0)
      ∧ r.2.mem ((c.tc : Thread Cert.NsaQIdeal.nD Cert.NsaQIdeal.τ).loc Cert.NsaQIdeal.main_arg1) = m ((c.tc : Thread Cert.NsaQIdeal.nD Cert.NsaQIdeal.τ).loc Cert.NsaQIdeal.main_arg1)
      ∧ r.2.mem ((c.tc : Thread Cert.NsaQIdeal.nD Cert.NsaQIdeal.τ).loc Cert.NsaQIdeal.main_arg2) = m ((c.tc : Thread Cert.NsaQIdeal.nD Cert.NsaQIdeal.τ).loc Cert.NsaQIdeal.main_arg2))
      ∧ r.2.sem = fun _ => 0)

def quiescent_NsaQRefIdeal [hNsaQRefIdeal : Cert.NsaQRefIdeal.Facts] : Prop :=
  ∀ (m : (ℓ : Loc Cert.NsaQRefIdeal.nD Cert.NsaQRefIdeal.τ Cert.NsaQRefIdeal.sig) → Buf (Elt Ideal) ℓ) (g : Dev Cert.NsaQRefIdeal.nD → PrngReg), Pre_NsaQRefIdeal m →
    θ_run (Cert.NsaQRefIdeal.defs (F := Ideal)) (onTc (τ := Cert.NsaQRefIdeal.τ) (Cert.NsaQRefIdeal.main (F := Ideal))) ⟨m, fun _ => 0, g⟩ (fun r => (∀ c : Dev Cert.NsaQRefIdeal.nD,
      r.2.mem ((c.tc : Thread Cert.NsaQRefIdeal.nD Cert.NsaQRefIdeal.τ).loc Cert.NsaQRefIdeal.main_arg0) = m ((c.tc : Thread Cert.NsaQRefIdeal.nD Cert.NsaQRefIdeal.τ).loc Cert.NsaQRefIdeal.main_arg0)
      ∧ r.2.mem ((c.tc : Thread Cert.NsaQRefIdeal.nD Cert.NsaQRefIdeal.τ).loc Cert.NsaQRefIdeal.main_arg1) = m ((c.tc : Thread Cert.NsaQRefIdeal.nD Cert.NsaQRefIdeal.τ).loc Cert.NsaQRefIdeal.main_arg1)
      ∧ r.2.mem ((c.tc : Thread Cert.NsaQRefIdeal.nD Cert.NsaQRefIdeal.τ).loc Cert.NsaQRefIdeal.main_arg2) = m ((c.tc : Thread Cert.NsaQRefIdeal.nD Cert.NsaQRefIdeal.τ).loc Cert.NsaQRefIdeal.main_arg2))
      ∧ r.2.sem = fun _ => 0)

def quiescent_PleS [hPleS : Cert.PleS.Facts] : Prop :=
  ∀ (m : (ℓ : Loc Cert.PleS.nD Cert.PleS.τ Cert.PleS.sig) → Buf (Elt Bits) ℓ) (g : Dev Cert.PleS.nD → PrngReg), Pre_PleS m →
    θ_run (Cert.PleS.defs (F := Bits)) (onTc (τ := Cert.PleS.τ) (Cert.PleS.main (F := Bits))) ⟨m, fun _ => 0, g⟩ (fun r => (∀ c : Dev Cert.PleS.nD,
      r.2.mem ((c.tc : Thread Cert.PleS.nD Cert.PleS.τ).loc Cert.PleS.main_arg0) = m ((c.tc : Thread Cert.PleS.nD Cert.PleS.τ).loc Cert.PleS.main_arg0)
      ∧ r.2.mem ((c.tc : Thread Cert.PleS.nD Cert.PleS.τ).loc Cert.PleS.main_arg1) = m ((c.tc : Thread Cert.PleS.nD Cert.PleS.τ).loc Cert.PleS.main_arg1)
      ∧ r.2.mem ((c.tc : Thread Cert.PleS.nD Cert.PleS.τ).loc Cert.PleS.main_arg2) = m ((c.tc : Thread Cert.PleS.nD Cert.PleS.τ).loc Cert.PleS.main_arg2)
      ∧ r.2.mem ((c.tc : Thread Cert.PleS.nD Cert.PleS.τ).loc Cert.PleS.main_arg3) = m ((c.tc : Thread Cert.PleS.nD Cert.PleS.τ).loc Cert.PleS.main_arg3)
      ∧ r.2.mem ((c.tc : Thread Cert.PleS.nD Cert.PleS.τ).loc Cert.PleS.main_arg4) = m ((c.tc : Thread Cert.PleS.nD Cert.PleS.τ).loc Cert.PleS.main_arg4))
      ∧ r.2.sem = fun _ => 0)

def quiescent_PleSIdeal [hPleSIdeal : Cert.PleSIdeal.Facts] : Prop :=
  ∀ (m : (ℓ : Loc Cert.PleSIdeal.nD Cert.PleSIdeal.τ Cert.PleSIdeal.sig) → Buf (Elt Ideal) ℓ) (g : Dev Cert.PleSIdeal.nD → PrngReg), Pre_PleSIdeal m →
    θ_run (Cert.PleSIdeal.defs (F := Ideal)) (onTc (τ := Cert.PleSIdeal.τ) (Cert.PleSIdeal.main (F := Ideal))) ⟨m, fun _ => 0, g⟩ (fun r => (∀ c : Dev Cert.PleSIdeal.nD,
      r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
      ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
      ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
      ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
      ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4))
      ∧ r.2.sem = fun _ => 0)

def quiescent_PleSRefIdeal [hPleSRefIdeal : Cert.PleSRefIdeal.Facts] : Prop :=
  ∀ (m : (ℓ : Loc Cert.PleSRefIdeal.nD Cert.PleSRefIdeal.τ Cert.PleSRefIdeal.sig) → Buf (Elt Ideal) ℓ) (g : Dev Cert.PleSRefIdeal.nD → PrngReg), Pre_PleSRefIdeal m →
    θ_run (Cert.PleSRefIdeal.defs (F := Ideal)) (onTc (τ := Cert.PleSRefIdeal.τ) (Cert.PleSRefIdeal.main (F := Ideal))) ⟨m, fun _ => 0, g⟩ (fun r => (∀ c : Dev Cert.PleSRefIdeal.nD,
      r.2.mem ((c.tc : Thread Cert.PleSRefIdeal.nD Cert.PleSRefIdeal.τ).loc Cert.PleSRefIdeal.main_arg0) = m ((c.tc : Thread Cert.PleSRefIdeal.nD Cert.PleSRefIdeal.τ).loc Cert.PleSRefIdeal.main_arg0)
      ∧ r.2.mem ((c.tc : Thread Cert.PleSRefIdeal.nD Cert.PleSRefIdeal.τ).loc Cert.PleSRefIdeal.main_arg1) = m ((c.tc : Thread Cert.PleSRefIdeal.nD Cert.PleSRefIdeal.τ).loc Cert.PleSRefIdeal.main_arg1)
      ∧ r.2.mem ((c.tc : Thread Cert.PleSRefIdeal.nD Cert.PleSRefIdeal.τ).loc Cert.PleSRefIdeal.main_arg2) = m ((c.tc : Thread Cert.PleSRefIdeal.nD Cert.PleSRefIdeal.τ).loc Cert.PleSRefIdeal.main_arg2)
      ∧ r.2.mem ((c.tc : Thread Cert.PleSRefIdeal.nD Cert.PleSRefIdeal.τ).loc Cert.PleSRefIdeal.main_arg3) = m ((c.tc : Thread Cert.PleSRefIdeal.nD Cert.PleSRefIdeal.τ).loc Cert.PleSRefIdeal.main_arg3)
      ∧ r.2.mem ((c.tc : Thread Cert.PleSRefIdeal.nD Cert.PleSRefIdeal.τ).loc Cert.PleSRefIdeal.main_arg4) = m ((c.tc : Thread Cert.PleSRefIdeal.nD Cert.PleSRefIdeal.τ).loc Cert.PleSRefIdeal.main_arg4))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2)
      ∧ r.2.mem ((c.tc : Thread Cert.KvS.nD Cert.KvS.τ).loc Cert.KvS.main_arg3) = m ((c.tc : Thread Cert.KvS.nD Cert.KvS.τ).loc Cert.KvS.main_arg3))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
      ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2)
      ∧ r.2.mem ((c.tc : Thread Cert.KvSRefIdeal.nD Cert.KvSRefIdeal.τ).loc Cert.KvSRefIdeal.main_arg3) = m ((c.tc : Thread Cert.KvSRefIdeal.nD Cert.KvSRefIdeal.τ).loc Cert.KvSRefIdeal.main_arg3))
      ∧ r.2.sem = fun _ => 0)

def quiescent_RetS [hRetS : Cert.RetS.Facts] : Prop :=
  ∀ (m : (ℓ : Loc Cert.RetS.nD Cert.RetS.τ Cert.RetS.sig) → Buf (Elt Bits) ℓ) (g : Dev Cert.RetS.nD → PrngReg), Pre_RetS m →
    θ_run (Cert.RetS.defs (F := Bits)) (onTc (τ := Cert.RetS.τ) (Cert.RetS.main (F := Bits))) ⟨m, fun _ => 0, g⟩ (fun r => (∀ c : Dev Cert.RetS.nD,
      r.2.mem ((c.tc : Thread Cert.RetS.nD Cert.RetS.τ).loc Cert.RetS.main_arg0) = m ((c.tc : Thread Cert.RetS.nD Cert.RetS.τ).loc Cert.RetS.main_arg0)
      ∧ r.2.mem ((c.tc : Thread Cert.RetS.nD Cert.RetS.τ).loc Cert.RetS.main_arg1) = m ((c.tc : Thread Cert.RetS.nD Cert.RetS.τ).loc Cert.RetS.main_arg1))
      ∧ r.2.sem = fun _ => 0)

def quiescent_RetSIdeal [hRetSIdeal : Cert.RetSIdeal.Facts] : Prop :=
  ∀ (m : (ℓ : Loc Cert.RetSIdeal.nD Cert.RetSIdeal.τ Cert.RetSIdeal.sig) → Buf (Elt Ideal) ℓ) (g : Dev Cert.RetSIdeal.nD → PrngReg), Pre_RetSIdeal m →
    θ_run (Cert.RetSIdeal.defs (F := Ideal)) (onTc (τ := Cert.RetSIdeal.τ) (Cert.RetSIdeal.main (F := Ideal))) ⟨m, fun _ => 0, g⟩ (fun r => (∀ c : Dev Cert.RetSIdeal.nD,
      r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
      ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1))
      ∧ r.2.sem = fun _ => 0)

def quiescent_RetSRefIdeal [hRetSRefIdeal : Cert.RetSRefIdeal.Facts] : Prop :=
  ∀ (m : (ℓ : Loc Cert.RetSRefIdeal.nD Cert.RetSRefIdeal.τ Cert.RetSRefIdeal.sig) → Buf (Elt Ideal) ℓ) (g : Dev Cert.RetSRefIdeal.nD → PrngReg), Pre_RetSRefIdeal m →
    θ_run (Cert.RetSRefIdeal.defs (F := Ideal)) (onTc (τ := Cert.RetSRefIdeal.τ) (Cert.RetSRefIdeal.main (F := Ideal))) ⟨m, fun _ => 0, g⟩ (fun r => (∀ c : Dev Cert.RetSRefIdeal.nD,
      r.2.mem ((c.tc : Thread Cert.RetSRefIdeal.nD Cert.RetSRefIdeal.τ).loc Cert.RetSRefIdeal.main_arg0) = m ((c.tc : Thread Cert.RetSRefIdeal.nD Cert.RetSRefIdeal.τ).loc Cert.RetSRefIdeal.main_arg0)
      ∧ r.2.mem ((c.tc : Thread Cert.RetSRefIdeal.nD Cert.RetSRefIdeal.τ).loc Cert.RetSRefIdeal.main_arg1) = m ((c.tc : Thread Cert.RetSRefIdeal.nD Cert.RetSRefIdeal.τ).loc Cert.RetSRefIdeal.main_arg1))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)) →
    ∃ (v0 : (c : Dev Cert.RetIdeal.nD) → Buf (Elt Ideal) ((c.tc : Thread Cert.RetIdeal.nD Cert.RetIdeal.τ).loc Cert.RetIdeal.main_v66_0)) (v1 : (c : Dev Cert.RetIdeal.nD) → Buf (Elt Ideal) ((c.tc : Thread Cert.RetIdeal.nD Cert.RetIdeal.τ).loc Cert.RetIdeal.main_v66_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v66_0) = v0 c
          ∧ r.2.mem ((c.tc : Thread Cert.RetIdeal.nD Cert.RetIdeal.τ).loc Cert.RetIdeal.main_v66_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v136) = v0 c
          ∧ r.2.mem ((c.tc : Thread Cert.RetRefIdeal.nD Cert.RetRefIdeal.τ).loc Cert.RetRefIdeal.main_v119_8) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0))

def preserves_RetIn_RetInIdeal : Prop :=
  True

def algebraic_RetInIdeal_RetInRefIdeal [hRetInIdeal : Cert.RetInIdeal.Facts] [hRetInRefIdeal : Cert.RetInRefIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg), Pre_RetInIdeal m →
    (∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)) →
    ∃ (v0 : (c : Dev Cert.RetInIdeal.nD) → Buf (Elt Ideal) ((c.tc : Thread Cert.RetInIdeal.nD Cert.RetInIdeal.τ).loc Cert.RetInIdeal.main_v0)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v0) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v1) = v0 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)) →
    ∃ (v0 : (c : Dev Cert.RetOutIdeal.nD) → Buf (Elt Ideal) ((c.tc : Thread Cert.RetOutIdeal.nD Cert.RetOutIdeal.τ).loc Cert.RetOutIdeal.main_v0)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v0) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v2) = v0 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2))

def preserves_NsaOut_NsaOutIdeal : Prop :=
  True

def algebraic_NsaOutIdeal_NsaOutRefIdeal [hNsaOutIdeal : Cert.NsaOutIdeal.Facts] [hNsaOutRefIdeal : Cert.NsaOutRefIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg)
    (m' : (ℓ : Loc Cert.NsaOutRefIdeal.nD Cert.NsaOutRefIdeal.τ Cert.NsaOutRefIdeal.sig) → Buf (Elt Ideal) ℓ) (g' : Dev Cert.NsaOutRefIdeal.nD → PrngReg), Pre_NsaOutIdeal m →
    (∀ c : Dev Cert.NsaOutIdeal.nD,
      m' ((c.tc : Thread Cert.NsaOutRefIdeal.nD Cert.NsaOutRefIdeal.τ).loc Cert.NsaOutRefIdeal.main_arg0) = m ((c.tc : Thread Cert.NsaOutIdeal.nD Cert.NsaOutIdeal.τ).loc Cert.NsaOutIdeal.main_arg0)
      ∧ m' ((c.tc : Thread Cert.NsaOutRefIdeal.nD Cert.NsaOutRefIdeal.τ).loc Cert.NsaOutRefIdeal.main_arg1) = m ((c.tc : Thread Cert.NsaOutIdeal.nD Cert.NsaOutIdeal.τ).loc Cert.NsaOutIdeal.main_arg1)
      ∧ m' ((c.tc : Thread Cert.NsaOutRefIdeal.nD Cert.NsaOutRefIdeal.τ).loc Cert.NsaOutRefIdeal.main_arg2) = m ((c.tc : Thread Cert.NsaOutIdeal.nD Cert.NsaOutIdeal.τ).loc Cert.NsaOutIdeal.main_arg2)) →
    ∃ (v0 : (c : Dev Cert.NsaOutIdeal.nD) → Buf (Elt Ideal) ((c.tc : Thread Cert.NsaOutIdeal.nD Cert.NsaOutIdeal.τ).loc Cert.NsaOutIdeal.main_v0)),
      θ_run (Cert.NsaOutIdeal.defs (F := Ideal)) (onTc (τ := Cert.NsaOutIdeal.τ) (Cert.NsaOutIdeal.main (F := Ideal))) ⟨m, fun _ => 0, g⟩ (fun r => ∀ c : Dev Cert.NsaOutIdeal.nD,
          r.2.mem ((c.tc : Thread Cert.NsaOutIdeal.nD Cert.NsaOutIdeal.τ).loc Cert.NsaOutIdeal.main_v0) = v0 c
          ∧ r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
          ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1)
          ∧ r.2.mem ((c.tc : Thread Cert.NsaOutIdeal.nD Cert.NsaOutIdeal.τ).loc Cert.NsaOutIdeal.main_arg2) = m ((c.tc : Thread Cert.NsaOutIdeal.nD Cert.NsaOutIdeal.τ).loc Cert.NsaOutIdeal.main_arg2))
      ∧ θ_run (Cert.NsaOutRefIdeal.defs (F := Ideal)) (onTc (τ := Cert.NsaOutRefIdeal.τ) (Cert.NsaOutRefIdeal.main (F := Ideal))) ⟨m', fun _ => 0, g'⟩ (fun r => ∀ c : Dev Cert.NsaOutRefIdeal.nD,
          r.2.mem ((c.tc : Thread Cert.NsaOutRefIdeal.nD Cert.NsaOutRefIdeal.τ).loc Cert.NsaOutRefIdeal.main_v2) = v0 c
          ∧ r.2.mem ((c.tc : Thread Cert.NsaOutRefIdeal.nD Cert.NsaOutRefIdeal.τ).loc Cert.NsaOutRefIdeal.main_arg0) = m' ((c.tc : Thread Cert.NsaOutRefIdeal.nD Cert.NsaOutRefIdeal.τ).loc Cert.NsaOutRefIdeal.main_arg0)
          ∧ r.2.mem ((c.tc : Thread Cert.NsaOutRefIdeal.nD Cert.NsaOutRefIdeal.τ).loc Cert.NsaOutRefIdeal.main_arg1) = m' ((c.tc : Thread Cert.NsaOutRefIdeal.nD Cert.NsaOutRefIdeal.τ).loc Cert.NsaOutRefIdeal.main_arg1)
          ∧ r.2.mem ((c.tc : Thread Cert.NsaOutRefIdeal.nD Cert.NsaOutRefIdeal.τ).loc Cert.NsaOutRefIdeal.main_arg2) = m' ((c.tc : Thread Cert.NsaOutRefIdeal.nD Cert.NsaOutRefIdeal.τ).loc Cert.NsaOutRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v14) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v12)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v12) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v45) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_NsaQ_NsaQIdeal : Prop :=
  True

def algebraic_NsaQIdeal_NsaQRefIdeal [hNsaQIdeal : Cert.NsaQIdeal.Facts] [hNsaQRefIdeal : Cert.NsaQRefIdeal.Facts] : Prop :=
  ∀ (m : (ℓ : Loc Cert.NsaQIdeal.nD Cert.NsaQIdeal.τ Cert.NsaQIdeal.sig) → Buf (Elt Ideal) ℓ) (g : Dev Cert.NsaQIdeal.nD → PrngReg)
    (m' : (ℓ : Loc Cert.NsaQRefIdeal.nD Cert.NsaQRefIdeal.τ Cert.NsaQRefIdeal.sig) → Buf (Elt Ideal) ℓ) (g' : Dev Cert.NsaQRefIdeal.nD → PrngReg), Pre_NsaQIdeal m →
    (∀ c : Dev Cert.NsaQIdeal.nD,
      m' ((c.tc : Thread Cert.NsaQRefIdeal.nD Cert.NsaQRefIdeal.τ).loc Cert.NsaQRefIdeal.main_arg0) = m ((c.tc : Thread Cert.NsaQIdeal.nD Cert.NsaQIdeal.τ).loc Cert.NsaQIdeal.main_arg0)
      ∧ m' ((c.tc : Thread Cert.NsaQRefIdeal.nD Cert.NsaQRefIdeal.τ).loc Cert.NsaQRefIdeal.main_arg1) = m ((c.tc : Thread Cert.NsaQIdeal.nD Cert.NsaQIdeal.τ).loc Cert.NsaQIdeal.main_arg1)
      ∧ m' ((c.tc : Thread Cert.NsaQRefIdeal.nD Cert.NsaQRefIdeal.τ).loc Cert.NsaQRefIdeal.main_arg2) = m ((c.tc : Thread Cert.NsaQIdeal.nD Cert.NsaQIdeal.τ).loc Cert.NsaQIdeal.main_arg2)) →
    ∃ (v0 : (c : Dev Cert.NsaQIdeal.nD) → Buf (Elt Ideal) ((c.tc : Thread Cert.NsaQIdeal.nD Cert.NsaQIdeal.τ).loc Cert.NsaQIdeal.main_v1)),
      θ_run (Cert.NsaQIdeal.defs (F := Ideal)) (onTc (τ := Cert.NsaQIdeal.τ) (Cert.NsaQIdeal.main (F := Ideal))) ⟨m, fun _ => 0, g⟩ (fun r => ∀ c : Dev Cert.NsaQIdeal.nD,
          r.2.mem ((c.tc : Thread Cert.NsaQIdeal.nD Cert.NsaQIdeal.τ).loc Cert.NsaQIdeal.main_v1) = v0 c
          ∧ r.2.mem ((c.tc : Thread Cert.NsaQIdeal.nD Cert.NsaQIdeal.τ).loc Cert.NsaQIdeal.main_arg0) = m ((c.tc : Thread Cert.NsaQIdeal.nD Cert.NsaQIdeal.τ).loc Cert.NsaQIdeal.main_arg0)
          ∧ r.2.mem ((c.tc : Thread Cert.NsaQIdeal.nD Cert.NsaQIdeal.τ).loc Cert.NsaQIdeal.main_arg1) = m ((c.tc : Thread Cert.NsaQIdeal.nD Cert.NsaQIdeal.τ).loc Cert.NsaQIdeal.main_arg1)
          ∧ r.2.mem ((c.tc : Thread Cert.NsaQIdeal.nD Cert.NsaQIdeal.τ).loc Cert.NsaQIdeal.main_arg2) = m ((c.tc : Thread Cert.NsaQIdeal.nD Cert.NsaQIdeal.τ).loc Cert.NsaQIdeal.main_arg2))
      ∧ θ_run (Cert.NsaQRefIdeal.defs (F := Ideal)) (onTc (τ := Cert.NsaQRefIdeal.τ) (Cert.NsaQRefIdeal.main (F := Ideal))) ⟨m', fun _ => 0, g'⟩ (fun r => ∀ c : Dev Cert.NsaQRefIdeal.nD,
          r.2.mem ((c.tc : Thread Cert.NsaQRefIdeal.nD Cert.NsaQRefIdeal.τ).loc Cert.NsaQRefIdeal.main_v18) = v0 c
          ∧ r.2.mem ((c.tc : Thread Cert.NsaQRefIdeal.nD Cert.NsaQRefIdeal.τ).loc Cert.NsaQRefIdeal.main_arg0) = m' ((c.tc : Thread Cert.NsaQRefIdeal.nD Cert.NsaQRefIdeal.τ).loc Cert.NsaQRefIdeal.main_arg0)
          ∧ r.2.mem ((c.tc : Thread Cert.NsaQRefIdeal.nD Cert.NsaQRefIdeal.τ).loc Cert.NsaQRefIdeal.main_arg1) = m' ((c.tc : Thread Cert.NsaQRefIdeal.nD Cert.NsaQRefIdeal.τ).loc Cert.NsaQRefIdeal.main_arg1)
          ∧ r.2.mem ((c.tc : Thread Cert.NsaQRefIdeal.nD Cert.NsaQRefIdeal.τ).loc Cert.NsaQRefIdeal.main_arg2) = m' ((c.tc : Thread Cert.NsaQRefIdeal.nD Cert.NsaQRefIdeal.τ).loc Cert.NsaQRefIdeal.main_arg2))

def preserves_PleS_PleSIdeal : Prop :=
  True

def algebraic_PleSIdeal_PleSRefIdeal [hPleSIdeal : Cert.PleSIdeal.Facts] [hPleSRefIdeal : Cert.PleSRefIdeal.Facts] : Prop :=
  ∀ (m : (ℓ : Loc Cert.PleSIdeal.nD Cert.PleSIdeal.τ Cert.PleSIdeal.sig) → Buf (Elt Ideal) ℓ) (g : Dev Cert.PleSIdeal.nD → PrngReg)
    (m' : (ℓ : Loc Cert.PleSRefIdeal.nD Cert.PleSRefIdeal.τ Cert.PleSRefIdeal.sig) → Buf (Elt Ideal) ℓ) (g' : Dev Cert.PleSRefIdeal.nD → PrngReg), Pre_PleSIdeal m →
    (∀ c : Dev Cert.PleSIdeal.nD,
      m' ((c.tc : Thread Cert.PleSRefIdeal.nD Cert.PleSRefIdeal.τ).loc Cert.PleSRefIdeal.main_arg0) = m ((c.tc : Thread Cert.PleSIdeal.nD Cert.PleSIdeal.τ).loc Cert.PleSIdeal.main_arg0)
      ∧ m' ((c.tc : Thread Cert.PleSRefIdeal.nD Cert.PleSRefIdeal.τ).loc Cert.PleSRefIdeal.main_arg1) = m ((c.tc : Thread Cert.PleSIdeal.nD Cert.PleSIdeal.τ).loc Cert.PleSIdeal.main_arg1)
      ∧ m' ((c.tc : Thread Cert.PleSRefIdeal.nD Cert.PleSRefIdeal.τ).loc Cert.PleSRefIdeal.main_arg2) = m ((c.tc : Thread Cert.PleSIdeal.nD Cert.PleSIdeal.τ).loc Cert.PleSIdeal.main_arg2)
      ∧ m' ((c.tc : Thread Cert.PleSRefIdeal.nD Cert.PleSRefIdeal.τ).loc Cert.PleSRefIdeal.main_arg3) = m ((c.tc : Thread Cert.PleSIdeal.nD Cert.PleSIdeal.τ).loc Cert.PleSIdeal.main_arg3)
      ∧ m' ((c.tc : Thread Cert.PleSRefIdeal.nD Cert.PleSRefIdeal.τ).loc Cert.PleSRefIdeal.main_arg4) = m ((c.tc : Thread Cert.PleSIdeal.nD Cert.PleSIdeal.τ).loc Cert.PleSIdeal.main_arg4)) →
    ∃ (v0 : (c : Dev Cert.PleSIdeal.nD) → Buf (Elt Ideal) ((c.tc : Thread Cert.PleSIdeal.nD Cert.PleSIdeal.τ).loc Cert.PleSIdeal.main_v0)),
      θ_run (Cert.PleSIdeal.defs (F := Ideal)) (onTc (τ := Cert.PleSIdeal.τ) (Cert.PleSIdeal.main (F := Ideal))) ⟨m, fun _ => 0, g⟩ (fun r => ∀ c : Dev Cert.PleSIdeal.nD,
          r.2.mem ((c.tc : Thread Cert.PleSIdeal.nD Cert.PleSIdeal.τ).loc Cert.PleSIdeal.main_v0) = v0 c
          ∧ r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
          ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
          ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
          ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
          ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4))
      ∧ θ_run (Cert.PleSRefIdeal.defs (F := Ideal)) (onTc (τ := Cert.PleSRefIdeal.τ) (Cert.PleSRefIdeal.main (F := Ideal))) ⟨m', fun _ => 0, g'⟩ (fun r => ∀ c : Dev Cert.PleSRefIdeal.nD,
          r.2.mem ((c.tc : Thread Cert.PleSRefIdeal.nD Cert.PleSRefIdeal.τ).loc Cert.PleSRefIdeal.main_v14) = v0 c
          ∧ r.2.mem ((c.tc : Thread Cert.PleSRefIdeal.nD Cert.PleSRefIdeal.τ).loc Cert.PleSRefIdeal.main_arg0) = m' ((c.tc : Thread Cert.PleSRefIdeal.nD Cert.PleSRefIdeal.τ).loc Cert.PleSRefIdeal.main_arg0)
          ∧ r.2.mem ((c.tc : Thread Cert.PleSRefIdeal.nD Cert.PleSRefIdeal.τ).loc Cert.PleSRefIdeal.main_arg1) = m' ((c.tc : Thread Cert.PleSRefIdeal.nD Cert.PleSRefIdeal.τ).loc Cert.PleSRefIdeal.main_arg1)
          ∧ r.2.mem ((c.tc : Thread Cert.PleSRefIdeal.nD Cert.PleSRefIdeal.τ).loc Cert.PleSRefIdeal.main_arg2) = m' ((c.tc : Thread Cert.PleSRefIdeal.nD Cert.PleSRefIdeal.τ).loc Cert.PleSRefIdeal.main_arg2)
          ∧ r.2.mem ((c.tc : Thread Cert.PleSRefIdeal.nD Cert.PleSRefIdeal.τ).loc Cert.PleSRefIdeal.main_arg3) = m' ((c.tc : Thread Cert.PleSRefIdeal.nD Cert.PleSRefIdeal.τ).loc Cert.PleSRefIdeal.main_arg3)
          ∧ r.2.mem ((c.tc : Thread Cert.PleSRefIdeal.nD Cert.PleSRefIdeal.τ).loc Cert.PleSRefIdeal.main_arg4) = m' ((c.tc : Thread Cert.PleSRefIdeal.nD Cert.PleSRefIdeal.τ).loc Cert.PleSRefIdeal.main_arg4))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)
      ∧ m' ((c.tc : Thread Cert.KvSRefIdeal.nD Cert.KvSRefIdeal.τ).loc Cert.KvSRefIdeal.main_arg3) = m ((c.tc : Thread Cert.KvSIdeal.nD Cert.KvSIdeal.τ).loc Cert.KvSIdeal.main_arg3)) →
    ∃ (v0 : (c : Dev Cert.KvSIdeal.nD) → Buf (Elt Ideal) ((c.tc : Thread Cert.KvSIdeal.nD Cert.KvSIdeal.τ).loc Cert.KvSIdeal.main_v12)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v12) = v0 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
          ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v45) = v0 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2)
          ∧ r.2.mem ((c.tc : Thread Cert.KvSRefIdeal.nD Cert.KvSRefIdeal.τ).loc Cert.KvSRefIdeal.main_arg3) = m' ((c.tc : Thread Cert.KvSRefIdeal.nD Cert.KvSRefIdeal.τ).loc Cert.KvSRefIdeal.main_arg3))

def preserves_RetS_RetSIdeal : Prop :=
  True

def algebraic_RetSIdeal_RetSRefIdeal [hRetSIdeal : Cert.RetSIdeal.Facts] [hRetSRefIdeal : Cert.RetSRefIdeal.Facts] : Prop :=
  ∀ (m : (ℓ : Loc Cert.RetSIdeal.nD Cert.RetSIdeal.τ Cert.RetSIdeal.sig) → Buf (Elt Ideal) ℓ) (g : Dev Cert.RetSIdeal.nD → PrngReg)
    (m' : (ℓ : Loc Cert.RetSRefIdeal.nD Cert.RetSRefIdeal.τ Cert.RetSRefIdeal.sig) → Buf (Elt Ideal) ℓ) (g' : Dev Cert.RetSRefIdeal.nD → PrngReg), Pre_RetSIdeal m →
    (∀ c : Dev Cert.RetSIdeal.nD,
      m' ((c.tc : Thread Cert.RetSRefIdeal.nD Cert.RetSRefIdeal.τ).loc Cert.RetSRefIdeal.main_arg0) = m ((c.tc : Thread Cert.RetSIdeal.nD Cert.RetSIdeal.τ).loc Cert.RetSIdeal.main_arg0)
      ∧ m' ((c.tc : Thread Cert.RetSRefIdeal.nD Cert.RetSRefIdeal.τ).loc Cert.RetSRefIdeal.main_arg1) = m ((c.tc : Thread Cert.RetSIdeal.nD Cert.RetSIdeal.τ).loc Cert.RetSIdeal.main_arg1)) →
    ∃ (v0 : (c : Dev Cert.RetSIdeal.nD) → Buf (Elt Ideal) ((c.tc : Thread Cert.RetSIdeal.nD Cert.RetSIdeal.τ).loc Cert.RetSIdeal.main_v68_0)) (v1 : (c : Dev Cert.RetSIdeal.nD) → Buf (Elt Ideal) ((c.tc : Thread Cert.RetSIdeal.nD Cert.RetSIdeal.τ).loc Cert.RetSIdeal.main_v68_1)),
      θ_run (Cert.RetSIdeal.defs (F := Ideal)) (onTc (τ := Cert.RetSIdeal.τ) (Cert.RetSIdeal.main (F := Ideal))) ⟨m, fun _ => 0, g⟩ (fun r => ∀ c : Dev Cert.RetSIdeal.nD,
          r.2.mem ((c.tc : Thread Cert.RetSIdeal.nD Cert.RetSIdeal.τ).loc Cert.RetSIdeal.main_v68_0) = v0 c
          ∧ r.2.mem ((c.tc : Thread Cert.RetSIdeal.nD Cert.RetSIdeal.τ).loc Cert.RetSIdeal.main_v68_1) = v1 c
          ∧ r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
          ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1))
      ∧ θ_run (Cert.RetSRefIdeal.defs (F := Ideal)) (onTc (τ := Cert.RetSRefIdeal.τ) (Cert.RetSRefIdeal.main (F := Ideal))) ⟨m', fun _ => 0, g'⟩ (fun r => ∀ c : Dev Cert.RetSRefIdeal.nD,
          r.2.mem ((c.tc : Thread Cert.RetSRefIdeal.nD Cert.RetSRefIdeal.τ).loc Cert.RetSRefIdeal.main_v137) = v0 c
          ∧ r.2.mem ((c.tc : Thread Cert.RetSRefIdeal.nD Cert.RetSRefIdeal.τ).loc Cert.RetSRefIdeal.main_v120_8) = v1 c
          ∧ r.2.mem ((c.tc : Thread Cert.RetSRefIdeal.nD Cert.RetSRefIdeal.τ).loc Cert.RetSRefIdeal.main_arg0) = m' ((c.tc : Thread Cert.RetSRefIdeal.nD Cert.RetSRefIdeal.τ).loc Cert.RetSRefIdeal.main_arg0)
          ∧ r.2.mem ((c.tc : Thread Cert.RetSRefIdeal.nD Cert.RetSRefIdeal.τ).loc Cert.RetSRefIdeal.main_arg1) = m' ((c.tc : Thread Cert.RetSRefIdeal.nD Cert.RetSRefIdeal.τ).loc Cert.RetSRefIdeal.main_arg1))

def Claim : Prop :=
  ∃ (hRet : Cert.Ret.Facts) (hRetIdeal : Cert.RetIdeal.Facts) (hRetRefIdeal : Cert.RetRefIdeal.Facts) (hRetIn : Cert.RetIn.Facts) (hRetInIdeal : Cert.RetInIdeal.Facts) (hRetInRefIdeal : Cert.RetInRefIdeal.Facts) (hRetOut : Cert.RetOut.Facts) (hRetOutIdeal : Cert.RetOutIdeal.Facts) (hRetOutRefIdeal : Cert.RetOutRefIdeal.Facts) (hNsaOut : Cert.NsaOut.Facts) (hNsaOutIdeal : Cert.NsaOutIdeal.Facts) (hNsaOutRefIdeal : Cert.NsaOutRefIdeal.Facts) (hPle : Cert.Ple.Facts) (hPleIdeal : Cert.PleIdeal.Facts) (hPleRefIdeal : Cert.PleRefIdeal.Facts) (hKv : Cert.Kv.Facts) (hKvIdeal : Cert.KvIdeal.Facts) (hKvRefIdeal : Cert.KvRefIdeal.Facts) (hNsaQ : Cert.NsaQ.Facts) (hNsaQIdeal : Cert.NsaQIdeal.Facts) (hNsaQRefIdeal : Cert.NsaQRefIdeal.Facts) (hPleS : Cert.PleS.Facts) (hPleSIdeal : Cert.PleSIdeal.Facts) (hPleSRefIdeal : Cert.PleSRefIdeal.Facts) (hKvS : Cert.KvS.Facts) (hKvSIdeal : Cert.KvSIdeal.Facts) (hKvSRefIdeal : Cert.KvSRefIdeal.Facts) (hRetS : Cert.RetS.Facts) (hRetSIdeal : Cert.RetSIdeal.Facts) (hRetSRefIdeal : Cert.RetSRefIdeal.Facts),
    quiescent_Ret (hRet := hRet)
    ∧ quiescent_RetIdeal (hRetIdeal := hRetIdeal)
    ∧ quiescent_RetRefIdeal (hRetRefIdeal := hRetRefIdeal)
    ∧ quiescent_RetIn (hRetIn := hRetIn)
    ∧ quiescent_RetInIdeal (hRetInIdeal := hRetInIdeal)
    ∧ quiescent_RetInRefIdeal (hRetInRefIdeal := hRetInRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_NsaOut (hNsaOut := hNsaOut)
    ∧ quiescent_NsaOutIdeal (hNsaOutIdeal := hNsaOutIdeal)
    ∧ quiescent_NsaOutRefIdeal (hNsaOutRefIdeal := hNsaOutRefIdeal)
    ∧ quiescent_Ple (hPle := hPle)
    ∧ quiescent_PleIdeal (hPleIdeal := hPleIdeal)
    ∧ quiescent_PleRefIdeal (hPleRefIdeal := hPleRefIdeal)
    ∧ quiescent_Kv (hKv := hKv)
    ∧ quiescent_KvIdeal (hKvIdeal := hKvIdeal)
    ∧ quiescent_KvRefIdeal (hKvRefIdeal := hKvRefIdeal)
    ∧ quiescent_NsaQ (hNsaQ := hNsaQ)
    ∧ quiescent_NsaQIdeal (hNsaQIdeal := hNsaQIdeal)
    ∧ quiescent_NsaQRefIdeal (hNsaQRefIdeal := hNsaQRefIdeal)
    ∧ quiescent_PleS (hPleS := hPleS)
    ∧ quiescent_PleSIdeal (hPleSIdeal := hPleSIdeal)
    ∧ quiescent_PleSRefIdeal (hPleSRefIdeal := hPleSRefIdeal)
    ∧ quiescent_KvS (hKvS := hKvS)
    ∧ quiescent_KvSIdeal (hKvSIdeal := hKvSIdeal)
    ∧ quiescent_KvSRefIdeal (hKvSRefIdeal := hKvSRefIdeal)
    ∧ quiescent_RetS (hRetS := hRetS)
    ∧ quiescent_RetSIdeal (hRetSIdeal := hRetSIdeal)
    ∧ quiescent_RetSRefIdeal (hRetSRefIdeal := hRetSRefIdeal)
    ∧ preserves_Ret_RetIdeal
    ∧ algebraic_RetIdeal_RetRefIdeal (hRetIdeal := hRetIdeal) (hRetRefIdeal := hRetRefIdeal)
    ∧ preserves_RetIn_RetInIdeal
    ∧ algebraic_RetInIdeal_RetInRefIdeal (hRetInIdeal := hRetInIdeal) (hRetInRefIdeal := hRetInRefIdeal)
    ∧ preserves_RetOut_RetOutIdeal
    ∧ algebraic_RetOutIdeal_RetOutRefIdeal (hRetOutIdeal := hRetOutIdeal) (hRetOutRefIdeal := hRetOutRefIdeal)
    ∧ preserves_NsaOut_NsaOutIdeal
    ∧ algebraic_NsaOutIdeal_NsaOutRefIdeal (hNsaOutIdeal := hNsaOutIdeal) (hNsaOutRefIdeal := hNsaOutRefIdeal)
    ∧ preserves_Ple_PleIdeal
    ∧ algebraic_PleIdeal_PleRefIdeal (hPleIdeal := hPleIdeal) (hPleRefIdeal := hPleRefIdeal)
    ∧ preserves_Kv_KvIdeal
    ∧ algebraic_KvIdeal_KvRefIdeal (hKvIdeal := hKvIdeal) (hKvRefIdeal := hKvRefIdeal)
    ∧ preserves_NsaQ_NsaQIdeal
    ∧ algebraic_NsaQIdeal_NsaQRefIdeal (hNsaQIdeal := hNsaQIdeal) (hNsaQRefIdeal := hNsaQRefIdeal)
    ∧ preserves_PleS_PleSIdeal
    ∧ algebraic_PleSIdeal_PleSRefIdeal (hPleSIdeal := hPleSIdeal) (hPleSRefIdeal := hPleSRefIdeal)
    ∧ preserves_KvS_KvSIdeal
    ∧ algebraic_KvSIdeal_KvSRefIdeal (hKvSIdeal := hKvSIdeal) (hKvSRefIdeal := hKvSRefIdeal)
    ∧ preserves_RetS_RetSIdeal
    ∧ algebraic_RetSIdeal_RetSRefIdeal (hRetSIdeal := hRetSIdeal) (hRetSRefIdeal := hRetSRefIdeal)
-- ==== Ret.lean ====
abbrev S4x2048x24576 : Shape := ⟨3, ![4, 2048, 24576]⟩
abbrev S2048 : Shape := ⟨1, ![2048]⟩
abbrev S16 : Shape := ⟨1, ![16]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S16x1x1 : Shape := ⟨3, ![16, 1, 1]⟩
abbrev S16x128x128 : Shape := ⟨3, ![16, 128, 128]⟩
abbrev S16x1 : Shape := ⟨2, ![16, 1]⟩
abbrev S16x128 : Shape := ⟨2, ![16, 128]⟩
abbrev S16x128x1 : Shape := ⟨3, ![16, 128, 1]⟩
abbrev S2048x1 : Shape := ⟨2, ![2048, 1]⟩
abbrev S2048x128 : Shape := ⟨2, ![2048, 128]⟩
abbrev S4x2048x8192 : Shape := ⟨3, ![4, 2048, 8192]⟩
abbrev S4x16x256x512 : Shape := ⟨4, ![4, 16, 256, 512]⟩
abbrev S1x128x1024 : Shape := ⟨3, ![1, 128, 1024]⟩
abbrev S1x128x2048 : Shape := ⟨3, ![1, 128, 2048]⟩
abbrev S4x128x128 : Shape := ⟨3, ![4, 128, 128]⟩
abbrev S4x128x1 : Shape := ⟨3, ![4, 128, 1]⟩
abbrev S4x1x1 : Shape := ⟨3, ![4, 1, 1]⟩
abbrev S1x4x256x512 : Shape := ⟨4, ![1, 4, 256, 512]⟩
abbrev S4x256x512 : Shape := ⟨3, ![4, 256, 512]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩
abbrev S1x128x1 : Shape := ⟨3, ![1, 128, 1]⟩
abbrev S256x128 : Shape := ⟨2, ![256, 128]⟩
abbrev S1x1x1 : Shape := ⟨3, ![1, 1, 1]⟩
abbrev S1x1 : Shape := ⟨2, ![1, 1]⟩

abbrev nBuf : Space → Nat
  | .hbm => 92
  | .vmem => 25
  | .smem => 0
  | _ => 0

abbrev bufTy : (tb : Table) → Fin (tcTables nBuf tb) → BufTy
  | .hbm, ⟨0, _⟩ => ⟨S4x2048x24576, .f32⟩
  | .hbm, ⟨1, _⟩ => ⟨S2048, .i32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S128, .f32⟩
  | .hbm, ⟨12, _⟩ => ⟨S128x1, .f32⟩
  | .hbm, ⟨13, _⟩ => ⟨S1x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .i1⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S1x128x128, .f32⟩
  | .hbm, ⟨24, _⟩ => ⟨S16x1x1, .f32⟩
  | .hbm, ⟨25, _⟩ => ⟨S16x128x128, .f32⟩
  | .hbm, ⟨26, _⟩ => ⟨S16x128x128, .f32⟩
  | .hbm, ⟨27, _⟩ => ⟨S16x128x128, .f32⟩
  | .hbm, ⟨28, _⟩ => ⟨S16x128x128, .f32⟩
  | .hbm, ⟨29, _⟩ => ⟨S_, .f32⟩
  | .hbm, ⟨30, _⟩ => ⟨S_, .f32⟩
  | .hbm, ⟨31, _⟩ => ⟨S16x128x128, .i1⟩
  | .hbm, ⟨32, _⟩ => ⟨S16x128x128, .f32⟩
  | .hbm, ⟨33, _⟩ => ⟨S16x128x128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S16x1, .f32⟩
  | .hbm, ⟨39, _⟩ => ⟨S16x128, .f32⟩
  | .hbm, ⟨40, _⟩ => ⟨S16x128, .f32⟩
  | .hbm, ⟨41, _⟩ => ⟨S16x128, .f32⟩
  | .hbm, ⟨42, _⟩ => ⟨S16x128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S16x1, .f32⟩
  | .hbm, ⟨48, _⟩ => ⟨S16x128, .f32⟩
  | .hbm, ⟨49, _⟩ => ⟨S16x128, .f32⟩
  | .hbm, ⟨50, _⟩ => ⟨S16x128, .f32⟩
  | .hbm, ⟨51, _⟩ => ⟨S16x128, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S_, .i32⟩
  | .hbm, ⟨57, _⟩ => ⟨S_, .f32⟩
  | .hbm, ⟨58, _⟩ => ⟨S16x128x128, .f32⟩
  | .hbm, ⟨59, _⟩ => ⟨S_, .i32⟩
  | .hbm, ⟨60, _⟩ => ⟨S_, .f32⟩
  | .hbm, ⟨61, _⟩ => ⟨S16x128, .f32⟩
  | .hbm, ⟨62, _⟩ => ⟨S16x128x1, .f32⟩
  | .hbm, ⟨63, _⟩ => ⟨S_, .i32⟩
  | .hbm, ⟨64, _⟩ => ⟨S_, .f32⟩
  | .hbm, ⟨65, _⟩ => ⟨S16x128, .f32⟩
  | .hbm, ⟨66, _⟩ => ⟨S16x128x1, .f32⟩
  | .hbm, ⟨67, _⟩ => ⟨S16x1x1, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S2048, .f32⟩
  | .hbm, ⟨77, _⟩ => ⟨S2048x1, .f32⟩
  | .hbm, ⟨78, _⟩ => ⟨S1x128, .f32⟩
  | .hbm, ⟨79, _⟩ => ⟨S2048x128, .f32⟩
  | .hbm, ⟨80, _⟩ => ⟨S2048x128, .f32⟩
  | .hbm, ⟨81, _⟩ => ⟨S2048x128, .f32⟩
  | .hbm, ⟨82, _⟩ => ⟨S2048x128, .f32⟩
  | .hbm, ⟨83, _⟩ => ⟨S_, .i32⟩
  | .hbm, ⟨84, _⟩ => ⟨S_, .f32⟩
  | .hbm, ⟨85, _⟩ => ⟨S2048x128, .f32⟩
  | .hbm, ⟨86, _⟩ => ⟨S2048x128, .f32⟩
  | .hbm, ⟨87, _⟩ => ⟨S_, .i32⟩
  | .hbm, ⟨88, _⟩ => ⟨S_, .f32⟩
  | .hbm, ⟨89, _⟩ => ⟨S2048x128, .f32⟩
  | .hbm, ⟨90, _⟩ => ⟨S4x2048x8192, .bf16⟩
  | .hbm, ⟨91, _⟩ => ⟨S4x16x256x512, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S4x128x128, .f32⟩
  | .local _ .vmem, ⟨13, _⟩ => ⟨S4x128x128, .f32⟩
  | .local _ .vmem, ⟨14, _⟩ => ⟨S4x128x1, .f32⟩
  | .local _ .vmem, ⟨15, _⟩ => ⟨S4x128x1, .f32⟩
  | .local _ .vmem, ⟨16, _⟩ => ⟨S4x128x1, .f32⟩
  | .local _ .vmem, ⟨17, _⟩ => ⟨S4x128x1, .f32⟩
  | .local _ .vmem, ⟨18, _⟩ => ⟨S4x1x1, .f32⟩
  | .local _ .vmem, ⟨19, _⟩ => ⟨S4x1x1, .f32⟩
  | .local _ .vmem, ⟨20, _⟩ => ⟨S1x128x2048, .bf16⟩
  | .local _ .vmem, ⟨21, _⟩ => ⟨S1x128x2048, .bf16⟩
  | .local _ .vmem, ⟨22, _⟩ => ⟨S1x4x256x512, .f32⟩
  | .local _ .vmem, ⟨23, _⟩ => ⟨S1x4x256x512, .f32⟩
  | .local _ .vmem, ⟨24, _⟩ => ⟨S4x256x512, .f32⟩
  | _, _ => ⟨S4x2048x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_call1_v0 : Ref sig .tc := ⟨.hbm, 57, rfl⟩
abbrev main_v44 : Ref sig .tc := ⟨.hbm, 58, rfl⟩
abbrev main_c_7 : Ref sig .tc := ⟨.hbm, 59, rfl⟩
abbrev main_call2_v0 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_call3_v0 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_11 : Ref sig .tc := ⟨.hbm, 83, rfl⟩
abbrev main_call4_v0 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_call5_v0 : Ref sig .tc := ⟨.hbm, 88, rfl⟩
abbrev main_v65 : Ref sig .tc := ⟨.hbm, 89, rfl⟩
abbrev main_v66_0 : Ref sig .tc := ⟨.hbm, 90, rfl⟩
abbrev main_v66_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v323 : BitVec 1 := Scalar.cmpi .eq arg2 c15_i32
  let v324 : BitVec 32 := Scalar.extui v323
  let c0_i32_159 : BitVec 32 := 0#32
  let v325 : BitVec 1 := Scalar.cmpi .ne v324 c0_i32_159
  v325

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S4x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S4x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S4x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x4x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== RetRefIdeal.lean ====
abbrev S4x2048x24576 : Shape := ⟨3, ![4, 2048, 24576]⟩
abbrev S2048 : Shape := ⟨1, ![2048]⟩
abbrev S_ : Shape := ⟨0, ![]⟩
abbrev S4x16x256x512 : Shape := ⟨4, ![4, 16, 256, 512]⟩
abbrev S4x2048x16384 : Shape := ⟨3, ![4, 2048, 16384]⟩
abbrev S4x2048x4096 : Shape := ⟨3, ![4, 2048, 4096]⟩
abbrev S4x2048x8192 : Shape := ⟨3, ![4, 2048, 8192]⟩
abbrev S4x2048x16x256 : Shape := ⟨4, ![4, 2048, 16, 256]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S4x2048x16x128 : Shape := ⟨4, ![4, 2048, 16, 128]⟩
abbrev S4x2048x16x512 : Shape := ⟨4, ![4, 2048, 16, 512]⟩
abbrev S16 : Shape := ⟨1, ![16]⟩
abbrev S128x1 : Shape := ⟨2, ![128, 1]⟩
abbrev S128x128 : Shape := ⟨2, ![128, 128]⟩
abbrev S1x128x128 : Shape := ⟨3, ![1, 128, 128]⟩
abbrev S16x1x1 : Shape := ⟨3, ![16, 1, 1]⟩
abbrev S16x128x128 : Shape := ⟨3, ![16, 128, 128]⟩
abbrev S16x1 : Shape := ⟨2, ![16, 1]⟩
abbrev S16x128 : Shape := ⟨2, ![16, 128]⟩
abbrev S4x16x128x16x256 : Shape := ⟨5, ![4, 16, 128, 16, 256]⟩
abbrev S16x4x16x128x256 : Shape := ⟨5, ![16, 4, 16, 128, 256]⟩
abbrev S4x16x128x16x512 : Shape := ⟨5, ![4, 16, 128, 16, 512]⟩
abbrev S16x4x16x128x512 : Shape := ⟨5, ![16, 4, 16, 128, 512]⟩
abbrev S1x4x16x128x256 : Shape := ⟨5, ![1, 4, 16, 128, 256]⟩
abbrev S4x16x128x256 : Shape := ⟨4, ![4, 16, 128, 256]⟩
abbrev S1x4x16x128x512 : Shape := ⟨5, ![1, 4, 16, 128, 512]⟩
abbrev S4x16x128x512 : Shape := ⟨4, ![4, 16, 128, 512]⟩
abbrev S4x16x128x128 : Shape := ⟨4, ![4, 16, 128, 128]⟩
abbrev S1x16x128x128 : Shape := ⟨4, ![1, 16, 128, 128]⟩
abbrev S16x128x1 : Shape := ⟨3, ![16, 128, 1]⟩
abbrev S1x16x128x1 : Shape := ⟨4, ![1, 16, 128, 1]⟩
abbrev S1x16x1x1 : Shape := ⟨4, ![1, 16, 1, 1]⟩
abbrev S4x2048x16 : Shape := ⟨3, ![4, 2048, 16]⟩
abbrev S4x2048x16x1 : Shape := ⟨4, ![4, 2048, 16, 1]⟩

abbrev nBuf : Space → Nat
  | .hbm => 226
  | .vmem => 0
  | .smem => 0
  | _ => 0

abbrev hbmTy0_0 (i : Nat) : BufTy := match i % 128 with
  | 0 => ⟨S4x2048x24576, .f32⟩
  | 1 => ⟨S2048, .i32⟩
  | 2 => ⟨S_, .f32⟩
  | 3 => ⟨S4x16x256x512, .f32⟩
  | 4 => ⟨S4x2048x16384, .f32⟩
  | 5 => ⟨S4x2048x4096, .f32⟩
  | 6 => ⟨S4x2048x4096, .f32⟩
  | 7 => ⟨S4x2048x8192, .f32⟩
  | 8 => ⟨S4x2048x16x256, .f32⟩
  | 9 => ⟨S128, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S2048, .f32⟩
  | 18 => ⟨S2048x1, .f32⟩
  | 19 => ⟨S1x128, .f32⟩
  | 20 => ⟨S2048x128, .f32⟩
  | 21 => ⟨S2048x128, .f32⟩
  | 22 => ⟨S2048x128, .f32⟩
  | 23 => ⟨S2048x128, .f32⟩
  | 24 => ⟨S1x2048x1x128, .f32⟩
  | 25 => ⟨S2048x128, .f32⟩
  | 26 => ⟨S1x2048x1x128, .f32⟩
  | 27 => ⟨S4x2048x16x128, .f32⟩
  | 28 => ⟨S4x2048x16x128, .f32⟩
  | 29 => ⟨S4x2048x16x128, .f32⟩
  | 30 => ⟨S4x2048x16x128, .f32⟩
  | 31 => ⟨S4x2048x16x128, .f32⟩
  | 32 => ⟨S4x2048x16x128, .f32⟩
  | 33 => ⟨S4x2048x16x128, .f32⟩
  | 34 => ⟨S4x2048x16x128, .f32⟩
  | 35 => ⟨S4x2048x16x128, .f32⟩
  | 36 => ⟨S4x2048x16x128, .f32⟩
  | 37 => ⟨S4x2048x16x128, .f32⟩
  | 38 => ⟨S4x2048x16x128, .f32⟩
  | 39 => ⟨S4x2048x16x256, .f32⟩
  | 40 => ⟨S4x2048x16x256, .f32⟩
  | 41 => ⟨S128, .f32⟩
  | 42 => ⟨S128, .f32⟩
  | 43 => ⟨S_, .f32⟩
  | 44 => ⟨S128, .f32⟩
  | 45 => ⟨S128, .f32⟩
  | 46 => ⟨S_, .f32⟩
  | 47 => ⟨S128, .f32⟩
  | 48 => ⟨S128, .f32⟩
  | 49 => ⟨S2048, .f32⟩
  | 50 => ⟨S2048x1, .f32⟩
  | 51 => ⟨S1x128, .f32⟩
  | 52 => ⟨S2048x128, .f32⟩
  | 53 => ⟨S2048x128, .f32⟩
  | 54 => ⟨S2048x128, .f32⟩
  | 55 => ⟨S2048x128, .f32⟩
  | 56 => ⟨S1x2048x1x128, .f32⟩
  | 57 => ⟨S2048x128, .f32⟩
  | 58 => ⟨S1x2048x1x128, .f32⟩
  | 59 => ⟨S4x2048x16x128, .f32⟩
  | 60 => ⟨S4x2048x16x128, .f32⟩
  | 61 => ⟨S4x2048x16x128, .f32⟩
  | 62 => ⟨S4x2048x16x128, .f32⟩
  | 63 => ⟨S4x2048x16x128, .f32⟩
  | 64 => ⟨S4x2048x16x128, .f32⟩
  | 65 => ⟨S4x2048x16x128, .f32⟩
  | 66 => ⟨S4x2048x16x128, .f32⟩
  | 67 => ⟨S4x2048x16x128, .f32⟩
  | 68 => ⟨S4x2048x16x128, .f32⟩
  | 69 => ⟨S4x2048x16x128, .f32⟩
  | 70 => ⟨S4x2048x16x128, .f32⟩
  | 71 => ⟨S4x2048x16x256, .f32⟩
  | 72 => ⟨S_, .f32⟩
  | 73 => ⟨S4x2048x16x256, .f32⟩
  | 74 => ⟨S4x2048x16x256, .f32⟩
  | 75 => ⟨S4x2048x16x512, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S16, .f32⟩
  | 84 => ⟨S16, .f32⟩
  | 85 => ⟨S128, .f32⟩
  | 86 => ⟨S128x1, .f32⟩
  | 87 => ⟨S1x128, .f32⟩
  | 88 => ⟨S128x128, .f32⟩
  | 89 => ⟨S128x128, .f32⟩
  | 90 => ⟨S128x128, .f32⟩
  | 91 => ⟨S_, .f32⟩
  | 92 => ⟨S128x128, .f32⟩
  | 93 => ⟨S128x128, .i1⟩
  | 94 => ⟨S_, .f32⟩
  | 95 => ⟨S128x128, .f32⟩
  | 96 => ⟨S128x128, .f32⟩
  | 97 => ⟨S1x128x128, .f32⟩
  | 98 => ⟨S16x1x1, .f32⟩
  | 99 => ⟨S16x128x128, .f32⟩
  | 100 => ⟨S16x128x128, .f32⟩
  | 101 => ⟨S16x128x128, .f32⟩
  | 102 => ⟨S16x128x128, .f32⟩
  | 103 => ⟨S_, .f32⟩
  | 104 => ⟨S_, .f32⟩
  | 105 => ⟨S16x128x128, .i1⟩
  | 106 => ⟨S16x128x128, .f32⟩
  | 107 => ⟨S16x128x128, .f32⟩
  | 108 => ⟨S_, .f32⟩
  | 109 => ⟨S128, .f32⟩
  | 110 => ⟨S128, .f32⟩
  | 111 => ⟨S1x128, .f32⟩
  | 112 => ⟨S16x1, .f32⟩
  | 113 => ⟨S16x128, .f32⟩
  | 114 => ⟨S16x128, .f32⟩
  | 115 => ⟨S16x128, .f32⟩
  | 116 => ⟨S16x128, .f32⟩
  | 117 => ⟨S_, .f32⟩
  | 118 => ⟨S128, .f32⟩
  | 119 => ⟨S128, .f32⟩
  | 120 => ⟨S1x128, .f32⟩
  | 121 => ⟨S16x1, .f32⟩
  | 122 => ⟨S16x128, .f32⟩
  | 123 => ⟨S16x128, .f32⟩
  | 124 => ⟨S16x128, .f32⟩
  | 125 => ⟨S16x128, .f32⟩
  | 126 => ⟨S_, .f32⟩
  | 127 => ⟨S16, .f32⟩
  | _ => ⟨S4x2048x24576, .f32⟩

abbrev hbmTy0_1 (i : Nat) : BufTy := match i % 128 with
  | 0 => ⟨S16, .f32⟩
  | 1 => ⟨S16, .f32⟩
  | 2 => ⟨S4x16x128x16x256, .f32⟩
  | 3 => ⟨S16x4x16x128x256, .f32⟩
  | 4 => ⟨S4x16x128x16x256, .f32⟩
  | 5 => ⟨S16x4x16x128x256, .f32⟩
  | 6 => ⟨S4x16x128x16x512, .f32⟩
  | 7 => ⟨S16x4x16x128x512, .f32⟩
  | 8 => ⟨S_, .f32⟩
  | 9 => ⟨S16x4x16x128x512, .f32⟩
  | 10 => ⟨S_, .i32⟩
  | 11 => ⟨S16x4x16x128x256, .f32⟩
  | 12 => ⟨S16x4x16x128x256, .f32⟩
  | 13 => ⟨S16x4x16x128x512, .f32⟩
  | 14 => ⟨S16x128x128, .f32⟩
  | 15 => ⟨S16x128, .f32⟩
  | 16 => ⟨S16, .f32⟩
  | 17 => ⟨S16x128, .f32⟩
  | 18 => ⟨S_, .i32⟩
  | 19 => ⟨S4x16x256x512, .f32⟩
  | 20 => ⟨S16x4x16x128x512, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1x4x16x128x256, .f32⟩
  | 28 => ⟨S4x16x128x256, .f32⟩
  | 29 => ⟨S_, .i32⟩
  | 30 => ⟨S_, .i32⟩
  | 31 => ⟨S_, .i32⟩
  | 32 => ⟨S_, .i32⟩
  | 33 => ⟨S1x4x16x128x256, .f32⟩
  | 34 => ⟨S4x16x128x256, .f32⟩
  | 35 => ⟨S_, .i32⟩
  | 36 => ⟨S_, .i32⟩
  | 37 => ⟨S_, .i32⟩
  | 38 => ⟨S_, .i32⟩
  | 39 => ⟨S1x4x16x128x512, .f32⟩
  | 40 => ⟨S4x16x128x512, .f32⟩
  | 41 => ⟨S4x16x128x128, .f32⟩
  | 42 => ⟨S1x16x128x128, .f32⟩
  | 43 => ⟨S4x16x128x128, .f32⟩
  | 44 => ⟨S4x16x128x128, .f32⟩
  | 45 => ⟨S4x16x128x512, .f32⟩
  | 46 => ⟨S16x128x1, .f32⟩
  | 47 => ⟨S1x16x128x1, .f32⟩
  | 48 => ⟨S4x16x128x256, .f32⟩
  | 49 => ⟨S4x16x128x256, .f32⟩
  | 50 => ⟨S4x16x128x512, .f32⟩
  | 51 => ⟨S4x16x128x512, .f32⟩
  | 52 => ⟨S16x1x1, .f32⟩
  | 53 => ⟨S1x16x1x1, .f32⟩
  | 54 => ⟨S4x16x256x512, .f32⟩
  | 55 => ⟨S4x16x256x512, .f32⟩
  | 56 => ⟨S16x128x1, .f32⟩
  | 57 => ⟨S1x16x128x1, .f32⟩
  | 58 => ⟨S4x16x128x256, .f32⟩
  | 59 => ⟨S4x16x128x256, .f32⟩
  | 60 => ⟨S4x16x256x512, .f32⟩
  | 61 => ⟨S4x16x256x512, .f32⟩
  | 62 => ⟨S1x4x16x128x512, .f32⟩
  | 63 => ⟨S_, .i32⟩
  | 64 => ⟨S_, .i32⟩
  | 65 => ⟨S_, .i32⟩
  | 66 => ⟨S_, .i32⟩
  | 67 => ⟨S16x4x16x128x512, .f32⟩
  | 68 => ⟨S_, .i32⟩
  | 69 => ⟨S_, .i32⟩
  | 70 => ⟨S4x16x128x16x512, .f32⟩
  | 71 => ⟨S4x2048x16x512, .f32⟩
  | 72 => ⟨S4x2048x16x512, .f32⟩
  | 73 => ⟨S_, .f32⟩
  | 74 => ⟨S4x2048x16, .f32⟩
  | 75 => ⟨S4x2048x16x1, .f32⟩
  | 76 => ⟨S_, .f32⟩
  | 77 => ⟨S4x2048x16x1, .f32⟩
  | 78 => ⟨S4x2048x16x1, .f32⟩
  | 79 => ⟨S_, .f32⟩
  | 80 => ⟨S4x2048x16x1, .f32⟩
  | 81 => ⟨S4x2048x16x1, .f32⟩
  | 82 => ⟨S4x2048x16x1, .f32⟩
  | 83 => ⟨S4x2048x16x512, .f32⟩
  | 84 => ⟨S4x2048x16x512, .f32⟩
  | 85 => ⟨S4x2048x8192, .f32⟩
  | 86 => ⟨S4x2048x8192, .f32⟩
  | 87 => ⟨S4x2048x8192, .f32⟩
  | 88 => ⟨S4x2048x8192, .f32⟩
  | 89 => ⟨S_, .f32⟩
  | 90 => ⟨S4x2048x8192, .f32⟩
  | 91 => ⟨S4x2048x8192, .f32⟩
  | 92 => ⟨S_, .f32⟩
  | 93 => ⟨S4x2048x8192, .f32⟩
  | 94 => ⟨S4x2048x8192, .f32⟩
  | 95 => ⟨S4x2048x8192, .f32⟩
  | 96 => ⟨S4x2048x8192, .f32⟩
  | 97 => ⟨S4x2048x8192, .bf16⟩
  | _ => ⟨S4x2048x24576, .f32⟩

abbrev hbmTy (i : Nat) : BufTy := match i / 128 with
  | 0 => hbmTy0_0 i
  | 1 => hbmTy0_1 i
  | _ => ⟨S4x2048x24576, .f32⟩

abbrev bufTy : (tb : Table) → Fin (tcTables nBuf tb) → BufTy
  | .hbm, ⟨i, _⟩ => hbmTy i
  | _, _ => ⟨S4x2048x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_2 : Ref sig .tc := ⟨.hbm, 43, rfl⟩
abbrev main_v39 : Ref sig .tc := ⟨.hbm, 44, rfl⟩
abbrev main_v40 : Ref sig .tc := ⟨.hbm, 45, rfl⟩
abbrev main_cst_3 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_cst_4 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_5 : Ref sig .tc := ⟨.hbm, 77, rfl⟩
abbrev main_v70 : Ref sig .tc := ⟨.hbm, 78, rfl⟩
abbrev main_v71 : Ref sig .tc := ⟨.hbm, 79, rfl⟩
abbrev main_cst_6 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_cst_7 : Ref sig .tc := ⟨.hbm, 91, rfl⟩
abbrev main_v82 : Ref sig .tc := ⟨.hbm, 92, rfl⟩
abbrev main_v83 : Ref sig .tc := ⟨.hbm, 93, rfl⟩
abbrev main_cst_8 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_cst_9 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_v92 : Ref sig .tc := ⟨.hbm, 107, rfl⟩
abbrev main_cst_10 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_cst_11 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_12 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_13 : Ref sig .tc := ⟨.hbm, 136, rfl⟩
abbrev main_v118 : Ref sig .tc := ⟨.hbm, 137, rfl⟩
abbrev main_c : Ref sig .tc := ⟨.hbm, 138, rfl⟩
abbrev main_v119_0 : Ref sig .tc := ⟨.hbm, 139, rfl⟩
abbrev main_v119_1 : Ref sig .tc := ⟨.hbm, 140, rfl⟩
abbrev main_v119_2 : Ref sig .tc := ⟨.hbm, 141, rfl⟩
abbrev main_v119_3 : Ref sig .tc := ⟨.hbm, 142, rfl⟩
abbrev main_v119_4 : Ref sig .tc := ⟨.hbm, 143, rfl⟩
abbrev main_v119_5 : Ref sig .tc := ⟨.hbm, 144, rfl⟩
abbrev main_v119_6 : Ref sig .tc := ⟨.hbm, 145, rfl⟩
abbrev main_v119_7 : Ref sig .tc := ⟨.hbm, 146, rfl⟩
abbrev main_v119_8 : Ref sig .tc := ⟨.hbm, 147, rfl⟩
abbrev main_v119_9 : Ref sig .tc := ⟨.hbm, 148, rfl⟩
abbrev main_while0c_c_26 : Ref sig .tc := ⟨.hbm, 149, rfl⟩
abbrev main_while0c_v137 : Ref sig .tc := ⟨.hbm, 150, rfl⟩
abbrev main_while0b_call1_c : Ref sig .tc := ⟨.hbm, 151, rfl⟩
abbrev main_while0b_call1_c_0 : Ref sig .tc := ⟨.hbm, 152, rfl⟩
abbrev main_while0b_call1_c_1 : Ref sig .tc := ⟨.hbm, 153, rfl⟩
abbrev main_while0b_call1_c_2 : Ref sig .tc := ⟨.hbm, 154, rfl⟩
abbrev main_while0b_call1_v0 : Ref sig .tc := ⟨.hbm, 155, rfl⟩
abbrev main_while0b_v137 : Ref sig .tc := ⟨.hbm, 156, rfl⟩
abbrev main_while0b_call2_c : Ref sig .tc := ⟨.hbm, 157, rfl⟩
abbrev main_while0b_call2_c_0 : Ref sig .tc := ⟨.hbm, 158, rfl⟩
abbrev main_while0b_call2_c_1 : Ref sig .tc := ⟨.hbm, 159, rfl⟩
abbrev main_while0b_call2_c_2 : Ref sig .tc := ⟨.hbm, 160, rfl⟩
abbrev main_while0b_call2_v0 : Ref sig .tc := ⟨.hbm, 161, rfl⟩
abbrev main_while0b_v138 : Ref sig .tc := ⟨.hbm, 162, rfl⟩
abbrev main_while0b_call3_c : Ref sig .tc := ⟨.hbm, 163, rfl⟩
abbrev main_while0b_call3_c_0 : Ref sig .tc := ⟨.hbm, 164, rfl⟩
abbrev main_while0b_call3_c_1 : Ref sig .tc := ⟨.hbm, 165, rfl⟩
abbrev main_while0b_call3_c_2 : Ref sig .tc := ⟨.hbm, 166, rfl⟩
abbrev main_while0b_call3_v0 : Ref sig .tc := ⟨.hbm, 167, rfl⟩
abbrev main_while0b_v139 : Ref sig .tc := ⟨.hbm, 168, rfl⟩
abbrev main_while0b_v140 : Ref sig .tc := ⟨.hbm, 169, rfl⟩
abbrev main_while0b_v141 : Ref sig .tc := ⟨.hbm, 170, rfl⟩
abbrev main_while0b_v142 : Ref sig .tc := ⟨.hbm, 171, rfl⟩
abbrev main_while0b_v143 : Ref sig .tc := ⟨.hbm, 172, rfl⟩
abbrev main_while0b_v144 : Ref sig .tc := ⟨.hbm, 173, rfl⟩
abbrev main_while0b_v145 : Ref sig .tc := ⟨.hbm, 174, rfl⟩
abbrev main_while0b_v146 : Ref sig .tc := ⟨.hbm, 175, rfl⟩
abbrev main_while0b_v147 : Ref sig .tc := ⟨.hbm, 176, rfl⟩
abbrev main_while0b_v148 : Ref sig .tc := ⟨.hbm, 177, rfl⟩
abbrev main_while0b_v149 : Ref sig .tc := ⟨.hbm, 178, rfl⟩
abbrev main_while0b_v150 : Ref sig .tc := ⟨.hbm, 179, rfl⟩
abbrev main_while0b_v151 : Ref sig .tc := ⟨.hbm, 180, rfl⟩
abbrev main_while0b_v152 : Ref sig .tc := ⟨.hbm, 181, rfl⟩
abbrev main_while0b_v153 : Ref sig .tc := ⟨.hbm, 182, rfl⟩
abbrev main_while0b_v154 : Ref sig .tc := ⟨.hbm, 183, rfl⟩
abbrev main_while0b_v155 : Ref sig .tc := ⟨.hbm, 184, rfl⟩
abbrev main_while0b_v156 : Ref sig .tc := ⟨.hbm, 185, rfl⟩
abbrev main_while0b_v157 : Ref sig .tc := ⟨.hbm, 186, rfl⟩
abbrev main_while0b_v158 : Ref sig .tc := ⟨.hbm, 187, rfl⟩
abbrev main_while0b_v159 : Ref sig .tc := ⟨.hbm, 188, rfl⟩
abbrev main_while0b_v160 : Ref sig .tc := ⟨.hbm, 189, rfl⟩
abbrev main_while0b_call4_v0 : Ref sig .tc := ⟨.hbm, 190, rfl⟩
abbrev main_while0b_call4_c : Ref sig .tc := ⟨.hbm, 191, rfl⟩
abbrev main_while0b_call4_c_0 : Ref sig .tc := ⟨.hbm, 192, rfl⟩
abbrev main_while0b_call4_c_1 : Ref sig .tc := ⟨.hbm, 193, rfl⟩
abbrev main_while0b_call4_c_2 : Ref sig .tc := ⟨.hbm, 194, rfl⟩
abbrev main_while0b_v161 : Ref sig .tc := ⟨.hbm, 195, rfl⟩
abbrev main_while0b_c_26 : Ref sig .tc := ⟨.hbm, 196, rfl⟩
abbrev main_while0b_v162 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_cst_14 : Ref sig .tc := ⟨.hbm, 201, rfl⟩
abbrev main_v123 : Ref sig .tc := ⟨.hbm, 202, rfl⟩
abbrev main_v124 : Ref sig .tc := ⟨.hbm, 203, rfl⟩
abbrev main_cst_15 : Ref sig .tc := ⟨.hbm, 204, rfl⟩
abbrev main_v125 : Ref sig .tc := ⟨.hbm, 205, rfl⟩
abbrev main_v126 : Ref sig .tc := ⟨.hbm, 206, rfl⟩
abbrev main_cst_16 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_call5_v0 : Ref sig .tc := ⟨.hbm, 215, rfl⟩
abbrev main_call5_v1 : Ref sig .tc := ⟨.hbm, 216, rfl⟩
abbrev main_call5_cst : Ref sig .tc := ⟨.hbm, 217, rfl⟩
abbrev main_call5_v2 : Ref sig .tc := ⟨.hbm, 218, rfl⟩
abbrev main_call5_v3 : Ref sig .tc := ⟨.hbm, 219, rfl⟩
abbrev main_call5_cst_0 : Ref sig .tc := ⟨.hbm, 220, rfl⟩
abbrev main_call5_v4 : Ref sig .tc := ⟨.hbm, 221, rfl⟩
abbrev main_call5_v5 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩

abbrev nD : Nat := 1
abbrev τ : Topo := Topo.v7x

variable {F : FTy → Type} [FloatOps F]

abbrev main_while0_count : Scf.Loop 32 := ⟨0#32, 16#32, 1#32⟩
-- ==== RetIn.lean ====
abbrev S8192x4096 : Shape := ⟨2, ![8192, 4096]⟩
abbrev S4096x24576 : Shape := ⟨2, ![4096, 24576]⟩
abbrev S8192x24576 : Shape := ⟨2, ![8192, 24576]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x24576, .f32⟩
  | .hbm, ⟨2, _⟩ => ⟨S8192x24576, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 24, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetInRefIdeal.lean ====
abbrev S8192x4096 : Shape := ⟨2, ![8192, 4096]⟩
abbrev S4096x24576 : Shape := ⟨2, ![4096, 24576]⟩
abbrev S8192x24576 : Shape := ⟨2, ![8192, 24576]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x24576, .f32⟩
  | .hbm, ⟨2, _⟩ => ⟨S8192x4096, .f32⟩
  | .hbm, ⟨3, _⟩ => ⟨S8192x24576, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RetOut.lean ====
abbrev S8192x8192 : Shape := ⟨2, ![8192, 8192]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RetOutRefIdeal.lean ====
abbrev S8192x8192 : Shape := ⟨2, ![8192, 8192]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S8192x8192, .f32⟩
  | .hbm, ⟨4, _⟩ => ⟨S8192x4096, .f32⟩
  | .hbm, ⟨5, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== NsaOut.lean ====
abbrev S8192x4096 : Shape := ⟨2, ![8192, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== NsaOutRefIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ple.lean ====
abbrev S8192x4096 : Shape := ⟨2, ![8192, 4096]⟩
abbrev S2x4096x4096 : Shape := ⟨3, ![2, 4096, 4096]⟩
abbrev S8192x256 : Shape := ⟨2, ![8192, 256]⟩
abbrev S2x256x4096 : Shape := ⟨3, ![2, 256, 4096]⟩
abbrev S2048x512 : Shape := ⟨2, ![2048, 512]⟩
abbrev S1x512x1024 : Shape := ⟨3, ![1, 512, 1024]⟩
abbrev S2048x1024 : Shape := ⟨2, ![2048, 1024]⟩
abbrev S2048x256 : Shape := ⟨2, ![2048, 256]⟩
abbrev S1x256x1024 : Shape := ⟨3, ![1, 256, 1024]⟩
abbrev S512x1024 : Shape := ⟨2, ![512, 1024]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x256, .f32⟩
  | .hbm, ⟨4, _⟩ => ⟨S2x256x4096, .f32⟩
  | .hbm, ⟨5, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1x512x1024, .f32⟩
  | .local _ .vmem, ⟨3, _⟩ => ⟨S1x512x1024, .f32⟩
  | .local _ .vmem, ⟨4, _⟩ => ⟨S2048x1024, .f32⟩
  | .local _ .vmem, ⟨5, _⟩ => ⟨S2048x1024, .f32⟩
  | .local _ .vmem, ⟨6, _⟩ => ⟨S2048x256, .f32⟩
  | .local _ .vmem, ⟨7, _⟩ => ⟨S2048x256, .f32⟩
  | .local _ .vmem, ⟨8, _⟩ => ⟨S1x256x1024, .f32⟩
  | .local _ .vmem, ⟨9, _⟩ => ⟨S1x256x1024, .f32⟩
  | .local _ .vmem, ⟨10, _⟩ => ⟨S2048x1024, .f32⟩
  | .local _ .vmem, ⟨11, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== PleIdeal.lean ====
abbrev S8192x4096 : Shape := ⟨2, ![8192, 4096]⟩
abbrev S2x4096x4096 : Shape := ⟨3, ![2, 4096, 4096]⟩
abbrev S8192x256 : Shape := ⟨2, ![8192, 256]⟩
abbrev S2x256x4096 : Shape := ⟨3, ![2, 256, 4096]⟩
abbrev S2048x512 : Shape := ⟨2, ![2048, 512]⟩
abbrev S1x512x1024 : Shape := ⟨3, ![1, 512, 1024]⟩
abbrev S2048x1024 : Shape := ⟨2, ![2048, 1024]⟩
abbrev S2048x256 : Shape := ⟨2, ![2048, 256]⟩
abbrev S1x256x1024 : Shape := ⟨3, ![1, 256, 1024]⟩
abbrev S512x1024 : Shape := ⟨2, ![512, 1024]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x256, .f32⟩
  | .hbm, ⟨4, _⟩ => ⟨S2x256x4096, .f32⟩
  | .hbm, ⟨5, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1x512x1024, .f32⟩
  | .local _ .vmem, ⟨3, _⟩ => ⟨S1x512x1024, .f32⟩
  | .local _ .vmem, ⟨4, _⟩ => ⟨S2048x1024, .f32⟩
  | .local _ .vmem, ⟨5, _⟩ => ⟨S2048x1024, .f32⟩
  | .local _ .vmem, ⟨6, _⟩ => ⟨S2048x256, .f32⟩
  | .local _ .vmem, ⟨7, _⟩ => ⟨S2048x256, .f32⟩
  | .local _ .vmem, ⟨8, _⟩ => ⟨S1x256x1024, .f32⟩
  | .local _ .vmem, ⟨9, _⟩ => ⟨S1x256x1024, .f32⟩
  | .local _ .vmem, ⟨10, _⟩ => ⟨S2048x1024, .f32⟩
  | .local _ .vmem, ⟨11, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== PleRefIdeal.lean ====
abbrev S8192x4096 : Shape := ⟨2, ![8192, 4096]⟩
abbrev S2x4096x4096 : Shape := ⟨3, ![2, 4096, 4096]⟩
abbrev S8192x256 : Shape := ⟨2, ![8192, 256]⟩
abbrev S2x256x4096 : Shape := ⟨3, ![2, 256, 4096]⟩
abbrev S1x256x4096 : Shape := ⟨3, ![1, 256, 4096]⟩
abbrev S256x4096 : Shape := ⟨2, ![256, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x256, .f32⟩
  | .hbm, ⟨4, _⟩ => ⟨S2x256x4096, .f32⟩
  | .hbm, ⟨5, _⟩ => ⟨S1x256x4096, .f32⟩
  | .hbm, ⟨6, _⟩ => ⟨S256x4096, .f32⟩
  | .hbm, ⟨7, _⟩ => ⟨S8192x4096, .f32⟩
  | .hbm, ⟨8, _⟩ => ⟨S8192x4096, .f32⟩
  | .hbm, ⟨9, _⟩ => ⟨S1x4096x4096, .f32⟩
  | .hbm, ⟨10, _⟩ => ⟨S4096x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kv.lean ====
abbrev S8192x4096 : Shape := ⟨2, ![8192, 4096]⟩
abbrev S4096x3072 : Shape := ⟨2, ![4096, 3072]⟩
abbrev S128 : Shape := ⟨1, ![128]⟩
abbrev S_ : Shape := ⟨0, ![]⟩
abbrev S512 : Shape := ⟨1, ![512]⟩
abbrev S1x128 : Shape := ⟨2, ![1, 128]⟩
abbrev S4x128 : Shape := ⟨2, ![4, 128]⟩
abbrev S3072 : Shape := ⟨1, ![3072]⟩
abbrev S1x3072 : Shape := ⟨2, ![1, 3072]⟩
abbrev S8192x3072 : Shape := ⟨2, ![8192, 3072]⟩
abbrev S2048x1024 : Shape := ⟨2, ![2048, 1024]⟩
abbrev S1024x1024 : Shape := ⟨2, ![1024, 1024]⟩
abbrev S1x1024 : Shape := ⟨2, ![1, 1024]⟩
abbrev S2048x128 : Shape := ⟨2, ![2048, 128]⟩
abbrev S2048 : Shape := ⟨1, ![2048]⟩
abbrev S2048x1 : Shape := ⟨2, ![2048, 1]⟩

abbrev nBuf : Space → Nat
  | .hbm => 19
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x3072, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S512, .f32⟩
  | .hbm, ⟨6, _⟩ => ⟨S1x128, .f32⟩
  | .hbm, ⟨7, _⟩ => ⟨S4x128, .f32⟩
  | .hbm, ⟨8, _⟩ => ⟨S512, .f32⟩
  | .hbm, ⟨9, _⟩ => ⟨S1x128, .f32⟩
  | .hbm, ⟨10, _⟩ => ⟨S4x128, .f32⟩
  | .hbm, ⟨11, _⟩ => ⟨S512, .f32⟩
  | .hbm, ⟨12, _⟩ => ⟨S3072, .f32⟩
  | .hbm, ⟨13, _⟩ => ⟨S1x3072, .f32⟩
  | .hbm, ⟨14, _⟩ => ⟨S_, .f32⟩
  | .hbm, ⟨15, _⟩ => ⟨S512, .f32⟩
  | .hbm, ⟨16, _⟩ => ⟨S3072, .f32⟩
  | .hbm, ⟨17, _⟩ => ⟨S1x3072, .f32⟩
  | .hbm, ⟨18, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 3, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KvIdeal.lean ====
abbrev S8192x4096 : Shape := ⟨2, ![8192, 4096]⟩
abbrev S4096x3072 : Shape := ⟨2, ![4096, 3072]⟩
abbrev S128 : Shape := ⟨1, ![128]⟩
abbrev S_ : Shape := ⟨0, ![]⟩
abbrev S512 : Shape := ⟨1, ![512]⟩
abbrev S1x128 : Shape := ⟨2, ![1, 128]⟩
abbrev S4x128 : Shape := ⟨2, ![4, 128]⟩
abbrev S3072 : Shape := ⟨1, ![3072]⟩
abbrev S1x3072 : Shape := ⟨2, ![1, 3072]⟩
abbrev S8192x3072 : Shape := ⟨2, ![8192, 3072]⟩
abbrev S2048x1024 : Shape := ⟨2, ![2048, 1024]⟩
abbrev S1024x1024 : Shape := ⟨2, ![1024, 1024]⟩
abbrev S1x1024 : Shape := ⟨2, ![1, 1024]⟩
abbrev S2048x128 : Shape := ⟨2, ![2048, 128]⟩
abbrev S2048 : Shape := ⟨1, ![2048]⟩
abbrev S2048x1 : Shape := ⟨2, ![2048, 1]⟩

abbrev nBuf : Space → Nat
  | .hbm => 19
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x3072, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S512, .f32⟩
  | .hbm, ⟨6, _⟩ => ⟨S1x128, .f32⟩
  | .hbm, ⟨7, _⟩ => ⟨S4x128, .f32⟩
  | .hbm, ⟨8, _⟩ => ⟨S512, .f32⟩
  | .hbm, ⟨9, _⟩ => ⟨S1x128, .f32⟩
  | .hbm, ⟨10, _⟩ => ⟨S4x128, .f32⟩
  | .hbm, ⟨11, _⟩ => ⟨S512, .f32⟩
  | .hbm, ⟨12, _⟩ => ⟨S3072, .f32⟩
  | .hbm, ⟨13, _⟩ => ⟨S1x3072, .f32⟩
  | .hbm, ⟨14, _⟩ => ⟨S_, .f32⟩
  | .hbm, ⟨15, _⟩ => ⟨S512, .f32⟩
  | .hbm, ⟨16, _⟩ => ⟨S3072, .f32⟩
  | .hbm, ⟨17, _⟩ => ⟨S1x3072, .f32⟩
  | .hbm, ⟨18, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 3, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KvRefIdeal.lean ====
abbrev S8192x4096 : Shape := ⟨2, ![8192, 4096]⟩
abbrev S4096x3072 : Shape := ⟨2, ![4096, 3072]⟩
abbrev S128 : Shape := ⟨1, ![128]⟩
abbrev S8192x3072 : Shape := ⟨2, ![8192, 3072]⟩
abbrev S4x2048x6x4x128 : Shape := ⟨5, ![4, 2048, 6, 4, 128]⟩
abbrev S4x2048x2x4x128 : Shape := ⟨5, ![4, 2048, 2, 4, 128]⟩
abbrev S4x2048x1x4x128 : Shape := ⟨5, ![4, 2048, 1, 4, 128]⟩
abbrev S4x2048x4x128 : Shape := ⟨4, ![4, 2048, 4, 128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x3072, .f32⟩
  | .hbm, ⟨2, _⟩ => ⟨S128, .f32⟩
  | .hbm, ⟨3, _⟩ => ⟨S128, .f32⟩
  | .hbm, ⟨4, _⟩ => ⟨S8192x4096, .f32⟩
  | .hbm, ⟨5, _⟩ => ⟨S8192x3072, .f32⟩
  | .hbm, ⟨6, _⟩ => ⟨S4x2048x6x4x128, .f32⟩
  | .hbm, ⟨7, _⟩ => ⟨S4x2048x2x4x128, .f32⟩
  | .hbm, ⟨8, _⟩ => ⟨S4x2048x1x4x128, .f32⟩
  | .hbm, ⟨9, _⟩ => ⟨S4x2048x4x128, .f32⟩
  | .hbm, ⟨10, _⟩ => ⟨S4x2048x4x128, .f32⟩
  | .hbm, ⟨11, _⟩ => ⟨S_, .f32⟩
  | .hbm, ⟨12, _⟩ => ⟨S4x2048x4, .f32⟩
  | .hbm, ⟨13, _⟩ => ⟨S4x2048x4x1, .f32⟩
  | .hbm, ⟨14, _⟩ => ⟨S_, .f32⟩
  | .hbm, ⟨15, _⟩ => ⟨S4x2048x4x1, .f32⟩
  | .hbm, ⟨16, _⟩ => ⟨S4x2048x4x1, .f32⟩
  | .hbm, ⟨17, _⟩ => ⟨S_, .f32⟩
  | .hbm, ⟨18, _⟩ => ⟨S4x2048x4x1, .f32⟩
  | .hbm, ⟨19, _⟩ => ⟨S4x2048x4x1, .f32⟩
  | .hbm, ⟨20, _⟩ => ⟨S4x2048x4x1, .f32⟩
  | .hbm, ⟨21, _⟩ => ⟨S4x2048x4x128, .f32⟩
  | .hbm, ⟨22, _⟩ => ⟨S4x2048x4x128, .f32⟩
  | .hbm, ⟨23, _⟩ => ⟨S1x1x1x128, .f32⟩
  | .hbm, ⟨24, _⟩ => ⟨S4x2048x4x128, .f32⟩
  | .hbm, ⟨25, _⟩ => ⟨S4x2048x4x128, .f32⟩
  | .hbm, ⟨26, _⟩ => ⟨S4x2048x1x4x128, .f32⟩
  | .hbm, ⟨27, _⟩ => ⟨S4x2048x4x128, .f32⟩
  | .hbm, ⟨28, _⟩ => ⟨S4x2048x1x4x128, .f32⟩
  | .hbm, ⟨29, _⟩ => ⟨S4x2048x1x4x128, .f32⟩
  | .hbm, ⟨30, _⟩ => ⟨S4x2048x2x4x128, .f32⟩
  | .hbm, ⟨31, _⟩ => ⟨S4x2048x1x4x128, .f32⟩
  | .hbm, ⟨32, _⟩ => ⟨S4x2048x4x128, .f32⟩
  | .hbm, ⟨33, _⟩ => ⟨S4x2048x4x128, .f32⟩
  | .hbm, ⟨34, _⟩ => ⟨S_, .f32⟩
  | .hbm, ⟨35, _⟩ => ⟨S4x2048x4, .f32⟩
  | .hbm, ⟨36, _⟩ => ⟨S4x2048x4x1, .f32⟩
  | .hbm, ⟨37, _⟩ => ⟨S_, .f32⟩
  | .hbm, ⟨38, _⟩ => ⟨S4x2048x4x1, .f32⟩
  | .hbm, ⟨39, _⟩ => ⟨S4x2048x4x1, .f32⟩
  | .hbm, ⟨40, _⟩ => ⟨S_, .f32⟩
  | .hbm, ⟨41, _⟩ => ⟨S4x2048x4x1, .f32⟩
  | .hbm, ⟨42, _⟩ => ⟨S4x2048x4x1, .f32⟩
  | .hbm, ⟨43, _⟩ => ⟨S4x2048x4x1, .f32⟩
  | .hbm, ⟨44, _⟩ => ⟨S4x2048x4x128, .f32⟩
  | .hbm, ⟨45, _⟩ => ⟨S4x2048x4x128, .f32⟩
  | .hbm, ⟨46, _⟩ => ⟨S1x1x1x128, .f32⟩
  | .hbm, ⟨47, _⟩ => ⟨S4x2048x4x128, .f32⟩
  | .hbm, ⟨48, _⟩ => ⟨S4x2048x4x128, .f32⟩
  | .hbm, ⟨49, _⟩ => ⟨S4x2048x1x4x128, .f32⟩
  | .hbm, ⟨50, _⟩ => ⟨S4x2048x4x128, .f32⟩
  | .hbm, ⟨51, _⟩ => ⟨S4x2048x1x4x128, .f32⟩
  | .hbm, ⟨52, _⟩ => ⟨S4x2048x1x4x128, .f32⟩
  | .hbm, ⟨53, _⟩ => ⟨S4x2048x2x4x128, .f32⟩
  | .hbm, ⟨54, _⟩ => ⟨S4x2048x6x4x128, .f32⟩
  | .hbm, ⟨55, _⟩ => ⟨S8192x3072, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== NsaQ.lean ====
abbrev S8192x4096 : Shape := ⟨2, ![8192, 4096]⟩
abbrev S4096x4192 : Shape := ⟨2, ![4096, 4192]⟩
abbrev S128 : Shape := ⟨1, ![128]⟩
abbrev S1x128 : Shape := ⟨2, ![1, 128]⟩
abbrev S4x4x8x2048x128 : Shape := ⟨5, ![4, 4, 8, 2048, 128]⟩
abbrev S2048x1024 : Shape := ⟨2, ![2048, 1024]⟩
abbrev S1024x1024 : Shape := ⟨2, ![1024, 1024]⟩
abbrev S1x1x8x2048x128 : Shape := ⟨5, ![1, 1, 8, 2048, 128]⟩
abbrev S2048x128 : Shape := ⟨2, ![2048, 128]⟩
abbrev S2048 : Shape := ⟨1, ![2048]⟩
abbrev S2048x1 : Shape := ⟨2, ![2048, 1]⟩
abbrev S1x1x1x2048x128 : Shape := ⟨5, ![1, 1, 1, 2048, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4192, .f32⟩
  | .hbm, ⟨2, _⟩ => ⟨S128, .f32⟩
  | .hbm, ⟨3, _⟩ => ⟨S1x128, .f32⟩
  | .hbm, ⟨4, _⟩ => ⟨S4x4x8x2048x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S1x128, .f32⟩
  | .local _ .vmem, ⟨5, _⟩ => ⟨S1x1x8x2048x128, .f32⟩
  | .local _ .vmem, ⟨6, _⟩ => ⟨S1x1x8x2048x128, .f32⟩
  | .local _ .vmem, ⟨7, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, arg1.toNat, c0_i32_11.toNat, v26.toNat, c0_i32_12.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x8x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== NsaQRefIdeal.lean ====
abbrev S8192x4096 : Shape := ⟨2, ![8192, 4096]⟩
abbrev S4096x4192 : Shape := ⟨2, ![4096, 4192]⟩
abbrev S128 : Shape := ⟨1, ![128]⟩
abbrev S8192x4192 : Shape := ⟨2, ![8192, 4192]⟩
abbrev S4x2048x4192 : Shape := ⟨3, ![4, 2048, 4192]⟩
abbrev S4x2048x4096 : Shape := ⟨3, ![4, 2048, 4096]⟩
abbrev S4x2048x4x8x128 : Shape := ⟨5, ![4, 2048, 4, 8, 128]⟩
abbrev S_ : Shape := ⟨0, ![]⟩
abbrev S4x2048x4x8 : Shape := ⟨4, ![4, 2048, 4, 8]⟩
abbrev S4x2048x4x8x1 : Shape := ⟨5, ![4, 2048, 4, 8, 1]⟩
abbrev S1x1x1x1x128 : Shape := ⟨5, ![1, 1, 1, 1, 128]⟩
abbrev S4x4x8x2048x128 : Shape := ⟨5, ![4, 4, 8, 2048, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4192, .f32⟩
  | .hbm, ⟨2, _⟩ => ⟨S128, .f32⟩
  | .hbm, ⟨3, _⟩ => ⟨S8192x4096, .f32⟩
  | .hbm, ⟨4, _⟩ => ⟨S8192x4192, .f32⟩
  | .hbm, ⟨5, _⟩ => ⟨S4x2048x4192, .f32⟩
  | .hbm, ⟨6, _⟩ => ⟨S4x2048x4096, .f32⟩
  | .hbm, ⟨7, _⟩ => ⟨S4x2048x4x8x128, .f32⟩
  | .hbm, ⟨8, _⟩ => ⟨S4x2048x4x8x128, .f32⟩
  | .hbm, ⟨9, _⟩ => ⟨S_, .f32⟩
  | .hbm, ⟨10, _⟩ => ⟨S4x2048x4x8, .f32⟩
  | .hbm, ⟨11, _⟩ => ⟨S4x2048x4x8x1, .f32⟩
  | .hbm, ⟨12, _⟩ => ⟨S_, .f32⟩
  | .hbm, ⟨13, _⟩ => ⟨S4x2048x4x8x1, .f32⟩
  | .hbm, ⟨14, _⟩ => ⟨S4x2048x4x8x1, .f32⟩
  | .hbm, ⟨15, _⟩ => ⟨S_, .f32⟩
  | .hbm, ⟨16, _⟩ => ⟨S4x2048x4x8x1, .f32⟩
  | .hbm, ⟨17, _⟩ => ⟨S4x2048x4x8x1, .f32⟩
  | .hbm, ⟨18, _⟩ => ⟨S4x2048x4x8x1, .f32⟩
  | .hbm, ⟨19, _⟩ => ⟨S4x2048x4x8x128, .f32⟩
  | .hbm, ⟨20, _⟩ => ⟨S4x2048x4x8x128, .f32⟩
  | .hbm, ⟨21, _⟩ => ⟨S1x1x1x1x128, .f32⟩
  | .hbm, ⟨22, _⟩ => ⟨S4x2048x4x8x128, .f32⟩
  | .hbm, ⟨23, _⟩ => ⟨S4x2048x4x8x128, .f32⟩
  | .hbm, ⟨24, _⟩ => ⟨S4x4x8x2048x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== PleS.lean ====
abbrev S64x4096 : Shape := ⟨2, ![64, 4096]⟩
abbrev S2x4096x4096 : Shape := ⟨3, ![2, 4096, 4096]⟩
abbrev S64x256 : Shape := ⟨2, ![64, 256]⟩
abbrev S2x256x4096 : Shape := ⟨3, ![2, 256, 4096]⟩
abbrev S64x2048 : Shape := ⟨2, ![64, 2048]⟩
abbrev S1x2048x1024 : Shape := ⟨3, ![1, 2048, 1024]⟩
abbrev S64x1024 : Shape := ⟨2, ![64, 1024]⟩
abbrev S1x256x1024 : Shape := ⟨3, ![1, 256, 1024]⟩
abbrev S2048x1024 : Shape := ⟨2, ![2048, 1024]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S64x4096, .bf16⟩
  | .hbm, ⟨1, _⟩ => ⟨S2x4096x4096, .f32⟩
  | .hbm, ⟨2, _⟩ => ⟨S64x4096, .f32⟩
  | .hbm, ⟨3, _⟩ => ⟨S64x256, .f32⟩
  | .hbm, ⟨4, _⟩ => ⟨S2x256x4096, .f32⟩
  | .hbm, ⟨5, _⟩ => ⟨S64x4096, .f32⟩
  | .local _ .vmem, ⟨0, _⟩ => ⟨S64x2048, .bf16⟩
  | .local _ .vmem, ⟨1, _⟩ => ⟨S64x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S64x1024, .f32⟩
  | .local _ .vmem, ⟨5, _⟩ => ⟨S64x1024, .f32⟩
  | .local _ .vmem, ⟨6, _⟩ => ⟨S64x256, .f32⟩
  | .local _ .vmem, ⟨7, _⟩ => ⟨S1x256x1024, .f32⟩
  | .local _ .vmem, ⟨8, _⟩ => ⟨S1x256x1024, .f32⟩
  | .local _ .vmem, ⟨9, _⟩ => ⟨S64x1024, .f32⟩
  | .local _ .vmem, ⟨10, _⟩ => ⟨S64x1024, .f32⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== PleSRefIdeal.lean ====
abbrev S64x4096 : Shape := ⟨2, ![64, 4096]⟩
abbrev S2x4096x4096 : Shape := ⟨3, ![2, 4096, 4096]⟩
abbrev S64x256 : Shape := ⟨2, ![64, 256]⟩
abbrev S2x256x4096 : Shape := ⟨3, ![2, 256, 4096]⟩
abbrev S1x256x4096 : Shape := ⟨3, ![1, 256, 4096]⟩
abbrev S256x4096 : Shape := ⟨2, ![256, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S2x4096x4096, .f32⟩
  | .hbm, ⟨2, _⟩ => ⟨S64x4096, .f32⟩
  | .hbm, ⟨3, _⟩ => ⟨S64x256, .f32⟩
  | .hbm, ⟨4, _⟩ => ⟨S2x256x4096, .f32⟩
  | .hbm, ⟨5, _⟩ => ⟨S1x256x4096, .f32⟩
  | .hbm, ⟨6, _⟩ => ⟨S256x4096, .f32⟩
  | .hbm, ⟨7, _⟩ => ⟨S64x4096, .f32⟩
  | .hbm, ⟨8, _⟩ => ⟨S64x4096, .f32⟩
  | .hbm, ⟨9, _⟩ => ⟨S1x4096x4096, .f32⟩
  | .hbm, ⟨10, _⟩ => ⟨S4096x4096, .f32⟩
  | .hbm, ⟨11, _⟩ => ⟨S64x4096, .f32⟩
  | .hbm, ⟨12, _⟩ => ⟨S64x4096, .f32⟩
  | .hbm, ⟨13, _⟩ => ⟨S64x4096, .f32⟩
  | .hbm, ⟨14, _⟩ => ⟨S_, .f32⟩
  | .hbm, ⟨15, _⟩ => ⟨S64x4096, .f32⟩
  | .hbm, ⟨16, _⟩ => ⟨S64x4096, .f32⟩
  | .hbm, ⟨17, _⟩ => ⟨S_, .f32⟩
  | .hbm, ⟨18, _⟩ => ⟨S64x4096, .f32⟩
  | .hbm, ⟨19, _⟩ => ⟨S64x4096, .f32⟩
  | .hbm, ⟨20, _⟩ => ⟨S64x4096, .f32⟩
  | .hbm, ⟨21, _⟩ => ⟨S64x4096, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== KvS.lean ====
abbrev S64x4096 : Shape := ⟨2, ![64, 4096]⟩
abbrev S4096x3072 : Shape := ⟨2, ![4096, 3072]⟩
abbrev S128 : Shape := ⟨1, ![128]⟩
abbrev S_ : Shape := ⟨0, ![]⟩
abbrev S512 : Shape := ⟨1, ![512]⟩
abbrev S1x128 : Shape := ⟨2, ![1, 128]⟩
abbrev S4x128 : Shape := ⟨2, ![4, 128]⟩
abbrev S3072 : Shape := ⟨1, ![3072]⟩
abbrev S1x3072 : Shape := ⟨2, ![1, 3072]⟩
abbrev S64x3072 : Shape := ⟨2, ![64, 3072]⟩
abbrev S64x2048 : Shape := ⟨2, ![64, 2048]⟩
abbrev S2048x1024 : Shape := ⟨2, ![2048, 1024]⟩
abbrev S1x1024 : Shape := ⟨2, ![1, 1024]⟩
abbrev S64x1024 : Shape := ⟨2, ![64, 1024]⟩
abbrev S64x128 : Shape := ⟨2, ![64, 128]⟩
abbrev S64 : Shape := ⟨1, ![64]⟩
abbrev S64x1 : Shape := ⟨2, ![64, 1]⟩

abbrev nBuf : Space → Nat
  | .hbm => 19
  | .vmem => 10
  | .smem => 0
  | _ => 0

abbrev bufTy : (tb : Table) → Fin (tcTables nBuf tb) → BufTy
  | .hbm, ⟨0, _⟩ => ⟨S64x4096, .bf16⟩
  | .hbm, ⟨1, _⟩ => ⟨S4096x3072, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S512, .f32⟩
  | .hbm, ⟨6, _⟩ => ⟨S1x128, .f32⟩
  | .hbm, ⟨7, _⟩ => ⟨S4x128, .f32⟩
  | .hbm, ⟨8, _⟩ => ⟨S512, .f32⟩
  | .hbm, ⟨9, _⟩ => ⟨S1x128, .f32⟩
  | .hbm, ⟨10, _⟩ => ⟨S4x128, .f32⟩
  | .hbm, ⟨11, _⟩ => ⟨S512, .f32⟩
  | .hbm, ⟨12, _⟩ => ⟨S3072, .f32⟩
  | .hbm, ⟨13, _⟩ => ⟨S1x3072, .f32⟩
  | .hbm, ⟨14, _⟩ => ⟨S_, .f32⟩
  | .hbm, ⟨15, _⟩ => ⟨S512, .f32⟩
  | .hbm, ⟨16, _⟩ => ⟨S3072, .f32⟩
  | .hbm, ⟨17, _⟩ => ⟨S1x3072, .f32⟩
  | .hbm, ⟨18, _⟩ => ⟨S64x3072, .f32⟩
  | .local _ .vmem, ⟨0, _⟩ => ⟨S64x2048, .bf16⟩
  | .local _ .vmem, ⟨1, _⟩ => ⟨S64x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S64x1024, .f32⟩
  | .local _ .vmem, ⟨9, _⟩ => ⟨S64x1024, .f32⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 3, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KvSRefIdeal.lean ====
abbrev S64x4096 : Shape := ⟨2, ![64, 4096]⟩
abbrev S4096x3072 : Shape := ⟨2, ![4096, 3072]⟩
abbrev S128 : Shape := ⟨1, ![128]⟩
abbrev S64x3072 : Shape := ⟨2, ![64, 3072]⟩
abbrev S8x8x6x4x128 : Shape := ⟨5, ![8, 8, 6, 4, 128]⟩
abbrev S8x8x2x4x128 : Shape := ⟨5, ![8, 8, 2, 4, 128]⟩
abbrev S8x8x1x4x128 : Shape := ⟨5, ![8, 8, 1, 4, 128]⟩
abbrev S8x8x4x128 : Shape := ⟨4, ![8, 8, 4, 128]⟩
abbrev S_ : Shape := ⟨0, ![]⟩
abbrev S8x8x4 : Shape := ⟨3, ![8, 8, 4]⟩
abbrev S8x8x4x1 : Shape := ⟨4, ![8, 8, 4, 1]⟩
abbrev S1x1x1x128 : Shape := ⟨4, ![1, 1, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S4096x3072, .f32⟩
  | .hbm, ⟨2, _⟩ => ⟨S128, .f32⟩
  | .hbm, ⟨3, _⟩ => ⟨S128, .f32⟩
  | .hbm, ⟨4, _⟩ => ⟨S64x4096, .f32⟩
  | .hbm, ⟨5, _⟩ => ⟨S64x3072, .f32⟩
  | .hbm, ⟨6, _⟩ => ⟨S8x8x6x4x128, .f32⟩
  | .hbm, ⟨7, _⟩ => ⟨S8x8x2x4x128, .f32⟩
  | .hbm, ⟨8, _⟩ => ⟨S8x8x1x4x128, .f32⟩
  | .hbm, ⟨9, _⟩ => ⟨S8x8x4x128, .f32⟩
  | .hbm, ⟨10, _⟩ => ⟨S8x8x4x128, .f32⟩
  | .hbm, ⟨11, _⟩ => ⟨S_, .f32⟩
  | .hbm, ⟨12, _⟩ => ⟨S8x8x4, .f32⟩
  | .hbm, ⟨13, _⟩ => ⟨S8x8x4x1, .f32⟩
  | .hbm, ⟨14, _⟩ => ⟨S_, .f32⟩
  | .hbm, ⟨15, _⟩ => ⟨S8x8x4x1, .f32⟩
  | .hbm, ⟨16, _⟩ => ⟨S8x8x4x1, .f32⟩
  | .hbm, ⟨17, _⟩ => ⟨S_, .f32⟩
  | .hbm, ⟨18, _⟩ => ⟨S8x8x4x1, .f32⟩
  | .hbm, ⟨19, _⟩ => ⟨S8x8x4x1, .f32⟩
  | .hbm, ⟨20, _⟩ => ⟨S8x8x4x1, .f32⟩
  | .hbm, ⟨21, _⟩ => ⟨S8x8x4x128, .f32⟩
  | .hbm, ⟨22, _⟩ => ⟨S8x8x4x128, .f32⟩
  | .hbm, ⟨23, _⟩ => ⟨S1x1x1x128, .f32⟩
  | .hbm, ⟨24, _⟩ => ⟨S8x8x4x128, .f32⟩
  | .hbm, ⟨25, _⟩ => ⟨S8x8x4x128, .f32⟩
  | .hbm, ⟨26, _⟩ => ⟨S8x8x1x4x128, .f32⟩
  | .hbm, ⟨27, _⟩ => ⟨S8x8x4x128, .f32⟩
  | .hbm, ⟨28, _⟩ => ⟨S8x8x1x4x128, .f32⟩
  | .hbm, ⟨29, _⟩ => ⟨S8x8x1x4x128, .f32⟩
  | .hbm, ⟨30, _⟩ => ⟨S8x8x2x4x128, .f32⟩
  | .hbm, ⟨31, _⟩ => ⟨S8x8x1x4x128, .f32⟩
  | .hbm, ⟨32, _⟩ => ⟨S8x8x4x128, .f32⟩
  | .hbm, ⟨33, _⟩ => ⟨S8x8x4x128, .f32⟩
  | .hbm, ⟨34, _⟩ => ⟨S_, .f32⟩
  | .hbm, ⟨35, _⟩ => ⟨S8x8x4, .f32⟩
  | .hbm, ⟨36, _⟩ => ⟨S8x8x4x1, .f32⟩
  | .hbm, ⟨37, _⟩ => ⟨S_, .f32⟩
  | .hbm, ⟨38, _⟩ => ⟨S8x8x4x1, .f32⟩
  | .hbm, ⟨39, _⟩ => ⟨S8x8x4x1, .f32⟩
  | .hbm, ⟨40, _⟩ => ⟨S_, .f32⟩
  | .hbm, ⟨41, _⟩ => ⟨S8x8x4x1, .f32⟩
  | .hbm, ⟨42, _⟩ => ⟨S8x8x4x1, .f32⟩
  | .hbm, ⟨43, _⟩ => ⟨S8x8x4x1, .f32⟩
  | .hbm, ⟨44, _⟩ => ⟨S8x8x4x128, .f32⟩
  | .hbm, ⟨45, _⟩ => ⟨S8x8x4x128, .f32⟩
  | .hbm, ⟨46, _⟩ => ⟨S1x1x1x128, .f32⟩
  | .hbm, ⟨47, _⟩ => ⟨S8x8x4x128, .f32⟩
  | .hbm, ⟨48, _⟩ => ⟨S8x8x4x128, .f32⟩
  | .hbm, ⟨49, _⟩ => ⟨S8x8x1x4x128, .f32⟩
  | .hbm, ⟨50, _⟩ => ⟨S8x8x4x128, .f32⟩
  | .hbm, ⟨51, _⟩ => ⟨S8x8x1x4x128, .f32⟩
  | .hbm, ⟨52, _⟩ => ⟨S8x8x1x4x128, .f32⟩
  | .hbm, ⟨53, _⟩ => ⟨S8x8x2x4x128, .f32⟩
  | .hbm, ⟨54, _⟩ => ⟨S8x8x6x4x128, .f32⟩
  | .hbm, ⟨55, _⟩ => ⟨S64x3072, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== RetS.lean ====
abbrev S8x8x24576 : Shape := ⟨3, ![8, 8, 24576]⟩
abbrev S8x16x256x512 : Shape := ⟨4, ![8, 16, 256, 512]⟩
abbrev S8 : Shape := ⟨1, ![8]⟩
abbrev S_ : Shape := ⟨0, ![]⟩
abbrev S16 : Shape := ⟨1, ![16]⟩
abbrev S8x1 : Shape := ⟨2, ![8, 1]⟩
abbrev S1x8 : Shape := ⟨2, ![1, 8]⟩
abbrev S8x8 : Shape := ⟨2, ![8, 8]⟩
abbrev S1x8x8 : Shape := ⟨3, ![1, 8, 8]⟩
abbrev S16x1x1 : Shape := ⟨3, ![16, 1, 1]⟩
abbrev S16x8x8 : Shape := ⟨3, ![16, 8, 8]⟩
abbrev S16x1 : Shape := ⟨2, ![16, 1]⟩
abbrev S16x8 : Shape := ⟨2, ![16, 8]⟩
abbrev S16x128x128 : Shape := ⟨3, ![16, 128, 128]⟩
abbrev S16x128 : Shape := ⟨2, ![16, 128]⟩
abbrev S16x128x1 : Shape := ⟨3, ![16, 128, 1]⟩
abbrev S128 : Shape := ⟨1, ![128]⟩
abbrev S1x128 : Shape := ⟨2, ![1, 128]⟩
abbrev S8x128 : Shape := ⟨2, ![8, 128]⟩
abbrev S128x128 : Shape := ⟨2, ![128, 128]⟩
abbrev S8x8x8192 : Shape := ⟨3, ![8, 8, 8192]⟩
abbrev S1x8x1024 : Shape := ⟨3, ![1, 8, 1024]⟩
abbrev S1x8x2048 : Shape := ⟨3, ![1, 8, 2048]⟩
abbrev S4x128x128 : Shape := ⟨3, ![4, 128, 128]⟩
abbrev S4x128x1 : Shape := ⟨3, ![4, 128, 1]⟩
abbrev S4x1x1 : Shape := ⟨3, ![4, 1, 1]⟩
abbrev S1x4x256x512 : Shape := ⟨4, ![1, 4, 256, 512]⟩
abbrev S4x256x512 : Shape := ⟨3, ![4, 256, 512]⟩
abbrev S1x8x256 : Shape := ⟨3, ![1, 8, 256]⟩
abbrev S8x256 : Shape := ⟨2, ![8, 256]⟩
abbrev S120x256 : Shape := ⟨2, ![120, 256]⟩
abbrev S128x256 : Shape := ⟨2, ![128, 256]⟩
abbrev S1x8x512 : Shape := ⟨3, ![1, 8, 512]⟩
abbrev S8x512 : Shape := ⟨2, ![8, 512]⟩
abbrev S120x512 : Shape := ⟨2, ![120, 512]⟩
abbrev S128x512 : Shape := ⟨2, ![128, 512]⟩
abbrev S1x256x512 : Shape := ⟨3, ![1, 256, 512]⟩
abbrev S256x512 : Shape := ⟨2, ![256, 512]⟩
abbrev S1x128x128 : Shape := ⟨3, ![1, 128, 128]⟩
abbrev S1x128x1 : Shape := ⟨3, ![1, 128, 1]⟩
abbrev S128x1 : Shape := ⟨2, ![128, 1]⟩
abbrev S256x128 : Shape := ⟨2, ![256, 128]⟩
abbrev S1x1x1 : Shape := ⟨3, ![1, 1, 1]⟩
abbrev S1x1 : Shape := ⟨2, ![1, 1]⟩

abbrev nBuf : Space → Nat
  | .hbm => 96
  | .vmem => 25
  | .smem => 0
  | _ => 0

abbrev bufTy : (tb : Table) → Fin (tcTables nBuf tb) → BufTy
  | .hbm, ⟨0, _⟩ => ⟨S8x8x24576, .f32⟩
  | .hbm, ⟨1, _⟩ => ⟨S8x16x256x512, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S8, .f32⟩
  | .hbm, ⟨16, _⟩ => ⟨S8x1, .f32⟩
  | .hbm, ⟨17, _⟩ => ⟨S1x8, .f32⟩
  | .hbm, ⟨18, _⟩ => ⟨S8x8, .f32⟩
  | .hbm, ⟨19, _⟩ => ⟨S8x8, .f32⟩
  | .hbm, ⟨20, _⟩ => ⟨S8x8, .f32⟩
  | .hbm, ⟨21, _⟩ => ⟨S_, .f32⟩
  | .hbm, ⟨22, _⟩ => ⟨S8x8, .f32⟩
  | .hbm, ⟨23, _⟩ => ⟨S8x8, .i1⟩
  | .hbm, ⟨24, _⟩ => ⟨S_, .f32⟩
  | .hbm, ⟨25, _⟩ => ⟨S8x8, .f32⟩
  | .hbm, ⟨26, _⟩ => ⟨S8x8, .f32⟩
  | .hbm, ⟨27, _⟩ => ⟨S1x8x8, .f32⟩
  | .hbm, ⟨28, _⟩ => ⟨S16x1x1, .f32⟩
  | .hbm, ⟨29, _⟩ => ⟨S16x8x8, .f32⟩
  | .hbm, ⟨30, _⟩ => ⟨S16x8x8, .f32⟩
  | .hbm, ⟨31, _⟩ => ⟨S16x8x8, .f32⟩
  | .hbm, ⟨32, _⟩ => ⟨S16x8x8, .f32⟩
  | .hbm, ⟨33, _⟩ => ⟨S_, .f32⟩
  | .hbm, ⟨34, _⟩ => ⟨S_, .f32⟩
  | .hbm, ⟨35, _⟩ => ⟨S16x8x8, .i1⟩
  | .hbm, ⟨36, _⟩ => ⟨S16x8x8, .f32⟩
  | .hbm, ⟨37, _⟩ => ⟨S16x8x8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S1x8, .f32⟩
  | .hbm, ⟨42, _⟩ => ⟨S16x1, .f32⟩
  | .hbm, ⟨43, _⟩ => ⟨S16x8, .f32⟩
  | .hbm, ⟨44, _⟩ => ⟨S16x8, .f32⟩
  | .hbm, ⟨45, _⟩ => ⟨S16x8, .f32⟩
  | .hbm, ⟨46, _⟩ => ⟨S16x8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S1x8, .f32⟩
  | .hbm, ⟨51, _⟩ => ⟨S16x1, .f32⟩
  | .hbm, ⟨52, _⟩ => ⟨S16x8, .f32⟩
  | .hbm, ⟨53, _⟩ => ⟨S16x8, .f32⟩
  | .hbm, ⟨54, _⟩ => ⟨S16x8, .f32⟩
  | .hbm, ⟨55, _⟩ => ⟨S16x8, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S_, .i32⟩
  | .hbm, ⟨61, _⟩ => ⟨S_, .f32⟩
  | .hbm, ⟨62, _⟩ => ⟨S16x128x128, .f32⟩
  | .hbm, ⟨63, _⟩ => ⟨S_, .i32⟩
  | .hbm, ⟨64, _⟩ => ⟨S_, .f32⟩
  | .hbm, ⟨65, _⟩ => ⟨S16x128, .f32⟩
  | .hbm, ⟨66, _⟩ => ⟨S16x128x1, .f32⟩
  | .hbm, ⟨67, _⟩ => ⟨S_, .i32⟩
  | .hbm, ⟨68, _⟩ => ⟨S_, .f32⟩
  | .hbm, ⟨69, _⟩ => ⟨S16x128, .f32⟩
  | .hbm, ⟨70, _⟩ => ⟨S16x128x1, .f32⟩
  | .hbm, ⟨71, _⟩ => ⟨S16x1x1, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S8, .f32⟩
  | .hbm, ⟨81, _⟩ => ⟨S8x1, .f32⟩
  | .hbm, ⟨82, _⟩ => ⟨S1x128, .f32⟩
  | .hbm, ⟨83, _⟩ => ⟨S8x128, .f32⟩
  | .hbm, ⟨84, _⟩ => ⟨S8x128, .f32⟩
  | .hbm, ⟨85, _⟩ => ⟨S8x128, .f32⟩
  | .hbm, ⟨86, _⟩ => ⟨S8x128, .f32⟩
  | .hbm, ⟨87, _⟩ => ⟨S_, .i32⟩
  | .hbm, ⟨88, _⟩ => ⟨S_, .f32⟩
  | .hbm, ⟨89, _⟩ => ⟨S128x128, .f32⟩
  | .hbm, ⟨90, _⟩ => ⟨S8x128, .f32⟩
  | .hbm, ⟨91, _⟩ => ⟨S_, .i32⟩
  | .hbm, ⟨92, _⟩ => ⟨S_, .f32⟩
  | .hbm, ⟨93, _⟩ => ⟨S128x128, .f32⟩
  | .hbm, ⟨94, _⟩ => ⟨S8x8x8192, .bf16⟩
  | .hbm, ⟨95, _⟩ => ⟨S8x16x256x512, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x2048, .f32⟩
  | .local _ .vmem, ⟨5, _⟩ => ⟨S1x8x2048, .f32⟩
  | .local _ .vmem, ⟨6, _⟩ => ⟨S1x8x2048, .f32⟩
  | .local _ .vmem, ⟨7, _⟩ => ⟨S1x8x2048, .f32⟩
  | .local _ .vmem, ⟨8, _⟩ => ⟨S128x128, .f32⟩
  | .local _ .vmem, ⟨9, _⟩ => ⟨S128x128, .f32⟩
  | .local _ .vmem, ⟨10, _⟩ => ⟨S4x128x128, .f32⟩
  | .local _ .vmem, ⟨11, _⟩ => ⟨S4x128x128, .f32⟩
  | .local _ .vmem, ⟨12, _⟩ => ⟨S4x128x1, .f32⟩
  | .local _ .vmem, ⟨13, _⟩ => ⟨S4x128x1, .f32⟩
  | .local _ .vmem, ⟨14, _⟩ => ⟨S4x128x1, .f32⟩
  | .local _ .vmem, ⟨15, _⟩ => ⟨S4x128x1, .f32⟩
  | .local _ .vmem, ⟨16, _⟩ => ⟨S4x1x1, .f32⟩
  | .local _ .vmem, ⟨17, _⟩ => ⟨S4x1x1, .f32⟩
  | .local _ .vmem, ⟨18, _⟩ => ⟨S1x4x256x512, .f32⟩
  | .local _ .vmem, ⟨19, _⟩ => ⟨S1x4x256x512, .f32⟩
  | .local _ .vmem, ⟨20, _⟩ => ⟨S1x8x2048, .bf16⟩
  | .local _ .vmem, ⟨21, _⟩ => ⟨S1x8x2048, .bf16⟩
  | .local _ .vmem, ⟨22, _⟩ => ⟨S1x4x256x512, .f32⟩
  | .local _ .vmem, ⟨23, _⟩ => ⟨S1x4x256x512, .f32⟩
  | .local _ .vmem, ⟨24, _⟩ => ⟨S4x256x512, .f32⟩
  | _, _ => ⟨S8x8x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_call1_v0 : Ref sig .tc := ⟨.hbm, 61, rfl⟩
abbrev main_v46 : Ref sig .tc := ⟨.hbm, 62, rfl⟩
abbrev main_c_8 : Ref sig .tc := ⟨.hbm, 63, rfl⟩
abbrev main_call2_v0 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_call3_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_call4_v0 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_call5_v0 : Ref sig .tc := ⟨.hbm, 92, rfl⟩
abbrev main_v67 : Ref sig .tc := ⟨.hbm, 93, rfl⟩
abbrev main_v68_0 : Ref sig .tc := ⟨.hbm, 94, rfl⟩
abbrev main_v68_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_171 : BitVec 32 := 0#32
  let v351 : BitVec 1 := Scalar.cmpi .eq arg2 c0_i32_171
  let v352 : BitVec 32 := Scalar.extui v351
  let c0_i32_172 : BitVec 32 := 0#32
  let v353 : BitVec 1 := Scalar.cmpi .ne v352 c0_i32_172
  v353

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 2 → Memref sig .tc .vmem S4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S4x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S4x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S4x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x4x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x8x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x4x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== RetSRefIdeal.lean ====
abbrev S8x8x24576 : Shape := ⟨3, ![8, 8, 24576]⟩
abbrev S8x16x256x512 : Shape := ⟨4, ![8, 16, 256, 512]⟩
abbrev S8 : Shape := ⟨1, ![8]⟩
abbrev S_ : Shape := ⟨0, ![]⟩
abbrev S8x8x16384 : Shape := ⟨3, ![8, 8, 16384]⟩
abbrev S8x8x4096 : Shape := ⟨3, ![8, 8, 4096]⟩
abbrev S8x8x8192 : Shape := ⟨3, ![8, 8, 8192]⟩
abbrev S8x8x16x256 : Shape := ⟨4, ![8, 8, 16, 256]⟩
abbrev S128 : Shape := ⟨1, ![128]⟩
abbrev S8x1 : Shape := ⟨2, ![8, 1]⟩
abbrev S1x128 : Shape := ⟨2, ![1, 128]⟩
abbrev S8x128 : Shape := ⟨2, ![8, 128]⟩
abbrev S1x8x1x128 : Shape := ⟨4, ![1, 8, 1, 128]⟩
abbrev S8x8x16x128 : Shape := ⟨4, ![8, 8, 16, 128]⟩
abbrev S8x8x16x512 : Shape := ⟨4, ![8, 8, 16, 512]⟩
abbrev S16 : Shape := ⟨1, ![16]⟩
abbrev S1x8 : Shape := ⟨2, ![1, 8]⟩
abbrev S8x8 : Shape := ⟨2, ![8, 8]⟩
abbrev S1x8x8 : Shape := ⟨3, ![1, 8, 8]⟩
abbrev S16x1x1 : Shape := ⟨3, ![16, 1, 1]⟩
abbrev S16x8x8 : Shape := ⟨3, ![16, 8, 8]⟩
abbrev S16x1 : Shape := ⟨2, ![16, 1]⟩
abbrev S16x8 : Shape := ⟨2, ![16, 8]⟩
abbrev S8x1x8x16x256 : Shape := ⟨5, ![8, 1, 8, 16, 256]⟩
abbrev S1x8x16x8x256 : Shape := ⟨5, ![1, 8, 16, 8, 256]⟩
abbrev S8x1x8x16x512 : Shape := ⟨5, ![8, 1, 8, 16, 512]⟩
abbrev S1x8x16x8x512 : Shape := ⟨5, ![1, 8, 16, 8, 512]⟩
abbrev S8x16x8x256 : Shape := ⟨4, ![8, 16, 8, 256]⟩
abbrev S8x16x8x512 : Shape := ⟨4, ![8, 16, 8, 512]⟩
abbrev S8x16x8x8 : Shape := ⟨4, ![8, 16, 8, 8]⟩
abbrev S1x16x8x8 : Shape := ⟨4, ![1, 16, 8, 8]⟩
abbrev S16x8x1 : Shape := ⟨3, ![16, 8, 1]⟩
abbrev S1x16x8x1 : Shape := ⟨4, ![1, 16, 8, 1]⟩
abbrev S1x16x1x1 : Shape := ⟨4, ![1, 16, 1, 1]⟩
abbrev S8x8x16 : Shape := ⟨3, ![8, 8, 16]⟩
abbrev S8x8x16x1 : Shape := ⟨4, ![8, 8, 16, 1]⟩

abbrev nBuf : Space → Nat
  | .hbm => 228
  | .vmem => 0
  | .smem => 0
  | _ => 0

abbrev hbmTy0_0 (i : Nat) : BufTy := match i % 128 with
  | 0 => ⟨S8x8x24576, .f32⟩
  | 1 => ⟨S8x16x256x512, .f32⟩
  | 2 => ⟨S8, .i32⟩
  | 3 => ⟨S_, .i32⟩
  | 4 => ⟨S8, .i32⟩
  | 5 => ⟨S8, .i32⟩
  | 6 => ⟨S8x8x16384, .f32⟩
  | 7 => ⟨S8x8x4096, .f32⟩
  | 8 => ⟨S8x8x4096, .f32⟩
  | 9 => ⟨S8x8x8192, .f32⟩
  | 10 => ⟨S8x8x16x256, .f32⟩
  | 11 => ⟨S128, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S8, .f32⟩
  | 20 => ⟨S8x1, .f32⟩
  | 21 => ⟨S1x128, .f32⟩
  | 22 => ⟨S8x128, .f32⟩
  | 23 => ⟨S8x128, .f32⟩
  | 24 => ⟨S8x128, .f32⟩
  | 25 => ⟨S8x128, .f32⟩
  | 26 => ⟨S1x8x1x128, .f32⟩
  | 27 => ⟨S8x128, .f32⟩
  | 28 => ⟨S1x8x1x128, .f32⟩
  | 29 => ⟨S8x8x16x128, .f32⟩
  | 30 => ⟨S8x8x16x128, .f32⟩
  | 31 => ⟨S8x8x16x128, .f32⟩
  | 32 => ⟨S8x8x16x128, .f32⟩
  | 33 => ⟨S8x8x16x128, .f32⟩
  | 34 => ⟨S8x8x16x128, .f32⟩
  | 35 => ⟨S8x8x16x128, .f32⟩
  | 36 => ⟨S8x8x16x128, .f32⟩
  | 37 => ⟨S8x8x16x128, .f32⟩
  | 38 => ⟨S8x8x16x128, .f32⟩
  | 39 => ⟨S8x8x16x128, .f32⟩
  | 40 => ⟨S8x8x16x128, .f32⟩
  | 41 => ⟨S8x8x16x256, .f32⟩
  | 42 => ⟨S8x8x16x256, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S8, .f32⟩
  | 52 => ⟨S8x1, .f32⟩
  | 53 => ⟨S1x128, .f32⟩
  | 54 => ⟨S8x128, .f32⟩
  | 55 => ⟨S8x128, .f32⟩
  | 56 => ⟨S8x128, .f32⟩
  | 57 => ⟨S8x128, .f32⟩
  | 58 => ⟨S1x8x1x128, .f32⟩
  | 59 => ⟨S8x128, .f32⟩
  | 60 => ⟨S1x8x1x128, .f32⟩
  | 61 => ⟨S8x8x16x128, .f32⟩
  | 62 => ⟨S8x8x16x128, .f32⟩
  | 63 => ⟨S8x8x16x128, .f32⟩
  | 64 => ⟨S8x8x16x128, .f32⟩
  | 65 => ⟨S8x8x16x128, .f32⟩
  | 66 => ⟨S8x8x16x128, .f32⟩
  | 67 => ⟨S8x8x16x128, .f32⟩
  | 68 => ⟨S8x8x16x128, .f32⟩
  | 69 => ⟨S8x8x16x128, .f32⟩
  | 70 => ⟨S8x8x16x128, .f32⟩
  | 71 => ⟨S8x8x16x128, .f32⟩
  | 72 => ⟨S8x8x16x128, .f32⟩
  | 73 => ⟨S8x8x16x256, .f32⟩
  | 74 => ⟨S_, .f32⟩
  | 75 => ⟨S8x8x16x256, .f32⟩
  | 76 => ⟨S8x8x16x256, .f32⟩
  | 77 => ⟨S8x8x16x512, .f32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S16, .f32⟩
  | 86 => ⟨S16, .f32⟩
  | 87 => ⟨S8, .f32⟩
  | 88 => ⟨S8x1, .f32⟩
  | 89 => ⟨S1x8, .f32⟩
  | 90 => ⟨S8x8, .f32⟩
  | 91 => ⟨S8x8, .f32⟩
  | 92 => ⟨S8x8, .f32⟩
  | 93 => ⟨S_, .f32⟩
  | 94 => ⟨S8x8, .f32⟩
  | 95 => ⟨S8x8, .i1⟩
  | 96 => ⟨S_, .f32⟩
  | 97 => ⟨S8x8, .f32⟩
  | 98 => ⟨S8x8, .f32⟩
  | 99 => ⟨S1x8x8, .f32⟩
  | 100 => ⟨S16x1x1, .f32⟩
  | 101 => ⟨S16x8x8, .f32⟩
  | 102 => ⟨S16x8x8, .f32⟩
  | 103 => ⟨S16x8x8, .f32⟩
  | 104 => ⟨S16x8x8, .f32⟩
  | 105 => ⟨S_, .f32⟩
  | 106 => ⟨S_, .f32⟩
  | 107 => ⟨S16x8x8, .i1⟩
  | 108 => ⟨S16x8x8, .f32⟩
  | 109 => ⟨S16x8x8, .f32⟩
  | 110 => ⟨S_, .f32⟩
  | 111 => ⟨S8, .f32⟩
  | 112 => ⟨S8, .f32⟩
  | 113 => ⟨S1x8, .f32⟩
  | 114 => ⟨S16x1, .f32⟩
  | 115 => ⟨S16x8, .f32⟩
  | 116 => ⟨S16x8, .f32⟩
  | 117 => ⟨S16x8, .f32⟩
  | 118 => ⟨S16x8, .f32⟩
  | 119 => ⟨S_, .f32⟩
  | 120 => ⟨S8, .f32⟩
  | 121 => ⟨S8, .f32⟩
  | 122 => ⟨S1x8, .f32⟩
  | 123 => ⟨S16x1, .f32⟩
  | 124 => ⟨S16x8, .f32⟩
  | 125 => ⟨S16x8, .f32⟩
  | 126 => ⟨S16x8, .f32⟩
  | 127 => ⟨S16x8, .f32⟩
  | _ => ⟨S8x8x24576, .f32⟩

abbrev hbmTy0_1 (i : Nat) : BufTy := match i % 128 with
  | 0 => ⟨S_, .f32⟩
  | 1 => ⟨S16, .f32⟩
  | 2 => ⟨S16, .f32⟩
  | 3 => ⟨S16, .f32⟩
  | 4 => ⟨S8x1x8x16x256, .f32⟩
  | 5 => ⟨S1x8x16x8x256, .f32⟩
  | 6 => ⟨S8x1x8x16x256, .f32⟩
  | 7 => ⟨S1x8x16x8x256, .f32⟩
  | 8 => ⟨S8x1x8x16x512, .f32⟩
  | 9 => ⟨S1x8x16x8x512, .f32⟩
  | 10 => ⟨S_, .f32⟩
  | 11 => ⟨S1x8x16x8x512, .f32⟩
  | 12 => ⟨S_, .i32⟩
  | 13 => ⟨S1x8x16x8x256, .f32⟩
  | 14 => ⟨S1x8x16x8x256, .f32⟩
  | 15 => ⟨S1x8x16x8x512, .f32⟩
  | 16 => ⟨S16x8x8, .f32⟩
  | 17 => ⟨S16x8, .f32⟩
  | 18 => ⟨S16, .f32⟩
  | 19 => ⟨S16x8, .f32⟩
  | 20 => ⟨S_, .i32⟩
  | 21 => ⟨S8x16x256x512, .f32⟩
  | 22 => ⟨S1x8x16x8x512, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S1x8x16x8x256, .f32⟩
  | 30 => ⟨S8x16x8x256, .f32⟩
  | 31 => ⟨S_, .i32⟩
  | 32 => ⟨S_, .i32⟩
  | 33 => ⟨S_, .i32⟩
  | 34 => ⟨S_, .i32⟩
  | 35 => ⟨S1x8x16x8x256, .f32⟩
  | 36 => ⟨S8x16x8x256, .f32⟩
  | 37 => ⟨S_, .i32⟩
  | 38 => ⟨S_, .i32⟩
  | 39 => ⟨S_, .i32⟩
  | 40 => ⟨S_, .i32⟩
  | 41 => ⟨S1x8x16x8x512, .f32⟩
  | 42 => ⟨S8x16x8x512, .f32⟩
  | 43 => ⟨S8x16x8x8, .f32⟩
  | 44 => ⟨S1x16x8x8, .f32⟩
  | 45 => ⟨S8x16x8x8, .f32⟩
  | 46 => ⟨S8x16x8x8, .f32⟩
  | 47 => ⟨S8x16x8x512, .f32⟩
  | 48 => ⟨S16x8x1, .f32⟩
  | 49 => ⟨S1x16x8x1, .f32⟩
  | 50 => ⟨S8x16x8x256, .f32⟩
  | 51 => ⟨S8x16x8x256, .f32⟩
  | 52 => ⟨S8x16x8x512, .f32⟩
  | 53 => ⟨S8x16x8x512, .f32⟩
  | 54 => ⟨S16x1x1, .f32⟩
  | 55 => ⟨S1x16x1x1, .f32⟩
  | 56 => ⟨S8x16x256x512, .f32⟩
  | 57 => ⟨S8x16x256x512, .f32⟩
  | 58 => ⟨S16x8x1, .f32⟩
  | 59 => ⟨S1x16x8x1, .f32⟩
  | 60 => ⟨S8x16x8x256, .f32⟩
  | 61 => ⟨S8x16x8x256, .f32⟩
  | 62 => ⟨S8x16x256x512, .f32⟩
  | 63 => ⟨S8x16x256x512, .f32⟩
  | 64 => ⟨S1x8x16x8x512, .f32⟩
  | 65 => ⟨S_, .i32⟩
  | 66 => ⟨S_, .i32⟩
  | 67 => ⟨S_, .i32⟩
  | 68 => ⟨S_, .i32⟩
  | 69 => ⟨S1x8x16x8x512, .f32⟩
  | 70 => ⟨S_, .i32⟩
  | 71 => ⟨S_, .i32⟩
  | 72 => ⟨S8x1x8x16x512, .f32⟩
  | 73 => ⟨S8x8x16x512, .f32⟩
  | 74 => ⟨S8x8x16x512, .f32⟩
  | 75 => ⟨S_, .f32⟩
  | 76 => ⟨S8x8x16, .f32⟩
  | 77 => ⟨S8x8x16x1, .f32⟩
  | 78 => ⟨S_, .f32⟩
  | 79 => ⟨S8x8x16x1, .f32⟩
  | 80 => ⟨S8x8x16x1, .f32⟩
  | 81 => ⟨S_, .f32⟩
  | 82 => ⟨S8x8x16x1, .f32⟩
  | 83 => ⟨S8x8x16x1, .f32⟩
  | 84 => ⟨S8x8x16x1, .f32⟩
  | 85 => ⟨S8x8x16x512, .f32⟩
  | 86 => ⟨S8x8x16x512, .f32⟩
  | 87 => ⟨S8x8x8192, .f32⟩
  | 88 => ⟨S8x8x8192, .f32⟩
  | 89 => ⟨S8x8x8192, .f32⟩
  | 90 => ⟨S8x8x8192, .f32⟩
  | 91 => ⟨S_, .f32⟩
  | 92 => ⟨S8x8x8192, .f32⟩
  | 93 => ⟨S8x8x8192, .f32⟩
  | 94 => ⟨S_, .f32⟩
  | 95 => ⟨S8x8x8192, .f32⟩
  | 96 => ⟨S8x8x8192, .f32⟩
  | 97 => ⟨S8x8x8192, .f32⟩
  | 98 => ⟨S8x8x8192, .f32⟩
  | 99 => ⟨S8x8x8192, .bf16⟩
  | _ => ⟨S8x8x24576, .f32⟩

abbrev hbmTy (i : Nat) : BufTy := match i / 128 with
  | 0 => hbmTy0_0 i
  | 1 => hbmTy0_1 i
  | _ => ⟨S8x8x24576, .f32⟩

abbrev bufTy : (tb : Table) → Fin (tcTables nBuf tb) → BufTy
  | .hbm, ⟨i, _⟩ => hbmTy i
  | _, _ => ⟨S8x8x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_3 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_4 : Ref sig .tc := ⟨.hbm, 79, rfl⟩
abbrev main_v71 : Ref sig .tc := ⟨.hbm, 80, rfl⟩
abbrev main_v72 : Ref sig .tc := ⟨.hbm, 81, rfl⟩
abbrev main_cst_5 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_cst_6 : Ref sig .tc := ⟨.hbm, 93, rfl⟩
abbrev main_v83 : Ref sig .tc := ⟨.hbm, 94, rfl⟩
abbrev main_v84 : Ref sig .tc := ⟨.hbm, 95, rfl⟩
abbrev main_cst_7 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v93 : Ref sig .tc := ⟨.hbm, 109, rfl⟩
abbrev main_cst_9 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_10 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_cst_11 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_12 : Ref sig .tc := ⟨.hbm, 138, rfl⟩
abbrev main_v119 : Ref sig .tc := ⟨.hbm, 139, rfl⟩
abbrev main_c_13 : Ref sig .tc := ⟨.hbm, 140, rfl⟩
abbrev main_v120_0 : Ref sig .tc := ⟨.hbm, 141, rfl⟩
abbrev main_v120_1 : Ref sig .tc := ⟨.hbm, 142, rfl⟩
abbrev main_v120_2 : Ref sig .tc := ⟨.hbm, 143, rfl⟩
abbrev main_v120_3 : Ref sig .tc := ⟨.hbm, 144, rfl⟩
abbrev main_v120_4 : Ref sig .tc := ⟨.hbm, 145, rfl⟩
abbrev main_v120_5 : Ref sig .tc := ⟨.hbm, 146, rfl⟩
abbrev main_v120_6 : Ref sig .tc := ⟨.hbm, 147, rfl⟩
abbrev main_v120_7 : Ref sig .tc := ⟨.hbm, 148, rfl⟩
abbrev main_v120_8 : Ref sig .tc := ⟨.hbm, 149, rfl⟩
abbrev main_v120_9 : Ref sig .tc := ⟨.hbm, 150, rfl⟩
abbrev main_while0c_c_26 : Ref sig .tc := ⟨.hbm, 151, rfl⟩
abbrev main_while0c_v138 : Ref sig .tc := ⟨.hbm, 152, rfl⟩
abbrev main_while0b_call1_c : Ref sig .tc := ⟨.hbm, 153, rfl⟩
abbrev main_while0b_call1_c_0 : Ref sig .tc := ⟨.hbm, 154, rfl⟩
abbrev main_while0b_call1_c_1 : Ref sig .tc := ⟨.hbm, 155, rfl⟩
abbrev main_while0b_call1_c_2 : Ref sig .tc := ⟨.hbm, 156, rfl⟩
abbrev main_while0b_call1_v0 : Ref sig .tc := ⟨.hbm, 157, rfl⟩
abbrev main_while0b_v138 : Ref sig .tc := ⟨.hbm, 158, rfl⟩
abbrev main_while0b_call2_c : Ref sig .tc := ⟨.hbm, 159, rfl⟩
abbrev main_while0b_call2_c_0 : Ref sig .tc := ⟨.hbm, 160, rfl⟩
abbrev main_while0b_call2_c_1 : Ref sig .tc := ⟨.hbm, 161, rfl⟩
abbrev main_while0b_call2_c_2 : Ref sig .tc := ⟨.hbm, 162, rfl⟩
abbrev main_while0b_call2_v0 : Ref sig .tc := ⟨.hbm, 163, rfl⟩
abbrev main_while0b_v139 : Ref sig .tc := ⟨.hbm, 164, rfl⟩
abbrev main_while0b_call3_c : Ref sig .tc := ⟨.hbm, 165, rfl⟩
abbrev main_while0b_call3_c_0 : Ref sig .tc := ⟨.hbm, 166, rfl⟩
abbrev main_while0b_call3_c_1 : Ref sig .tc := ⟨.hbm, 167, rfl⟩
abbrev main_while0b_call3_c_2 : Ref sig .tc := ⟨.hbm, 168, rfl⟩
abbrev main_while0b_call3_v0 : Ref sig .tc := ⟨.hbm, 169, rfl⟩
abbrev main_while0b_v140 : Ref sig .tc := ⟨.hbm, 170, rfl⟩
abbrev main_while0b_v141 : Ref sig .tc := ⟨.hbm, 171, rfl⟩
abbrev main_while0b_v142 : Ref sig .tc := ⟨.hbm, 172, rfl⟩
abbrev main_while0b_v143 : Ref sig .tc := ⟨.hbm, 173, rfl⟩
abbrev main_while0b_v144 : Ref sig .tc := ⟨.hbm, 174, rfl⟩
abbrev main_while0b_v145 : Ref sig .tc := ⟨.hbm, 175, rfl⟩
abbrev main_while0b_v146 : Ref sig .tc := ⟨.hbm, 176, rfl⟩
abbrev main_while0b_v147 : Ref sig .tc := ⟨.hbm, 177, rfl⟩
abbrev main_while0b_v148 : Ref sig .tc := ⟨.hbm, 178, rfl⟩
abbrev main_while0b_v149 : Ref sig .tc := ⟨.hbm, 179, rfl⟩
abbrev main_while0b_v150 : Ref sig .tc := ⟨.hbm, 180, rfl⟩
abbrev main_while0b_v151 : Ref sig .tc := ⟨.hbm, 181, rfl⟩
abbrev main_while0b_v152 : Ref sig .tc := ⟨.hbm, 182, rfl⟩
abbrev main_while0b_v153 : Ref sig .tc := ⟨.hbm, 183, rfl⟩
abbrev main_while0b_v154 : Ref sig .tc := ⟨.hbm, 184, rfl⟩
abbrev main_while0b_v155 : Ref sig .tc := ⟨.hbm, 185, rfl⟩
abbrev main_while0b_v156 : Ref sig .tc := ⟨.hbm, 186, rfl⟩
abbrev main_while0b_v157 : Ref sig .tc := ⟨.hbm, 187, rfl⟩
abbrev main_while0b_v158 : Ref sig .tc := ⟨.hbm, 188, rfl⟩
abbrev main_while0b_v159 : Ref sig .tc := ⟨.hbm, 189, rfl⟩
abbrev main_while0b_v160 : Ref sig .tc := ⟨.hbm, 190, rfl⟩
abbrev main_while0b_v161 : Ref sig .tc := ⟨.hbm, 191, rfl⟩
abbrev main_while0b_call4_v0 : Ref sig .tc := ⟨.hbm, 192, rfl⟩
abbrev main_while0b_call4_c : Ref sig .tc := ⟨.hbm, 193, rfl⟩
abbrev main_while0b_call4_c_0 : Ref sig .tc := ⟨.hbm, 194, rfl⟩
abbrev main_while0b_call4_c_1 : Ref sig .tc := ⟨.hbm, 195, rfl⟩
abbrev main_while0b_call4_c_2 : Ref sig .tc := ⟨.hbm, 196, rfl⟩
abbrev main_while0b_v162 : Ref sig .tc := ⟨.hbm, 197, rfl⟩
abbrev main_while0b_c_26 : Ref sig .tc := ⟨.hbm, 198, rfl⟩
abbrev main_while0b_v163 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_cst_14 : Ref sig .tc := ⟨.hbm, 203, rfl⟩
abbrev main_v124 : Ref sig .tc := ⟨.hbm, 204, rfl⟩
abbrev main_v125 : Ref sig .tc := ⟨.hbm, 205, rfl⟩
abbrev main_cst_15 : Ref sig .tc := ⟨.hbm, 206, rfl⟩
abbrev main_v126 : Ref sig .tc := ⟨.hbm, 207, rfl⟩
abbrev main_v127 : Ref sig .tc := ⟨.hbm, 208, rfl⟩
abbrev main_cst_16 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_call5_v0 : Ref sig .tc := ⟨.hbm, 217, rfl⟩
abbrev main_call5_v1 : Ref sig .tc := ⟨.hbm, 218, rfl⟩
abbrev main_call5_cst : Ref sig .tc := ⟨.hbm, 219, rfl⟩
abbrev main_call5_v2 : Ref sig .tc := ⟨.hbm, 220, rfl⟩
abbrev main_call5_v3 : Ref sig .tc := ⟨.hbm, 221, rfl⟩
abbrev main_call5_cst_0 : Ref sig .tc := ⟨.hbm, 222, rfl⟩
abbrev main_call5_v4 : Ref sig .tc := ⟨.hbm, 223, rfl⟩
abbrev main_call5_v5 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩

abbrev nD : Nat := 1
abbrev τ : Topo := Topo.v7x

variable {F : FTy → Type} [FloatOps F]

abbrev main_while0_count : Scf.Loop 32 := ⟨0#32, 1#32, 1#32⟩
-- ==== Proof.RetPure.lean ====
module

public import Idealize.ShloMosaic.Lib.Pipeline.ValueKit

@[expose] public section

noncomputable section

namespace Cert.Retention

open Idealize.ShloMosaic

/-- An array of three axes read at natural coordinates, zero outside. -/
def rd3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- A read of an array of three axes is the read at the values of its coordinates. -/
theorem rd3_ix3 {a b c : ℕ} (x : (⟨3, ![a, b, c]⟩ : Shape).Idx → EReal) (i : Fin a) (j : Fin b) (k : Fin c) :
    x (ix3 i j k) = rd3 x i j k := by
  simp [rd3]

/-- A read of an array of three axes at any index is the read at the values of the index's coordinates. -/
theorem rd3_idx {a b c : ℕ} (x : (⟨3, ![a, b, c]⟩ : Shape).Idx → EReal) (y : (⟨3, ![a, b, c]⟩ : Shape).Idx) :
    x y = rd3 x (y 0).val (y 1).val (y 2).val := by
  conv_lhs => rw [eq_ix3 y]
  exact rd3_ix3 x (y 0) (y 1) (y 2)

/-- An array of four axes read at natural coordinates, zero outside. -/
def rd4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

/-- A read of an array of four axes is the read at the values of its coordinates. -/
theorem rd4_ix4 {a b c d : ℕ} (x : (⟨4, ![a, b, c, d]⟩ : Shape).Idx → EReal) (i : Fin a) (j : Fin b) (k : Fin c) (l : Fin d) :
    x (ix4 i j k l) = rd4 x i j k l := by
  simp [rd4]

/-- A read of an array of four axes at any index is the read at the values of the index's coordinates. -/
theorem rd4_idx {a b c d : ℕ} (x : (⟨4, ![a, b, c, d]⟩ : Shape).Idx → EReal) (y : (⟨4, ![a, b, c, d]⟩ : Shape).Idx) :
    x y = rd4 x (y 0).val (y 1).val (y 2).val (y 3).val := by
  conv_lhs => rw [eq_ix4 y]
  exact rd4_ix4 x (y 0) (y 1) (y 2) (y 3)

/-- A sum over a padded range is the sum over the range, when the padding adds nothing. -/
theorem sum_pad {n N : ℕ} (hn : n ≤ N) (g : Fin N → EReal) (f : Fin n → EReal) (hg : ∀ j : Fin n, g ⟨j, by omega⟩ = f j)
    (hz : ∀ j : Fin N, n ≤ j.val → g j = 0) : ∑ j, g j = ∑ j, f j := by
  obtain ⟨p, rfl⟩ := Nat.exists_eq_add_of_le hn
  rw [Fin.sum_univ_add, Finset.sum_eq_zero (s := (Finset.univ : Finset (Fin p))) (fun j _ => hz _ (by simp)), add_zero]
  exact Finset.sum_congr rfl fun j _ => hg j

/-- A natural number's word, as a float. -/
def W (n : ℕ) : EReal := FloatOps.sitofp (F := Ideal) FTy.f32 (BitVec.ofNat 32 n)

/-- What one retention reads: the projected queries, keys, values and gates by batch, token and column, the
    positions of the tokens, the length of a chunk (and, as floats, the length and the last token's number),
    and the state before the first chunk. -/
structure Data where
  X : ℕ → ℕ → ℕ → EReal
  P : ℕ → EReal
  len : ℕ
  lenE : EReal
  lastE : EReal
  S0 : ℕ → ℕ → ℕ → ℕ → EReal

namespace Data

variable (D : Data)

/-- The logarithm of a head's decay. -/
def lgam (h : ℕ) : EReal :=
  Ideal.log1p (-Ideal.pow (Ideal.ofBits FTy.f32 1073741824#32) (Ideal.ofBits FTy.f32 3231711232#32 - W h))

/-- The angle of lane `d` at token `n`. -/
def ang (n d : ℕ) : EReal :=
  D.P n * Ideal.pow (Ideal.ofBits FTy.f32 1176256512#32) (Ideal.div (-W d) (Ideal.ofBits FTy.f32 1124073472#32))

/-- The decay mask between two tokens of one chunk. -/
def mask (h i j : ℕ) : EReal :=
  if 0 ≤ W i - W j then Ideal.exp (max (W i - W j) 0 * lgam h) else 0

/-- The decay from the chunk's start to a token. -/
def qd (h i : ℕ) : EReal := Ideal.exp ((W i + 1) * lgam h)

/-- The decay from a token to the chunk's end. -/
def kd (h i : ℕ) : EReal := Ideal.exp ((D.lastE - W i) * lgam h)

/-- The decay over one chunk. -/
def cd (h : ℕ) : EReal := Ideal.exp (D.lenE * lgam h)

/-- The rotation of a row by the angles of token `n`. -/
def rot (n : ℕ) (f : ℕ → EReal) (d : ℕ) : EReal :=
  if d < 128 then f d * Ideal.cos (D.ang n d) - f (128 + d) * Ideal.sin (D.ang n d)
  else f (d - 128) * Ideal.sin (D.ang n (d - 128)) + f (128 + (d - 128)) * Ideal.cos (D.ang n (d - 128))

/-- The rotated query. -/
def Q (b n h d : ℕ) : EReal := D.rot n (fun d => D.X b n (h * 256 + d)) d

/-- The rotated and scaled key. -/
def K (b n h d : ℕ) : EReal :=
  D.rot n (fun d => D.X b n (4096 + (h * 256 + d))) d * Ideal.ofBits FTy.f32 1031798784#32

/-- The value. -/
def V (b n h e : ℕ) : EReal := D.X b n (8192 + (h * 512 + e))

/-- The gate. -/
def G (b n h e : ℕ) : EReal := D.X b n (16384 + (h * 512 + e))

/-- One step of the state: decayed over the chunk, the chunk's keys and values added. -/
def upd (b h k : ℕ) (s : ℕ → ℕ → EReal) (d e : ℕ) : EReal :=
  s d e * D.cd h + ∑ j : Fin D.len, D.K b (k * D.len + j) h d * D.kd h j * D.V b (k * D.len + j) h e

/-- The state before chunk `k`. -/
def S (b h : ℕ) : ℕ → ℕ → ℕ → EReal
  | 0 => D.S0 b h
  | k + 1 => D.upd b h k (S b h k)

/-- What chunk `k` gives at its token `i`: the attention inside the chunk and the state's part. -/
def O (b h k i e : ℕ) : EReal :=
  ∑ j : Fin D.len, (∑ d : Fin 256, D.Q b (k * D.len + i) h d * D.K b (k * D.len + j) h d) * mask h i j
      * D.V b (k * D.len + j) h e
    + ∑ d : Fin 256, D.Q b (k * D.len + i) h d * qd h i * D.S b h k d e

/-- The result of chunk `k` at its token `i`: normalised over the head and gated. -/
def out (b h k i e : ℕ) : EReal :=
  D.G b (k * D.len + i) h e * Ideal.logistic (D.G b (k * D.len + i) h e)
    * (D.O b h k i e * Ideal.rsqrt
        (Ideal.div (∑ x : Fin 512, D.O b h k i x * D.O b h k i x) (Ideal.ofBits FTy.f32 1140850688#32)
          + Ideal.ofBits FTy.f32 897988541#32))

end Data

/-- The prompt's retention over a projected array: chunks of 128, positions from zero, no state before. -/
def prompt (x : (⟨3, ![4, 2048, 24576]⟩ : Shape).Idx → EReal) : Data where
  X := rd3 x
  P := W
  len := 128
  lenE := Ideal.ofBits FTy.f32 1124073472#32
  lastE := Ideal.ofBits FTy.f32 1123942400#32
  S0 := fun _ _ _ _ => 0

/-- The sample's retention over a projected array and the states before: one chunk of 8, positions from 16384. -/
def sample (x : (⟨3, ![8, 8, 24576]⟩ : Shape).Idx → EReal) (s : (⟨4, ![8, 16, 256, 512]⟩ : Shape).Idx → EReal) : Data where
  X := rd3 x
  P := fun n => FloatOps.sitofp (F := Ideal) FTy.f32 (16384#32 + BitVec.ofNat 32 n)
  len := 8
  lenE := Ideal.ofBits FTy.f32 1090519040#32
  lastE := Ideal.ofBits FTy.f32 1088421888#32
  S0 := rd4 s

end Cert.Retention

end
-- ==== Proof.RetKer.lean ====
module

public import proofs.«01_k».proof.Proof.Gen.RetIdeal.Value
public import proofs.«01_k».proof.Proof.RetPure
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RetIdeal.Value

open Cert.RetIdeal Cert.RetIdeal.Gen Cert.Retention Idealize.ShloMosaic Idealize.ShloMosaic.TcCoe Idealize.SL.Sem

/-- A loaded query block, rotated by the point's tables, is the rotated query (the four heads' loads). -/
theorem q_read (D : Data) (b n0 h : ℕ) (x : Vec Ideal S1x128x256 .f32) (cos sin : Vec Ideal S128x128 .f32)
    (hx : ∀ r d, x (ix3 0 r d) = D.X b (n0 + r) (h * 256 + d))
    (hc : ∀ r d, cos (ix2 r d) = Ideal.cos (D.ang (n0 + r) d))
    (hs : ∀ r d, sin (ix2 r d) = Ideal.sin (D.ang (n0 + r) d)) (r : Fin 128) (d : Fin 256) :
    k0_pay6 cos sin x (ix2 r d) = D.Q b (n0 + r) h d ∧ k0_pay10 cos sin x (ix2 r d) = D.Q b (n0 + r) h d
    ∧ k0_pay15 (k0_pay4 cos) (k0_pay5 sin) x (ix2 r d) = D.Q b (n0 + r) h d
    ∧ k0_pay23 (k0_pay4 cos) (k0_pay5 sin) x (ix2 r d) = D.Q b (n0 + r) h d
    ∧ k0_pay32 (k0_pay4 cos) (k0_pay5 sin) x (ix2 r d) = D.Q b (n0 + r) h d := by
  refine ⟨?_, ?_, ?_, ?_, ?_⟩ <;>
    (pointwise! [k0_pay6, k0_pay10, k0_pay15, k0_pay23, k0_pay32, k0_pay4, k0_pay5]
     simp only [hx, hc, hs]; rfl)

/-- A loaded key block, rotated by the point's tables and scaled, is the rotated key (the four heads' loads). -/
theorem k_read (D : Data) (b n0 h : ℕ) (x : Vec Ideal S1x128x256 .f32) (cos sin : Vec Ideal S128x128 .f32)
    (hx : ∀ r d, x (ix3 0 r d) = D.X b (n0 + r) (4096 + (h * 256 + d)))
    (hc : ∀ r d, cos (ix2 r d) = Ideal.cos (D.ang (n0 + r) d))
    (hs : ∀ r d, sin (ix2 r d) = Ideal.sin (D.ang (n0 + r) d)) (r : Fin 128) (d : Fin 256) :
    k0_pay7 cos sin x (ix2 r d) = D.K b (n0 + r) h d
    ∧ k0_pay16 (k0_pay4 cos) (k0_pay5 sin) x (ix2 r d) = D.K b (n0 + r) h d
    ∧ k0_pay24 (k0_pay4 cos) (k0_pay5 sin) x (ix2 r d) = D.K b (n0 + r) h d
    ∧ k0_pay33 (k0_pay4 cos) (k0_pay5 sin) x (ix2 r d) = D.K b (n0 + r) h d := by
  refine ⟨?_, ?_, ?_, ?_⟩ <;>
    (pointwise! [k0_pay7, k0_pay16, k0_pay24, k0_pay33, k0_pay4, k0_pay5]
     simp only [hx, hc, hs]; rfl)

/-- A head's stored state is the state after the chunk (the four heads' stores). -/
theorem upd_read (X : S4x2048x24576.Idx → EReal) (b h k : ℕ) (kk : FVec Ideal S128x256 .f32) (vv : FVec Ideal S128x512 .bf16)
    (s : Vec Ideal S1x256x512 .f32) (kd : Vec Ideal S1x128x1 .f32) (cd : Vec Ideal S1x1x1 .f32)
    (hk : ∀ r d, kk (ix2 r d) = (prompt X).K b (k * 128 + r) h d)
    (hv : ∀ r e, vv (ix2 r e) = (prompt X).V b (k * 128 + r) h e)
    (hs : ∀ d e, s (ix3 0 d e) = (prompt X).S b h k d e)
    (hkd : ∀ r, kd (ix3 0 r 0) = (prompt X).kd h r) (hcd : cd (ix3 0 0 0) = (prompt X).cd h) (x : S1x256x512.Idx) :
    k0_pay12 kk vv (k0_pay9 s) kd cd x = (prompt X).S b h (k + 1) (x 1) (x 2)
    ∧ k0_pay20 kk vv s kd cd x = (prompt X).S b h (k + 1) (x 1) (x 2)
    ∧ k0_pay28 kk vv s kd cd x = (prompt X).S b h (k + 1) (x 1) (x 2)
    ∧ k0_pay37 kk vv s kd cd x = (prompt X).S b h (k + 1) (x 1) (x 2) := by
  idx_vars x
  refine ⟨?_, ?_, ?_, ?_⟩ <;>
    (pointwise! [k0_pay12, k0_pay20, k0_pay28, k0_pay37, k0_pay9, k0_pay18, k0_pay26, k0_pay35]
     simp only [hk, hv, hs, hkd, hcd]; rfl)

/-- A head's output before the normalisation is the chunk's attention and the state's part (the four heads). -/
theorem o_read (X : S4x2048x24576.Idx → EReal) (b h k : ℕ) (qq qb kk : FVec Ideal S128x256 .f32)
    (vv : FVec Ideal S128x512 .bf16) (s : Vec Ideal S1x256x512 .f32) (mk : Vec Ideal S1x128x128 .f32) (qd : Vec Ideal S1x128x1 .f32)
    (hq : ∀ r d, qq (ix2 r d) = (prompt X).Q b (k * 128 + r) h d)
    (hqb : ∀ r d, qb (ix2 r d) = (prompt X).Q b (k * 128 + r) h d)
    (hk : ∀ r d, kk (ix2 r d) = (prompt X).K b (k * 128 + r) h d)
    (hv : ∀ r e, vv (ix2 r e) = (prompt X).V b (k * 128 + r) h e)
    (hs : ∀ d e, s (ix3 0 d e) = (prompt X).S b h k d e)
    (hmk : ∀ i j, mk (ix3 0 i j) = Data.mask h i j) (hqd : ∀ r, qd (ix3 0 r 0) = Data.qd h r) (r : Fin 128) (e : Fin 512) :
    k0_pay11 qq kk vv (k0_pay9 s) qb mk qd (ix2 r e) = (prompt X).O b h k r e
    ∧ k0_pay19 qq kk vv s mk qd (ix2 r e) = (prompt X).O b h k r e
    ∧ k0_pay27 qq kk vv s mk qd (ix2 r e) = (prompt X).O b h k r e
    ∧ k0_pay36 qq kk vv s mk qd (ix2 r e) = (prompt X).O b h k r e := by
  refine ⟨?_, ?_, ?_, ?_⟩ <;>
    (pointwise! [k0_pay11, k0_pay19, k0_pay27, k0_pay36, k0_pay9, k0_pay18, k0_pay26, k0_pay35]
     simp only [hq, hqb, hk, hv, hs, hmk, hqd]; rfl)

/-- A head's stored output is the normalised and gated output of the chunk (the four heads' stores). -/
theorem out_read (X : S4x2048x24576.Idx → EReal) (b h k : ℕ) (qq qb kk : FVec Ideal S128x256 .f32)
    (vv : FVec Ideal S128x512 .bf16) (s : Vec Ideal S1x256x512 .f32) (mk : Vec Ideal S1x128x128 .f32) (qd : Vec Ideal S1x128x1 .f32)
    (g : Vec Ideal S1x128x512 .f32)
    (hq : ∀ r d, qq (ix2 r d) = (prompt X).Q b (k * 128 + r) h d)
    (hqb : ∀ r d, qb (ix2 r d) = (prompt X).Q b (k * 128 + r) h d)
    (hk : ∀ r d, kk (ix2 r d) = (prompt X).K b (k * 128 + r) h d)
    (hv : ∀ r e, vv (ix2 r e) = (prompt X).V b (k * 128 + r) h e)
    (hs : ∀ d e, s (ix3 0 d e) = (prompt X).S b h k d e)
    (hmk : ∀ i j, mk (ix3 0 i j) = Data.mask h i j) (hqd : ∀ r, qd (ix3 0 r 0) = Data.qd h r)
    (hg : ∀ r e, g (ix3 0 r e) = (prompt X).G b (k * 128 + r) h e) (x : S1x128x512.Idx) :
    k0_pay14 (k0_pay11 qq kk vv (k0_pay9 s) qb mk qd) (k0_pay13 qq kk vv (k0_pay9 s) qb mk qd) g x
        = (prompt X).out b h k (x 1) (x 2)
    ∧ k0_pay22 (k0_pay19 qq kk vv s mk qd) (k0_pay21 qq kk vv s mk qd) (Scalar.ofBits .f32 0x358637BD#32) g x
        = (prompt X).out b h k (x 1) (x 2)
    ∧ k0_pay31 (k0_pay27 qq kk vv s mk qd) (k0_pay29 qq kk vv s mk qd) (k0_pay30 (F := Ideal)) g x
        = (prompt X).out b h k (x 1) (x 2)
    ∧ k0_pay1 (k0_pay36 qq kk vv s mk qd) (k0_pay38 qq kk vv s mk qd) g x = (prompt X).out b h k (x 1) (x 2) := by
  idx_vars x
  have ho := fun r e => o_read X b h k qq qb kk vv s mk qd hq hqb hk hv hs hmk hqd r e
  refine ⟨?_, ?_, ?_, ?_⟩ <;>
    (pointwise! [k0_pay14, k0_pay22, k0_pay31, k0_pay1, k0_pay13, k0_pay21, k0_pay29, k0_pay30, k0_pay38]
     simp only [fun r e => (ho r e).1, fun r e => (ho r e).2.1, fun r e => (ho r e).2.2.1, fun r e => (ho r e).2.2.2, hg]; rfl)

end Cert.RetIdeal.Value
end
-- ==== Proof.RetLd.lean ====
/- The retention's blocks for any number of rows: what the blocks of one grid point hold, and what each head's loads read of them. -/
module

public import proofs.«01_k».proof.Proof.RetPure
public import Idealize.ShloMosaic.Lib.Pipeline.ValueKit
public import Idealize.ShloMosaic.Lib.Pipeline.ReadBack

@[expose] public section

noncomputable section

namespace Cert.Retention

open Idealize.ShloMosaic

/-- What the blocks of one grid point hold, in the retention's own words: batch `b`, head group `hi`, chunk `k`, with `R` rows to
    a chunk and tables of 128 rows, of which the first `R` matter. -/
structure Blk (D : Data) {R : ℕ} (b hi k : ℕ) (x0 x1 : Vec Ideal ⟨3, ![1, R, 1024]⟩ .f32) (x2 x3 : Vec Ideal ⟨3, ![1, R, 2048]⟩ .f32)
    (x4 x5 : Vec Ideal ⟨2, ![128, 128]⟩ .f32) (x6 : Vec Ideal ⟨3, ![4, 128, 128]⟩ .f32) (x7 x8 : Vec Ideal ⟨3, ![4, 128, 1]⟩ .f32)
    (x9 : Vec Ideal ⟨3, ![4, 1, 1]⟩ .f32) : Prop where
  fq : ∀ (r : Fin R) (x : Fin 1024), x0 (ix3 0 r x) = D.X b (k * D.len + r) (hi * 1024 + x)
  fk : ∀ (r : Fin R) (x : Fin 1024), x1 (ix3 0 r x) = D.X b (k * D.len + r) (4096 + (hi * 1024 + x))
  fv : ∀ (r : Fin R) (x : Fin 2048), x2 (ix3 0 r x) = D.X b (k * D.len + r) (8192 + (hi * 2048 + x))
  fg : ∀ (r : Fin R) (x : Fin 2048), x3 (ix3 0 r x) = D.X b (k * D.len + r) (16384 + (hi * 2048 + x))
  fc : ∀ (r d : Fin 128), r.val < R → x4 (ix2 r d) = Ideal.cos (D.ang (k * D.len + r) d)
  fs : ∀ (r d : Fin 128), r.val < R → x5 (ix2 r d) = Ideal.sin (D.ang (k * D.len + r) d)
  fmsk : ∀ (a : Fin 4) (i j : Fin 128), i.val < R → j.val < R → x6 (ix3 a i j) = Data.mask (hi * 4 + a) i j
  fqd : ∀ (a : Fin 4) (i : Fin 128), i.val < R → x7 (ix3 a i 0) = Data.qd (hi * 4 + a) i
  fkd : ∀ (a : Fin 4) (i : Fin 128), i.val < R → x8 (ix3 a i 0) = D.kd (hi * 4 + a) i
  fcd : ∀ a : Fin 4, x9 (ix3 a 0 0) = D.cd (hi * 4 + a)

/-- A load of some rows, lanes and columns of a block of three axes, at an index. -/
theorem ld3 {n0 n1 n2 m0 m1 m2 : ℕ} (x : Vec Ideal ⟨3, ![n0, n1, n2]⟩ .f32) (o0 o1 o2 : ℕ) (inb) (a : Fin m0) (b : Fin m1) (c : Fin m2)
    (h0 : o0 + a < n0) (h1 : o1 + b < n1) (h2 : o2 + c < n2) :
    View.ld x (Rect.unit (s := ⟨3, ![n0, n1, n2]⟩) ![o0, o1, o2] ![m0, m1, m2] inb) (ix3 a b c)
      = x (ix3 ⟨o0 + a, h0⟩ ⟨o1 + b, h1⟩ ⟨o2 + c, h2⟩) :=
  View.ld_unit_apply_of x _ _ inb _ _ (by intro i; fin_cases i <;> rfl)

section
variable {D : Data} {R b hi k : ℕ} {x0 x1 : Vec Ideal ⟨3, ![1, R, 1024]⟩ .f32} {x2 x3 : Vec Ideal ⟨3, ![1, R, 2048]⟩ .f32}
  {x4 x5 : Vec Ideal ⟨2, ![128, 128]⟩ .f32} {x6 : Vec Ideal ⟨3, ![4, 128, 128]⟩ .f32} {x7 x8 : Vec Ideal ⟨3, ![4, 128, 1]⟩ .f32}
  {x9 : Vec Ideal ⟨3, ![4, 1, 1]⟩ .f32} (B : Blk D b hi k x0 x1 x2 x3 x4 x5 x6 x7 x8 x9)
include B

/-- A load of one head's queries. -/
theorem Blk.ldq (n : ℕ) (hn : n < 4) (o : ℕ) (ho : o = n * 256) (inb) (r : Fin R) (d : Fin 256) :
    View.ld x0 (Rect.unit (s := ⟨3, ![1, R, 1024]⟩) ![0, 0, o] ![1, R, 256] inb) (ix3 0 r d)
      = D.X b (k * D.len + r) ((hi * 4 + n) * 256 + d) := by
  rw [ld3 x0 0 0 o inb 0 r d (by simp) (by omega) (by omega)]
  refine (B.fq ⟨0 + r, by omega⟩ ⟨o + d, by omega⟩).trans ?_
  congr 1 <;> simp only <;> omega

/-- A load of one head's keys. -/
theorem Blk.ldk (n : ℕ) (hn : n < 4) (o : ℕ) (ho : o = n * 256) (inb) (r : Fin R) (d : Fin 256) :
    View.ld x1 (Rect.unit (s := ⟨3, ![1, R, 1024]⟩) ![0, 0, o] ![1, R, 256] inb) (ix3 0 r d)
      = D.X b (k * D.len + r) (4096 + ((hi * 4 + n) * 256 + d)) := by
  rw [ld3 x1 0 0 o inb 0 r d (by simp) (by omega) (by omega)]
  refine (B.fk ⟨0 + r, by omega⟩ ⟨o + d, by omega⟩).trans ?_
  congr 1 <;> simp only <;> omega

/-- A load of one head's values. -/
theorem Blk.ldv (n : ℕ) (hn : n < 4) (o : ℕ) (ho : o = n * 512) (inb) (r : Fin R) (d : Fin 512) :
    View.ld x2 (Rect.unit (s := ⟨3, ![1, R, 2048]⟩) ![0, 0, o] ![1, R, 512] inb) (ix3 0 r d)
      = D.X b (k * D.len + r) (8192 + ((hi * 4 + n) * 512 + d)) := by
  rw [ld3 x2 0 0 o inb 0 r d (by simp) (by omega) (by omega)]
  refine (B.fv ⟨0 + r, by omega⟩ ⟨o + d, by omega⟩).trans ?_
  congr 1 <;> simp only <;> omega

/-- A load of one head's gates. -/
theorem Blk.ldg (n : ℕ) (hn : n < 4) (o : ℕ) (ho : o = n * 512) (inb) (r : Fin R) (d : Fin 512) :
    View.ld x3 (Rect.unit (s := ⟨3, ![1, R, 2048]⟩) ![0, 0, o] ![1, R, 512] inb) (ix3 0 r d)
      = D.X b (k * D.len + r) (16384 + ((hi * 4 + n) * 512 + d)) := by
  rw [ld3 x3 0 0 o inb 0 r d (by simp) (by omega) (by omega)]
  refine (B.fg ⟨0 + r, by omega⟩ ⟨o + d, by omega⟩).trans ?_
  congr 1 <;> simp only <;> omega

/-- A load of one head's decay mask. -/
theorem Blk.ldmk (n : ℕ) (hn : n < 4) (inb) (i j : Fin 128) (hi' : i.val < R) (hj : j.val < R) :
    View.ld x6 (Rect.unit (s := ⟨3, ![4, 128, 128]⟩) ![n, 0, 0] ![1, 128, 128] inb) (ix3 0 i j) = Data.mask (hi * 4 + n) i j := by
  rw [ld3 x6 n 0 0 inb 0 i j (by simpa using hn) (by omega) (by omega)]
  refine (B.fmsk ⟨n + 0, hn⟩ ⟨0 + i, by omega⟩ ⟨0 + j, by omega⟩ (by simpa using hi') (by simpa using hj)).trans ?_
  simp

/-- A load of one head's decays from the chunk's start. -/
theorem Blk.ldqd (n : ℕ) (hn : n < 4) (inb) (i : Fin 128) (hi' : i.val < R) :
    View.ld x7 (Rect.unit (s := ⟨3, ![4, 128, 1]⟩) ![n, 0, 0] ![1, 128, 1] inb) (ix3 0 i 0) = Data.qd (hi * 4 + n) i := by
  rw [ld3 x7 n 0 0 inb 0 i 0 (by simpa using hn) (by omega) (by simp)]
  refine (B.fqd ⟨n + 0, hn⟩ ⟨0 + i, by omega⟩ (by simpa using hi')).trans ?_
  simp

/-- A load of one head's decays to the chunk's end. -/
theorem Blk.ldkd (n : ℕ) (hn : n < 4) (inb) (i : Fin 128) (hi' : i.val < R) :
    View.ld x8 (Rect.unit (s := ⟨3, ![4, 128, 1]⟩) ![n, 0, 0] ![1, 128, 1] inb) (ix3 0 i 0) = D.kd (hi * 4 + n) i := by
  rw [ld3 x8 n 0 0 inb 0 i 0 (by simpa using hn) (by omega) (by simp)]
  refine (B.fkd ⟨n + 0, hn⟩ ⟨0 + i, by omega⟩ (by simpa using hi')).trans ?_
  simp

/-- A load of one head's decay over the chunk. -/
theorem Blk.ldcd (n : ℕ) (hn : n < 4) (inb) :
    View.ld x9 (Rect.unit (s := ⟨3, ![4, 1, 1]⟩) ![n, 0, 0] ![1, 1, 1] inb) (ix3 0 0 0) = D.cd (hi * 4 + n) := by
  rw [ld3 x9 n 0 0 inb 0 0 0 (by simpa using hn) (by simp) (by simp)]
  exact B.fcd ⟨n, hn⟩

end

/-- A load of one head's state from the states of a group. -/
theorem lds {f : ℕ → ℕ → ℕ → EReal} (s : Vec Ideal ⟨3, ![4, 256, 512]⟩ .f32) (hs : ∀ a d e, s (ix3 a d e) = f a d e)
    (n : ℕ) (hn : n < 4) (inb) (d : Fin 256) (e : Fin 512) :
    View.ld s (Rect.unit (s := ⟨3, ![4, 256, 512]⟩) ![n, 0, 0] ![1, 256, 512] inb) (ix3 0 d e) = f n d e := by
  rw [ld3 s n 0 0 inb 0 d e (by simpa using hn) (by omega) (by omega)]
  refine (hs ⟨n + 0, hn⟩ ⟨0 + d, by omega⟩ ⟨0 + e, by omega⟩).trans ?_
  simp

end Cert.Retention

end
-- ==== Proof.RetRun.lean ====
module

public import proofs.«01_k».proof.Proof.Gen.RetIdeal.Value
public import proofs.«01_k».proof.Proof.RetKer
public import proofs.«01_k».proof.Proof.RetLd
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RetIdeal.Value

open Cert.RetIdeal Cert.RetIdeal.Gen Cert.Retention Idealize.ShloMosaic Idealize.ShloMosaic.TcCoe Idealize.SL.Sem

/-- A loaded value block is the values (the four heads' loads). -/
theorem v_read (X : S4x2048x24576.Idx → EReal) (b n0 h : ℕ) (v : Vec Ideal S1x128x512 .f32)
    (hx : ∀ r e, v (ix3 0 r e) = (prompt X).X b (n0 + r) (8192 + (h * 512 + e))) (r : Fin 128) (e : Fin 512) :
    k0_pay34 v (ix2 r e) = (prompt X).V b (n0 + r) h e ∧ k0_pay25 v (ix2 r e) = (prompt X).V b (n0 + r) h e
    ∧ k0_pay17 v (ix2 r e) = (prompt X).V b (n0 + r) h e ∧ k0_pay8 v (ix2 r e) = (prompt X).V b (n0 + r) h e := by
  refine ⟨?_, ?_, ?_, ?_⟩ <;> (pointwise! [k0_pay34, k0_pay25, k0_pay17, k0_pay8]; exact hx r e)

/-- The four stores of the states are blocks of the states after the chunk. -/
theorem state_pieces {X : S4x2048x24576.Idx → EReal} {b hi k : ℕ} {x0 x1 : Vec Ideal S1x128x1024 .f32}
    {x2 x3 : Vec Ideal S1x128x2048 .f32} {x4 x5 : Vec Ideal S128x128 .f32} {x6 : Vec Ideal S4x128x128 .f32}
    {x7 x8 : Vec Ideal S4x128x1 .f32} {x9 : Vec Ideal S4x1x1 .f32}
    (B : Blk (prompt X) b hi k x0 x1 x2 x3 x4 x5 x6 x7 x8 x9) (s : Vec Ideal S4x256x512 .f32)
    (hs : ∀ a d e, s (ix3 a d e) = (prompt X).S b (hi * 4 + a) k d e) :
    View.PiecesOf (Val := Elt Ideal) (e := .f32) (fun y : S4x256x512.Idx => (prompt X).S b (hi * 4 + y 0) (k + 1) (y 1) (y 2))
      [⟨Rect.unit ![3, 0, 0] ![1, 256, 512] inb_S4x256x512_S1x256x512_3_0_0,
          k0_pay37
            (k0_pay33 (k0_pay4 x4) (k0_pay5 x5)
              (View.ld x1 (Rect.unit ![0, 0, 768] ![1, 128, 256] inb_S1x128x1024_S1x128x256_0_0_768)))
            (k0_pay34 (View.ld x2 (Rect.unit ![0, 0, 1536] ![1, 128, 512] inb_S1x128x2048_S1x128x512_0_0_1536)))
            (View.ld s (Rect.unit ![3, 0, 0] ![1, 256, 512] inb_S4x256x512_S1x256x512_3_0_0))
            (View.ld x8 (Rect.unit ![3, 0, 0] ![1, 128, 1] inb_S4x128x1_S1x128x1_3_0_0))
            (View.ld x9 (Rect.unit ![3, 0, 0] ![1, 1, 1] inb_S4x1x1_S1x1x1_3_0_0))⟩,
        ⟨Rect.unit ![2, 0, 0] ![1, 256, 512] inb_S4x256x512_S1x256x512_2_0_0,
          k0_pay28
            (k0_pay24 (k0_pay4 x4) (k0_pay5 x5)
              (View.ld x1 (Rect.unit ![0, 0, 512] ![1, 128, 256] inb_S1x128x1024_S1x128x256_0_0_512)))
            (k0_pay25 (View.ld x2 (Rect.unit ![0, 0, 1024] ![1, 128, 512] inb_S1x128x2048_S1x128x512_0_0_1024)))
            (View.ld s (Rect.unit ![2, 0, 0] ![1, 256, 512] inb_S4x256x512_S1x256x512_2_0_0))
            (View.ld x8 (Rect.unit ![2, 0, 0] ![1, 128, 1] inb_S4x128x1_S1x128x1_2_0_0))
            (View.ld x9 (Rect.unit ![2, 0, 0] ![1, 1, 1] inb_S4x1x1_S1x1x1_2_0_0))⟩,
        ⟨Rect.unit ![1, 0, 0] ![1, 256, 512] inb_S4x256x512_S1x256x512_1_0_0,
          k0_pay20
            (k0_pay16 (k0_pay4 x4) (k0_pay5 x5)
              (View.ld x1 (Rect.unit ![0, 0, 256] ![1, 128, 256] inb_S1x128x1024_S1x128x256_0_0_256)))
            (k0_pay17 (View.ld x2 (Rect.unit ![0, 0, 512] ![1, 128, 512] inb_S1x128x2048_S1x128x512_0_0_512)))
            (View.ld s (Rect.unit ![1, 0, 0] ![1, 256, 512] inb_S4x256x512_S1x256x512_1_0_0))
            (View.ld x8 (Rect.unit ![1, 0, 0] ![1, 128, 1] inb_S4x128x1_S1x128x1_1_0_0))
            (View.ld x9 (Rect.unit ![1, 0, 0] ![1, 1, 1] inb_S4x1x1_S1x1x1_1_0_0))⟩,
        ⟨Rect.unit ![0, 0, 0] ![1, 256, 512] inb_S4x256x512_S1x256x512_0_0_0,
          k0_pay12
            (k0_pay7 x4 x5 (View.ld x1 (Rect.unit ![0, 0, 0] ![1, 128, 256] inb_S1x128x1024_S1x128x256_0_0_0)))
            (k0_pay8 (View.ld x2 (Rect.unit ![0, 0, 0] ![1, 128, 512] inb_S1x128x2048_S1x128x512_0_0_0)))
            (k0_pay9 (View.ld s (Rect.unit ![0, 0, 0] ![1, 256, 512] inb_S4x256x512_S1x256x512_0_0_0)))
            (View.ld x8 (Rect.unit ![0, 0, 0] ![1, 128, 1] inb_S4x128x1_S1x128x1_0_0_0))
            (View.ld x9 (Rect.unit ![0, 0, 0] ![1, 1, 1] inb_S4x1x1_S1x1x1_0_0_0))⟩] := by
  have hk := fun (n : ℕ) (hn : n < 4) (o : ℕ) (ho : o = n * 256) (inb) (r : Fin 128) (d : Fin 256) =>
    k_read (prompt X) b (k * 128) (hi * 4 + n) _ x4 x5 (B.ldk n hn o ho inb) (fun r d => B.fc r d r.isLt) (fun r d => B.fs r d r.isLt) r d
  have hv := fun (n : ℕ) (hn : n < 4) (o : ℕ) (ho : o = n * 512) (inb) (r : Fin 128) (e : Fin 512) =>
    v_read X b (k * 128) (hi * 4 + n) _ (B.ldv n hn o ho inb) r e
  have hL := fun (n : ℕ) (hn : n < 4) (inb) =>
    lds (f := fun a d e => (prompt X).S b (hi * 4 + a) k d e) s hs n hn inb
  refine ⟨fun x => ?_, fun x => ?_, fun x => ?_, fun x => ?_, trivial⟩
  · refine ((upd_read X b (hi * 4 + 3) k _ _ _ _ _ (fun r d => (hk 3 (by decide) 768 rfl _ r d).2.2.2)
      (fun r e => (hv 3 (by decide) 1536 rfl _ r e).1) (hL 3 (by decide) _)
      (fun i => B.ldkd 3 (by decide) _ i i.isLt) (B.ldcd 3 (by decide) _) x).2.2.2).trans ?_
    dsimp only
    blk_simp []
  · refine ((upd_read X b (hi * 4 + 2) k _ _ _ _ _ (fun r d => (hk 2 (by decide) 512 rfl _ r d).2.2.1)
      (fun r e => (hv 2 (by decide) 1024 rfl _ r e).2.1) (hL 2 (by decide) _)
      (fun i => B.ldkd 2 (by decide) _ i i.isLt) (B.ldcd 2 (by decide) _) x).2.2.1).trans ?_
    dsimp only
    blk_simp []
  · refine ((upd_read X b (hi * 4 + 1) k _ _ _ _ _ (fun r d => (hk 1 (by decide) 256 rfl _ r d).2.1)
      (fun r e => (hv 1 (by decide) 512 rfl _ r e).2.2.1) (hL 1 (by decide) _)
      (fun i => B.ldkd 1 (by decide) _ i i.isLt) (B.ldcd 1 (by decide) _) x).2.1).trans ?_
    dsimp only
    blk_simp []
  · refine ((upd_read X b (hi * 4 + 0) k _ _ _ _ _ (fun r d => (hk 0 (by decide) 0 rfl _ r d).1)
      (fun r e => (hv 0 (by decide) 0 rfl _ r e).2.2.2) (hL 0 (by decide) _)
      (fun i => B.ldkd 0 (by decide) _ i i.isLt) (B.ldcd 0 (by decide) _) x).1).trans ?_
    dsimp only
    blk_simp []

/-- The four stores of the outputs are blocks of the chunk's result. -/
theorem out_pieces {X : S4x2048x24576.Idx → EReal} {b hi k : ℕ} {x0 x1 : Vec Ideal S1x128x1024 .f32}
    {x2 x3 : Vec Ideal S1x128x2048 .f32} {x4 x5 : Vec Ideal S128x128 .f32} {x6 : Vec Ideal S4x128x128 .f32}
    {x7 x8 : Vec Ideal S4x128x1 .f32} {x9 : Vec Ideal S4x1x1 .f32}
    (B : Blk (prompt X) b hi k x0 x1 x2 x3 x4 x5 x6 x7 x8 x9) (s : Vec Ideal S4x256x512 .f32)
    (hs : ∀ a d e, s (ix3 a d e) = (prompt X).S b (hi * 4 + a) k d e) :
    View.PiecesOf (Val := Elt Ideal) (e := .bf16)
      (fun y : S1x128x2048.Idx => (prompt X).out b (hi * 4 + (y 2).val / 512) k (y 1) ((y 2).val % 512))
      [⟨Rect.unit ![0, 0, 1536] ![1, 128, 512] inb_S1x128x2048_S1x128x512_0_0_1536,
        k0_pay1
          (k0_pay36 (k0_pay32 (k0_pay4 x4) (k0_pay5 x5) (View.ld x0 (Rect.unit ![0, 0, 768] ![1, 128, 256] inb_S1x128x1024_S1x128x256_0_0_768)))
            (k0_pay33 (k0_pay4 x4) (k0_pay5 x5) (View.ld x1 (Rect.unit ![0, 0, 768] ![1, 128, 256] inb_S1x128x1024_S1x128x256_0_0_768)))
            (k0_pay34 (View.ld x2 (Rect.unit ![0, 0, 1536] ![1, 128, 512] inb_S1x128x2048_S1x128x512_0_0_1536)))
            (View.ld s (Rect.unit ![3, 0, 0] ![1, 256, 512] inb_S4x256x512_S1x256x512_3_0_0))
            (View.ld x6 (Rect.unit ![3, 0, 0] ![1, 128, 128] inb_S4x128x128_S1x128x128_3_0_0)) (View.ld x7 (Rect.unit ![3, 0, 0] ![1, 128, 1] inb_S4x128x1_S1x128x1_3_0_0)))
          (k0_pay38 (k0_pay32 (k0_pay4 x4) (k0_pay5 x5) (View.ld x0 (Rect.unit ![0, 0, 768] ![1, 128, 256] inb_S1x128x1024_S1x128x256_0_0_768)))
            (k0_pay33 (k0_pay4 x4) (k0_pay5 x5) (View.ld x1 (Rect.unit ![0, 0, 768] ![1, 128, 256] inb_S1x128x1024_S1x128x256_0_0_768)))
            (k0_pay34 (View.ld x2 (Rect.unit ![0, 0, 1536] ![1, 128, 512] inb_S1x128x2048_S1x128x512_0_0_1536)))
            (View.ld s (Rect.unit ![3, 0, 0] ![1, 256, 512] inb_S4x256x512_S1x256x512_3_0_0))
            (View.ld x6 (Rect.unit ![3, 0, 0] ![1, 128, 128] inb_S4x128x128_S1x128x128_3_0_0)) (View.ld x7 (Rect.unit ![3, 0, 0] ![1, 128, 1] inb_S4x128x1_S1x128x1_3_0_0)))
          (View.ld x3 (Rect.unit ![0, 0, 1536] ![1, 128, 512] inb_S1x128x2048_S1x128x512_0_0_1536))⟩,
      ⟨Rect.unit ![0, 0, 1024] ![1, 128, 512] inb_S1x128x2048_S1x128x512_0_0_1024,
        k0_pay31
          (k0_pay27 (k0_pay23 (k0_pay4 x4) (k0_pay5 x5) (View.ld x0 (Rect.unit ![0, 0, 512] ![1, 128, 256] inb_S1x128x1024_S1x128x256_0_0_512)))
            (k0_pay24 (k0_pay4 x4) (k0_pay5 x5) (View.ld x1 (Rect.unit ![0, 0, 512] ![1, 128, 256] inb_S1x128x1024_S1x128x256_0_0_512)))
            (k0_pay25 (View.ld x2 (Rect.unit ![0, 0, 1024] ![1, 128, 512] inb_S1x128x2048_S1x128x512_0_0_1024)))
            (View.ld s (Rect.unit ![2, 0, 0] ![1, 256, 512] inb_S4x256x512_S1x256x512_2_0_0))
            (View.ld x6 (Rect.unit ![2, 0, 0] ![1, 128, 128] inb_S4x128x128_S1x128x128_2_0_0)) (View.ld x7 (Rect.unit ![2, 0, 0] ![1, 128, 1] inb_S4x128x1_S1x128x1_2_0_0)))
          (k0_pay29 (k0_pay23 (k0_pay4 x4) (k0_pay5 x5) (View.ld x0 (Rect.unit ![0, 0, 512] ![1, 128, 256] inb_S1x128x1024_S1x128x256_0_0_512)))
            (k0_pay24 (k0_pay4 x4) (k0_pay5 x5) (View.ld x1 (Rect.unit ![0, 0, 512] ![1, 128, 256] inb_S1x128x1024_S1x128x256_0_0_512)))
            (k0_pay25 (View.ld x2 (Rect.unit ![0, 0, 1024] ![1, 128, 512] inb_S1x128x2048_S1x128x512_0_0_1024)))
            (View.ld s (Rect.unit ![2, 0, 0] ![1, 256, 512] inb_S4x256x512_S1x256x512_2_0_0))
            (View.ld x6 (Rect.unit ![2, 0, 0] ![1, 128, 128] inb_S4x128x128_S1x128x128_2_0_0)) (View.ld x7 (Rect.unit ![2, 0, 0] ![1, 128, 1] inb_S4x128x1_S1x128x1_2_0_0))) (k0_pay30 (F := Ideal))
          (View.ld x3 (Rect.unit ![0, 0, 1024] ![1, 128, 512] inb_S1x128x2048_S1x128x512_0_0_1024))⟩,
      ⟨Rect.unit ![0, 0, 512] ![1, 128, 512] inb_S1x128x2048_S1x128x512_0_0_512,
        k0_pay22
          (k0_pay19 (k0_pay15 (k0_pay4 x4) (k0_pay5 x5) (View.ld x0 (Rect.unit ![0, 0, 256] ![1, 128, 256] inb_S1x128x1024_S1x128x256_0_0_256)))
            (k0_pay16 (k0_pay4 x4) (k0_pay5 x5) (View.ld x1 (Rect.unit ![0, 0, 256] ![1, 128, 256] inb_S1x128x1024_S1x128x256_0_0_256)))
            (k0_pay17 (View.ld x2 (Rect.unit ![0, 0, 512] ![1, 128, 512] inb_S1x128x2048_S1x128x512_0_0_512)))
            (View.ld s (Rect.unit ![1, 0, 0] ![1, 256, 512] inb_S4x256x512_S1x256x512_1_0_0))
            (View.ld x6 (Rect.unit ![1, 0, 0] ![1, 128, 128] inb_S4x128x128_S1x128x128_1_0_0)) (View.ld x7 (Rect.unit ![1, 0, 0] ![1, 128, 1] inb_S4x128x1_S1x128x1_1_0_0)))
          (k0_pay21 (k0_pay15 (k0_pay4 x4) (k0_pay5 x5) (View.ld x0 (Rect.unit ![0, 0, 256] ![1, 128, 256] inb_S1x128x1024_S1x128x256_0_0_256)))
            (k0_pay16 (k0_pay4 x4) (k0_pay5 x5) (View.ld x1 (Rect.unit ![0, 0, 256] ![1, 128, 256] inb_S1x128x1024_S1x128x256_0_0_256)))
            (k0_pay17 (View.ld x2 (Rect.unit ![0, 0, 512] ![1, 128, 512] inb_S1x128x2048_S1x128x512_0_0_512)))
            (View.ld s (Rect.unit ![1, 0, 0] ![1, 256, 512] inb_S4x256x512_S1x256x512_1_0_0))
            (View.ld x6 (Rect.unit ![1, 0, 0] ![1, 128, 128] inb_S4x128x128_S1x128x128_1_0_0)) (View.ld x7 (Rect.unit ![1, 0, 0] ![1, 128, 1] inb_S4x128x1_S1x128x1_1_0_0))) (Scalar.ofBits .f32 0x358637BD#32)
          (View.ld x3 (Rect.unit ![0, 0, 512] ![1, 128, 512] inb_S1x128x2048_S1x128x512_0_0_512))⟩,
      ⟨Rect.unit ![0, 0, 0] ![1, 128, 512] inb_S1x128x2048_S1x128x512_0_0_0,
        k0_pay14
          (k0_pay11 (k0_pay6 x4 x5 (View.ld x0 (Rect.unit ![0, 0, 0] ![1, 128, 256] inb_S1x128x1024_S1x128x256_0_0_0)))
            (k0_pay7 x4 x5 (View.ld x1 (Rect.unit ![0, 0, 0] ![1, 128, 256] inb_S1x128x1024_S1x128x256_0_0_0)))
            (k0_pay8 (View.ld x2 (Rect.unit ![0, 0, 0] ![1, 128, 512] inb_S1x128x2048_S1x128x512_0_0_0)))
            (k0_pay9 (View.ld s (Rect.unit ![0, 0, 0] ![1, 256, 512] inb_S4x256x512_S1x256x512_0_0_0))) (k0_pay10 x4 x5 (View.ld x0 (Rect.unit ![0, 0, 0] ![1, 128, 256] inb_S1x128x1024_S1x128x256_0_0_0)))
            (View.ld x6 (Rect.unit ![0, 0, 0] ![1, 128, 128] inb_S4x128x128_S1x128x128_0_0_0)) (View.ld x7 (Rect.unit ![0, 0, 0] ![1, 128, 1] inb_S4x128x1_S1x128x1_0_0_0)))
          (k0_pay13 (k0_pay6 x4 x5 (View.ld x0 (Rect.unit ![0, 0, 0] ![1, 128, 256] inb_S1x128x1024_S1x128x256_0_0_0)))
            (k0_pay7 x4 x5 (View.ld x1 (Rect.unit ![0, 0, 0] ![1, 128, 256] inb_S1x128x1024_S1x128x256_0_0_0)))
            (k0_pay8 (View.ld x2 (Rect.unit ![0, 0, 0] ![1, 128, 512] inb_S1x128x2048_S1x128x512_0_0_0)))
            (k0_pay9 (View.ld s (Rect.unit ![0, 0, 0] ![1, 256, 512] inb_S4x256x512_S1x256x512_0_0_0))) (k0_pay10 x4 x5 (View.ld x0 (Rect.unit ![0, 0, 0] ![1, 128, 256] inb_S1x128x1024_S1x128x256_0_0_0)))
            (View.ld x6 (Rect.unit ![0, 0, 0] ![1, 128, 128] inb_S4x128x128_S1x128x128_0_0_0)) (View.ld x7 (Rect.unit ![0, 0, 0] ![1, 128, 1] inb_S4x128x1_S1x128x1_0_0_0)))
          (View.ld x3 (Rect.unit ![0, 0, 0] ![1, 128, 512] inb_S1x128x2048_S1x128x512_0_0_0))⟩] := by
  have hq := fun (n : ℕ) (hn : n < 4) (o : ℕ) (ho : o = n * 256) (inb) (r : Fin 128) (d : Fin 256) =>
    q_read (prompt X) b (k * 128) (hi * 4 + n) _ x4 x5 (B.ldq n hn o ho inb) (fun r d => B.fc r d r.isLt) (fun r d => B.fs r d r.isLt) r d
  have hk := fun (n : ℕ) (hn : n < 4) (o : ℕ) (ho : o = n * 256) (inb) (r : Fin 128) (d : Fin 256) =>
    k_read (prompt X) b (k * 128) (hi * 4 + n) _ x4 x5 (B.ldk n hn o ho inb) (fun r d => B.fc r d r.isLt) (fun r d => B.fs r d r.isLt) r d
  have hv := fun (n : ℕ) (hn : n < 4) (o : ℕ) (ho : o = n * 512) (inb) (r : Fin 128) (e : Fin 512) =>
    v_read X b (k * 128) (hi * 4 + n) _ (B.ldv n hn o ho inb) r e
  have hL := fun (n : ℕ) (hn : n < 4) (inb) =>
    lds (f := fun a d e => (prompt X).S b (hi * 4 + a) k d e) s hs n hn inb
  refine ⟨fun x => ?_, fun x => ?_, fun x => ?_, fun x => ?_, trivial⟩
  · refine ((out_read X b (hi * 4 + 3) k _ (_) _ _ _ _ _ _ (fun r d => (hq 3 (by decide) 768 rfl inb_S1x128x1024_S1x128x256_0_0_768 r d).2.2.2.2)
      (fun r d => (hq 3 (by decide) 768 rfl inb_S1x128x1024_S1x128x256_0_0_768 r d).2.2.2.2) (fun r d => (hk 3 (by decide) 768 rfl _ r d).2.2.2)
      (fun r e => (hv 3 (by decide) 1536 rfl _ r e).1) (hL 3 (by decide) _)
      (fun i j => B.ldmk 3 (by decide) _ i j i.isLt j.isLt) (fun i => B.ldqd 3 (by decide) _ i i.isLt) (B.ldg 3 (by decide) 1536 rfl _) x).2.2.2).trans ?_
    dsimp only
    blk_simp []
    idx_bounds x
    congr 1 <;> omega
  · refine ((out_read X b (hi * 4 + 2) k _ (_) _ _ _ _ _ _ (fun r d => (hq 2 (by decide) 512 rfl inb_S1x128x1024_S1x128x256_0_0_512 r d).2.2.2.1)
      (fun r d => (hq 2 (by decide) 512 rfl inb_S1x128x1024_S1x128x256_0_0_512 r d).2.2.2.1) (fun r d => (hk 2 (by decide) 512 rfl _ r d).2.2.1)
      (fun r e => (hv 2 (by decide) 1024 rfl _ r e).2.1) (hL 2 (by decide) _)
      (fun i j => B.ldmk 2 (by decide) _ i j i.isLt j.isLt) (fun i => B.ldqd 2 (by decide) _ i i.isLt) (B.ldg 2 (by decide) 1024 rfl _) x).2.2.1).trans ?_
    dsimp only
    blk_simp []
    idx_bounds x
    congr 1 <;> omega
  · refine ((out_read X b (hi * 4 + 1) k _ (_) _ _ _ _ _ _ (fun r d => (hq 1 (by decide) 256 rfl inb_S1x128x1024_S1x128x256_0_0_256 r d).2.2.1)
      (fun r d => (hq 1 (by decide) 256 rfl inb_S1x128x1024_S1x128x256_0_0_256 r d).2.2.1) (fun r d => (hk 1 (by decide) 256 rfl _ r d).2.1)
      (fun r e => (hv 1 (by decide) 512 rfl _ r e).2.2.1) (hL 1 (by decide) _)
      (fun i j => B.ldmk 1 (by decide) _ i j i.isLt j.isLt) (fun i => B.ldqd 1 (by decide) _ i i.isLt) (B.ldg 1 (by decide) 512 rfl _) x).2.1).trans ?_
    dsimp only
    blk_simp []
    idx_bounds x
    congr 1 <;> omega
  · refine ((out_read X b (hi * 4 + 0) k _ _ _ _ _ _ _ _ (fun r d => (hq 0 (by decide) 0 rfl inb_S1x128x1024_S1x128x256_0_0_0 r d).1)
      (fun r d => (hq 0 (by decide) 0 rfl inb_S1x128x1024_S1x128x256_0_0_0 r d).2.1) (fun r d => (hk 0 (by decide) 0 rfl _ r d).1)
      (fun r e => (hv 0 (by decide) 0 rfl _ r e).2.2.2) (hL 0 (by decide) _)
      (fun i j => B.ldmk 0 (by decide) _ i j i.isLt j.isLt) (fun i => B.ldqd 0 (by decide) _ i i.isLt) (B.ldg 0 (by decide) 0 rfl _) x).1).trans ?_
    dsimp only
    blk_simp []
    idx_bounds x
    congr 1 <;> omega

end Cert.RetIdeal.Value
end
-- ==== Proof.RetBlk.lean ====
module

public import proofs.«01_k».proof.Proof.Gen.RetIdeal.Value
public import proofs.«01_k».proof.Proof.RetRun
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RetIdeal.Value

open Cert.RetIdeal Cert.RetIdeal.Gen Cert.Retention Idealize.ShloMosaic Idealize.ShloMosaic.TcCoe Idealize.SL.Sem

variable (m : (ℓ : Loc nD τ sig) → Buf (Elt Ideal) ℓ)

/-- Where each window's block lies at a grid point. -/
theorem idx : ∀ t : Fin cfg0.N,
    win0_0.index t = ![t.val / 64, t.val % 16, t.val / 16 % 4] ∧ win0_1.index t = ![t.val / 64, t.val % 16, 4 + t.val / 16 % 4]
    ∧ win0_2.index t = ![t.val / 64, t.val % 16, 4 + t.val / 16 % 4] ∧ win0_3.index t = ![t.val / 64, t.val % 16, 8 + t.val / 16 % 4]
    ∧ win0_4.index t = ![t.val % 16, 0] ∧ win0_5.index t = ![t.val % 16, 0] ∧ win0_6.index t = ![t.val / 16 % 4, 0, 0]
    ∧ win0_7.index t = ![t.val / 16 % 4, 0, 0] ∧ win0_8.index t = ![t.val / 16 % 4, 0, 0] ∧ win0_9.index t = ![t.val / 16 % 4, 0, 0]
    ∧ win0_10.index t = ![t.val / 64, t.val % 16, t.val / 16 % 4] ∧ win0_11.index t = ![t.val / 64, t.val / 16 % 4, 0, 0] :=
  (by decide +kernel : ∀ t : Fin grid0.N, _)

/-- The cosine table before the launch. -/
theorem V_cos (c : Dev nD) (a : Fin 2048) (b : Fin 128) (X) :
    (V m c main_v63 : S2048x128.Idx → EReal) (ix2 a b) = Ideal.cos ((prompt X).ang a b) := by
  unfold V
  after_reads_at
  rfl

/-- The sine table before the launch. -/
theorem V_sin (c : Dev nD) (a : Fin 2048) (b : Fin 128) (X) :
    (V m c main_v65 : S2048x128.Idx → EReal) (ix2 a b) = Ideal.sin ((prompt X).ang a b) := by
  unfold V
  after_reads_at
  rfl

/-- The decay masks before the launch. -/
theorem V_mask (c : Dev nD) (a : Fin 16) (i j : Fin 128) :
    (V m c main_v44 : S16x128x128.Idx → EReal) (ix3 a i j) = Data.mask a i j := by
  unfold V
  after_reads_at
  simp only [id_eq]
  pointwise
  rfl

theorem V_qd (c : Dev nD) (a : Fin 16) (i : Fin 128) : (V m c main_v46 : S16x128x1.Idx → EReal) (ix3 a i 0) = Data.qd a i := by
  unfold V
  after_reads_at
  rfl

theorem V_kd (c : Dev nD) (a : Fin 16) (i : Fin 128) (X) :
    (V m c main_v48 : S16x128x1.Idx → EReal) (ix3 a i 0) = (prompt X).kd a i := by
  unfold V
  after_reads_at
  rfl

theorem V_cd (c : Dev nD) (a : Fin 16) (X) : (V m c main_v49 : S16x1x1.Idx → EReal) (ix3 a 0 0) = (prompt X).cd a := by
  unfold V
  after_reads_at
  rfl

set_option maxHeartbeats 4000000 in
/-- The blocks of a grid point hold the retention's own parts. -/
theorem blk (c : Dev nD) (t : Fin cfg0.N) :
    Blk (prompt (m ((c : Thread nD τ).loc main_arg0))) (t.val / 64) (t.val / 16 % 4) (t.val % 16) (iblk m c 0 t) (iblk m c 1 t) (iblk m c 2 t)
      (iblk m c 3 t) (iblk m c 4 t) (iblk m c 5 t) (iblk m c 6 t) (iblk m c 7 t) (iblk m c 8 t) (iblk m c 9 t) := by
  obtain ⟨i0, i1, i2, i3, i4, i5, i6, i7, i8, i9, -, -⟩ := idx t
  have ht : t.val < 256 := t.isLt
  refine ⟨fun r x => ?_, fun r x => ?_, fun r x => ?_, fun r x => ?_, fun r d _ => ?_, fun r d _ => ?_,
    fun a i j _ _ => ?_, fun a i _ => ?_, fun a i _ => ?_, fun a => ?_⟩
  · show V m c main_arg0 ((win0_0.blk t).view.emb (ix3 0 r x)) = _
    rw [V_main_arg0]
    refine (rd3_idx _ _).trans ?_
    show rd3 _ _ _ _ = rd3 _ _ _ _
    blk_simp [i0]
    congr 1 <;> omega
  · show V m c main_arg0 ((win0_1.blk t).view.emb (ix3 0 r x)) = _
    rw [V_main_arg0]
    refine (rd3_idx _ _).trans ?_
    show rd3 _ _ _ _ = rd3 _ _ _ _
    blk_simp [i1]
    congr 1 <;> omega
  · show V m c main_arg0 ((win0_2.blk t).view.emb (ix3 0 r x)) = _
    rw [V_main_arg0]
    refine (rd3_idx _ _).trans ?_
    show rd3 _ _ _ _ = rd3 _ _ _ _
    blk_simp [i2]
    congr 1 <;> omega
  · show V m c main_arg0 ((win0_3.blk t).view.emb (ix3 0 r x)) = _
    rw [V_main_arg0]
    refine (rd3_idx _ _).trans ?_
    show rd3 _ _ _ _ = rd3 _ _ _ _
    blk_simp [i3]
    congr 1 <;> omega
  · show V m c main_v63 ((win0_4.blk t).view.emb (ix2 r d)) = _
    refine Eq.trans ?_ (V_cos m c ⟨t.val % 16 * 128 + r, by omega⟩ d _)
    congr 1
    blk_ext [i4]
  · show V m c main_v65 ((win0_5.blk t).view.emb (ix2 r d)) = _
    refine Eq.trans ?_ (V_sin m c ⟨t.val % 16 * 128 + r, by omega⟩ d _)
    congr 1
    blk_ext [i5]
  · show V m c main_v44 ((win0_6.blk t).view.emb (ix3 a i j)) = _
    refine Eq.trans ?_ (V_mask m c ⟨t.val / 16 % 4 * 4 + a, by omega⟩ i j)
    congr 1
    blk_ext [i6]
  · show V m c main_v46 ((win0_7.blk t).view.emb (ix3 a i 0)) = _
    refine Eq.trans ?_ (V_qd m c ⟨t.val / 16 % 4 * 4 + a, by omega⟩ i)
    congr 1
    blk_ext [i7]
  · show V m c main_v48 ((win0_8.blk t).view.emb (ix3 a i 0)) = _
    refine Eq.trans ?_ (V_kd m c ⟨t.val / 16 % 4 * 4 + a, by omega⟩ i _)
    congr 1
    blk_ext [i8]
  · show V m c main_v49 ((win0_9.blk t).view.emb (ix3 a 0 0)) = _
    refine Eq.trans ?_ (V_cd m c ⟨t.val / 16 % 4 * 4 + a, by omega⟩ _)
    congr 1
    blk_ext [i9]

end Cert.RetIdeal.Value
end
-- ==== Proof.RetIter.lean ====
module

public import proofs.«01_k».proof.Proof.Gen.RetIdeal.Value
public import proofs.«01_k».proof.Proof.RetBlk
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RetIdeal.Value

open Cert.RetIdeal Cert.RetIdeal.Gen Cert.Retention Idealize.ShloMosaic Idealize.ShloMosaic.TcCoe Idealize.SL.Sem

variable (m : (ℓ : Loc nD τ sig) → Buf (Elt Ideal) ℓ)

/-- The retention's data in memory `m`: the packed projections. -/
abbrev dat (c : Dev nD) : Data := prompt (m ((c : Thread nD τ).loc main_arg0))

/-- The state carried out of grid point `n`. -/
def Carried (c : Dev nD) (n : ℕ) (h : n < cfg0.N) : Prop := ∀ y : S4x256x512.Idx,
  (outsAt0 m c n h).2.2 y = (dat m c).S (n / 64) (n / 16 % 4 * 4 + y 0) (n % 16 + 1) (y 1) (y 2)

/-- The rows of the output written at grid point `n`. -/
def Written (c : Dev nD) (n : ℕ) (h : n < cfg0.N) : Prop := ∀ y : S1x128x2048.Idx,
  (outsAt0 m c n h).1 y = (dat m c).out (n / 64) (n / 16 % 4 * 4 + (y 2).val / 512) (n % 16) (y 1) ((y 2).val % 512)

/-- The state before a grid point, from the point before it, when that point belongs to the same heads. -/
theorem before (c : Dev nD) (t : Fin cfg0.N) (h0 : ¬t.val % 16 = 0) (h : t.val - 1 < cfg0.N) (hc : Carried m c (t.val - 1) h)
    (a : Fin 4) (d : Fin 256) (e : Fin 512) :
    (outsAt0 m c (t.val - 1) h).2.2 (ix3 a d e) = (dat m c).S (t.val / 64) (t.val / 16 % 4 * 4 + a) (t.val % 16) d e := by
  refine (hc (ix3 a d e)).trans ?_
  show (dat m c).S ((t.val - 1) / 64) ((t.val - 1) / 16 % 4 * 4 + a) ((t.val - 1) % 16 + 1) d e = _
  congr 1 <;> omega

/-- Before the first chunk the state is zero. -/
theorem start (c : Dev nD) (t : Fin cfg0.N) (h0 : t.val % 16 = 0) (a : Fin 4) (d : Fin 256) (e : Fin 512) :
    (k0_pay3 (F := Ideal)) (ix3 a d e) = (dat m c).S (t.val / 64) (t.val / 16 % 4 * 4 + a) (t.val % 16) d e := by
  rw [h0]
  pointwise! [k0_pay3]
  first | rfl | skip

theorem carried_A (c : Dev nD) (t : Fin cfg0.N) (h0 : t.val % 16 = 0) (h1 : ¬t.val % 16 = 15) :
    Carried m c t.val t.isLt := by
  intro y
  rw [outsAt0_A m c t h0 h1]
  frame_out
  simp (disch := decide) only [↓ View.readCov_skip, ↓ View.readCov_cons_toLoadRect, ↓ View.readCov_fill]
  exact View.canon_append_of_piecesOf _ [_] _ (state_pieces (blk m c t) _ (start m c t h0)) y
    (View.cover_of_tiledL _ (![1, 256, 512] : Fin 3 → ℕ) (by rfl) y)

theorem carried_B (c : Dev nD) (t : Fin cfg0.N) (h0 : ¬t.val % 16 = 0) (h1 : ¬t.val % 16 = 15) (h : t.val - 1 < cfg0.N)
    (hc : Carried m c (t.val - 1) h) :
    Carried m c t.val t.isLt := by
  intro y
  rw [outsAt0_B m c t h0 h1]
  frame_out
  simp only [read_unread_whole]
  exact View.canon_append_of_piecesOf _ [] _ (state_pieces (blk m c t) _ (before m c t h0 h hc)) y
    (View.cover_of_tiledL _ (![1, 256, 512] : Fin 3 → ℕ) (by rfl) y)

theorem carried_C (c : Dev nD) (t : Fin cfg0.N) (h0 : ¬t.val % 16 = 0) (h1 : t.val % 16 = 15) (h : t.val - 1 < cfg0.N)
    (hc : Carried m c (t.val - 1) h) :
    Carried m c t.val t.isLt := by
  intro y
  rw [outsAt0_C m c t h0 h1]
  frame_out
  simp only [read_unread_whole]
  exact View.canon_append_of_piecesOf _ [] _ (state_pieces (blk m c t) _ (before m c t h0 h hc)) y
    (View.cover_of_tiledL _ (![1, 256, 512] : Fin 3 → ℕ) (by rfl) y)

theorem written_A (c : Dev nD) (t : Fin cfg0.N) (h0 : t.val % 16 = 0) (h1 : ¬t.val % 16 = 15) :
    Written m c t.val t.isLt := by
  intro y
  rw [outsAt0_A m c t h0 h1]
  frame_out
  simp (disch := decide) only [↓ View.readCov_skip, ↓ View.readCov_cons_toLoadRect, ↓ View.readCov_fill]
  exact View.canon_append_of_piecesOf _ [] _ (out_pieces (blk m c t) _ (start m c t h0)) y
    (View.cover_of_tiledL _ (![1, 128, 512] : Fin 3 → ℕ) (by rfl) y)

theorem written_B (c : Dev nD) (t : Fin cfg0.N) (h0 : ¬t.val % 16 = 0) (h1 : ¬t.val % 16 = 15) (h : t.val - 1 < cfg0.N)
    (hc : Carried m c (t.val - 1) h) :
    Written m c t.val t.isLt := by
  intro y
  rw [outsAt0_B m c t h0 h1]
  frame_out
  simp only [read_unread_whole]
  exact View.canon_append_of_piecesOf _ [] _ (out_pieces (blk m c t) _ (before m c t h0 h hc)) y
    (View.cover_of_tiledL _ (![1, 128, 512] : Fin 3 → ℕ) (by rfl) y)

theorem written_C (c : Dev nD) (t : Fin cfg0.N) (h0 : ¬t.val % 16 = 0) (h1 : t.val % 16 = 15) (h : t.val - 1 < cfg0.N)
    (hc : Carried m c (t.val - 1) h) :
    Written m c t.val t.isLt := by
  intro y
  rw [outsAt0_C m c t h0 h1]
  frame_out
  simp only [read_unread_whole]
  exact View.canon_append_of_piecesOf _ [] _ (out_pieces (blk m c t) _ (before m c t h0 h hc)) y
    (View.cover_of_tiledL _ (![1, 128, 512] : Fin 3 → ℕ) (by rfl) y)

/-- At the last chunk the state window receives the state just computed. -/
theorem stored_C (c : Dev nD) (t : Fin cfg0.N) (h0 : ¬t.val % 16 = 0) (h1 : t.val % 16 = 15) (y : S1x4x256x512.Idx) :
    (outsAt0 m c t.val t.isLt).2.1 y = (outsAt0 m c t.val t.isLt).2.2 (ix3 (y 1) (y 2) (y 3)) := by
  rw [outsAt0_C m c t h0 h1]
  frame_out
  simp only [read_unread_whole, View.readCov_eq_canon']
  idx_vars y
  pointwise! [k0_pay2]

/-- Every grid point carries the state on and writes its rows. -/
theorem all (c : Dev nD) : ∀ (n : ℕ) (h : n < cfg0.N), Carried m c n h ∧ Written m c n h
  | 0, h => ⟨carried_A m c ⟨0, h⟩ rfl (by show ¬0 % 16 = 15; decide), written_A m c ⟨0, h⟩ rfl (by show ¬0 % 16 = 15; decide)⟩
  | n + 1, h => by
    have ih := (all c n (by omega)).1
    by_cases h0 : (n + 1) % 16 = 0
    · exact ⟨carried_A m c ⟨n + 1, h⟩ h0 (by show ¬(n + 1) % 16 = 15; omega), written_A m c ⟨n + 1, h⟩ h0 (by show ¬(n + 1) % 16 = 15; omega)⟩
    · by_cases h1 : (n + 1) % 16 = 15
      · exact ⟨carried_C m c ⟨n + 1, h⟩ h0 h1 (by show n < _; omega) ih, written_C m c ⟨n + 1, h⟩ h0 h1 (by show n < _; omega) ih⟩
      · exact ⟨carried_B m c ⟨n + 1, h⟩ h0 h1 (by show n < _; omega) ih, written_B m c ⟨n + 1, h⟩ h0 h1 (by show n < _; omega) ih⟩

/-- The kernel's output array: the retention's rows. -/
theorem out_array (c : Dev nD) : (dats m 0 c).arrAt 10 cfg0.N = (fun j : S4x2048x8192.Idx =>
    (dat m c).out (j 0) ((j 2).val / 512) ((j 1).val / 128) ((j 1).val % 128) ((j 2).val % 512)) := by
  refine (dats m 0 c).arrAt_eq_of_covers 10 _ (by decide +kernel) fun t hf y => ?_
  refine ((all m c t.val t.isLt).2 y).trans ?_
  obtain ⟨-, -, -, -, -, -, -, -, -, -, i10, -⟩ := idx t
  have ht : t.val < 256 := t.isLt
  idx_vars y
  blk_simp [i10]
  congr 1 <;> omega

/-- The kernel's state array: the retention's final states. -/
theorem state_array (c : Dev nD) : (dats m 0 c).arrAt 11 cfg0.N = (fun j : S4x16x256x512.Idx =>
    (dat m c).S (j 0) (j 1) 16 (j 2) (j 3)) := by
  refine (dats m 0 c).arrAt_eq_of_covers 11 _ (by decide +kernel) fun t hf y => ?_
  have ht : t.val < 256 := t.isLt
  have h1 : t.val % 16 = 15 := (by decide +kernel : ∀ t : Fin cfg0.N, (cfg0.win 11).flush t = true → t.val % 16 = 15) t hf
  refine (stored_C m c t (by omega) h1 y).trans (((all m c t.val t.isLt).1 _).trans ?_)
  obtain ⟨-, -, -, -, -, -, -, -, -, -, -, i11⟩ := idx t
  idx_vars y
  blk_simp [i11]
  congr 1 <;> omega

end Cert.RetIdeal.Value
end
-- ==== Proof.RetRef.lean ====
module

public import proofs.«01_k».proof.Proof.Gen.RetRefIdeal.Run
public import proofs.«01_k».proof.Proof.RetPure
public import Idealize.ShloMosaic.Lib.Pipeline.ValueKit
public import Idealize.ShloMosaic.Lib.StableHlo.ReadAt
public import Idealize.ShloMosaic.Lib.WordCmp
public import Idealize.ShloMosaic.Lib.DynamicIndex

@[expose] public section

set_option maxRecDepth 16384

noncomputable section
namespace Cert.RetRefIdeal.Value
open Cert.RetRefIdeal Cert.RetRefIdeal.Gen Cert.Retention Idealize.ShloMosaic Idealize.ShloMosaic.TcCoe Idealize.SL.Sem
  Idealize.ShloMosaic.StableHlo
/-- What the loop's buffers hold before chunk `k`. -/
structure Inv (X : S4x2048x24576.Idx → EReal) (k : ℕ) (V0 : Valuation τ sig (Elt Ideal)) : Prop where
  fq : ∀ (n : Fin 16) (b : Fin 4) (h : Fin 16) (r : Fin 128) (d : Fin 256),
    (V0 (Proc.devRef .tc main_v119_0) : S16x4x16x128x256.Idx → EReal) (ix5 n b h r d) = (prompt X).Q b (n * 128 + r) h d
  fk : ∀ (n : Fin 16) (b : Fin 4) (h : Fin 16) (r : Fin 128) (d : Fin 256),
    (V0 (Proc.devRef .tc main_v119_1) : S16x4x16x128x256.Idx → EReal) (ix5 n b h r d) = (prompt X).K b (n * 128 + r) h d
  fv : ∀ (n : Fin 16) (b : Fin 4) (h : Fin 16) (r : Fin 128) (d : Fin 512),
    (V0 (Proc.devRef .tc main_v119_2) : S16x4x16x128x512.Idx → EReal) (ix5 n b h r d) = (prompt X).V b (n * 128 + r) h d
  fmsk : ∀ (h : Fin 16) (i j : Fin 128), (V0 (Proc.devRef .tc main_v119_3) : S16x128x128.Idx → EReal) (ix3 h i j) = Data.mask h i j
  fqd : ∀ (h : Fin 16) (i : Fin 128), (V0 (Proc.devRef .tc main_v119_4) : S16x128.Idx → EReal) (ix2 h i) = Data.qd h i
  fcd : ∀ (h : Fin 16), (V0 (Proc.devRef .tc main_v119_5) : S16.Idx → EReal) (ix1 h) = (prompt X).cd h
  fkd : ∀ (h : Fin 16) (i : Fin 128), (V0 (Proc.devRef .tc main_v119_6) : S16x128.Idx → EReal) (ix2 h i) = (prompt X).kd h i
  fctr : V0 (Proc.devRef .tc main_v119_7) = fun _ => BitVec.ofNat 32 k
  fs : ∀ (b : Fin 4) (h : Fin 16) (d : Fin 256) (e : Fin 512),
    (V0 (Proc.devRef .tc main_v119_8) : S4x16x256x512.Idx → EReal) (ix4 b h d e) = (prompt X).S b h k d e
  fo : ∀ (n : Fin 16) (b : Fin 4) (h : Fin 16) (r : Fin 128) (e : Fin 512), n.val < k →
    (V0 (Proc.devRef .tc main_v119_9) : S16x4x16x128x512.Idx → EReal) (ix5 n b h r e) = (prompt X).O b h n r e

/-- The signed value of a chunk's number as a word. -/
theorem toInt_chunk (k : ℕ) (hk : k < 16) : (BitVec.ofNat 32 k).toInt = (k : ℤ) := by
  rw [BitVec.toInt_eq_toNat_of_lt (by rw [BitVec.toNat_ofNat]; omega), BitVec.toNat_ofNat, Nat.mod_eq_of_lt (by omega)]

/-- The start of a chunk's slice: the chunk on the first axis, zero on the others. -/
theorem chunk_start (k : ℕ) (hk : k < 16) (a : Fin 5) :
    ((![(fun _ => BitVec.ofNat 32 k : S_.Idx → BitVec 32), constantI S_ 32 0#32, constantI S_ 32 0#32, constantI S_ 32 0#32, constantI S_ 32 0#32] :
      Fin 5 → (⟨S_, .i32⟩ : BufTy).Contents (Elt Ideal)) a (Shape.Idx.first h_S_)).toInt = (((![k, 0, 0, 0, 0] : Fin 5 → ℕ) a : ℕ) : ℤ) := by
  fin_cases a
  · exact toInt_chunk k hk
  all_goals rfl

section
variable {X : S4x2048x24576.Idx → EReal} {k : ℕ} {V0 : Valuation τ sig (Elt Ideal)} (I : Inv X k V0) (hk : k < 16)
include I hk

theorem q_chunk (b : Fin 4) (h : Fin 16) (r : Fin 128) (d : Fin 256) :
    (res_main_while0b_v137 V0 : S4x16x128x256.Idx → EReal) (ix4 b h r d) = (prompt X).Q b (k * 128 + r) h d := by
  refine Eq.trans ?_ (I.fq ⟨k, hk⟩ b h r d)
  unfold res_main_while0b_v137
  rw [I.fctr]
  refine (congrArg (fun z => shapeCast S4x16x128x256 z _ (ix4 b h r d)) (Host.dynamicSlice_eq_extractStridedSlice
    (s := S16x4x16x128x256) S1x4x16x128x256 _ _ (![k, 0, 0, 0, 0]) _ ⟨rfl, fun a => by fin_cases a; (· show k + 1 ≤ 16; omega); all_goals exact le_of_eq rfl⟩ (chunk_start k hk))).trans ?_
  pointwise

theorem k_chunk (b : Fin 4) (h : Fin 16) (r : Fin 128) (d : Fin 256) :
    (res_main_while0b_v138 V0 : S4x16x128x256.Idx → EReal) (ix4 b h r d) = (prompt X).K b (k * 128 + r) h d := by
  refine Eq.trans ?_ (I.fk ⟨k, hk⟩ b h r d)
  unfold res_main_while0b_v138
  rw [I.fctr]
  refine (congrArg (fun z => shapeCast S4x16x128x256 z _ (ix4 b h r d)) (Host.dynamicSlice_eq_extractStridedSlice
    (s := S16x4x16x128x256) S1x4x16x128x256 _ _ (![k, 0, 0, 0, 0]) _ ⟨rfl, fun a => by fin_cases a; (· show k + 1 ≤ 16; omega); all_goals exact le_of_eq rfl⟩ (chunk_start k hk))).trans ?_
  pointwise

theorem v_chunk (b : Fin 4) (h : Fin 16) (r : Fin 128) (d : Fin 512) :
    (res_main_while0b_v139 V0 : S4x16x128x512.Idx → EReal) (ix4 b h r d) = (prompt X).V b (k * 128 + r) h d := by
  refine Eq.trans ?_ (I.fv ⟨k, hk⟩ b h r d)
  unfold res_main_while0b_v139
  rw [I.fctr]
  refine (congrArg (fun z => shapeCast S4x16x128x512 z _ (ix4 b h r d)) (Host.dynamicSlice_eq_extractStridedSlice
    (s := S16x4x16x128x512) S1x4x16x128x512 _ _ (![k, 0, 0, 0, 0]) _ ⟨rfl, fun a => by fin_cases a; (· show k + 1 ≤ 16; omega); all_goals exact le_of_eq rfl⟩ (chunk_start k hk))).trans ?_
  pointwise

theorem s_step (b : Fin 4) (h : Fin 16) (d : Fin 256) (e : Fin 512) :
    (step_main_v119_8 V0 : S4x16x256x512.Idx → EReal) (ix4 b h d e) = (prompt X).S b h (k + 1) d e := by
  unfold step_main_v119_8
  simp only [id_eq]
  pointwise
  rw [I.fs, I.fcd]
  show _ + _ = _ + _
  congr 1
  refine Finset.sum_congr rfl fun x _ => ?_
  rw [k_chunk I hk, v_chunk I hk, I.fkd]
  rfl

theorem o_step (n : Fin 16) (b : Fin 4) (h : Fin 16) (r : Fin 128) (e : Fin 512) (hn : n.val < k + 1) :
    (step_main_v119_9 V0 : S16x4x16x128x512.Idx → EReal) (ix5 n b h r e) = (prompt X).O b h n r e := by
  unfold step_main_v119_9
  simp only [id_eq]
  rw [I.fctr]
  refine (congrFun (WordCmp.dynamicUpdateSlice_eq_update (s := S16x4x16x128x512) (u := S1x4x16x128x512) _ _ _ _ (![k, 0, 0, 0, 0])
    ⟨rfl, fun a => by fin_cases a; (· show k + 1 ≤ 16; omega); all_goals exact le_of_eq rfl⟩ (chunk_start k hk)) _).trans ?_
  pointwise
  split_ifs with h1
  · obtain rfl : n.val = k := by omega
    simp only [q_chunk I hk, k_chunk I hk, v_chunk I hk, I.fmsk, I.fqd, I.fs]
    rfl
  · exact I.fo n b h r e (by omega)
end

section
variable (m : (ℓ : Loc nD τ sig) → Buf (Elt Ideal) ℓ)
theorem out_read (X : S4x2048x24576.Idx → EReal) (V0 : Valuation τ sig (Elt Ideal)) (I : Inv X 16 V0) (hx : V0 (Proc.devRef .tc main_arg0) = X)
    (b : Fin 4) (n : Fin 2048) (x : Fin 8192) :
    (out_main_v136 V0 : S4x2048x8192.Idx → EReal) (ix3 b n x)
      = (prompt X).out b (x.val / 512) (n.val / 128) (n.val % 128) (x.val % 512) := by
  unfold out_main_v136
  pointwise
  rw [hx]
  simp only [I.fo _ _ _ _ _ (Fin.isLt _)]
  unfold Data.out
  have hg : X (ix3 b n ⟨16384 + x.val, by omega⟩)
      = (prompt X).G b (n.val / 128 * (prompt X).len + n.val % 128) (x.val / 512) (x.val % 512) := by
    refine (rd3_ix3 X _ _ _).trans ?_
    show rd3 X _ _ _ = rd3 X _ _ _
    have e1 : n.val / 128 * (prompt X).len + n.val % 128 = n.val := by show n.val / 128 * 128 + _ = _; omega
    rw [e1]
    congr 1
    show 16384 + x.val = 16384 + (x.val / 512 * 512 + x.val % 512)
    omega
  rw [← hg]
  rfl

/-- One trip of the loop is one chunk. -/
theorem inv_step (X : S4x2048x24576.Idx → EReal) (k : ℕ) (hk : k < 16) (V0 : Valuation τ sig (Elt Ideal)) (I : Inv X k V0) :
    Inv X (k + 1) (STEP V0) where
  fq := by rw [STEP_main_v119_0]; exact I.fq
  fk := by rw [STEP_main_v119_1]; exact I.fk
  fv := by rw [STEP_main_v119_2]; exact I.fv
  fmsk := by rw [STEP_main_v119_3]; exact I.fmsk
  fqd := by rw [STEP_main_v119_4]; exact I.fqd
  fcd := by rw [STEP_main_v119_5]; exact I.fcd
  fkd := by rw [STEP_main_v119_6]; exact I.fkd
  fctr := by
    rw [STEP_main_v119_7]
    unfold step_main_v119_7
    rw [I.fctr]
    funext j
    exact BitVec.ofNat_add_ofNat k 1
  fs := by rw [STEP_main_v119_8]; exact s_step I hk
  fo := by rw [STEP_main_v119_9]; exact o_step I hk

end
end Cert.RetRefIdeal.Value
end
-- ==== Proof.RetEntry.lean ====
module

public import proofs.«01_k».proof.Proof.Gen.RetRefIdeal.Run
public import proofs.«01_k».proof.Proof.RetRef
public import Idealize.ShloMosaic.Lib.Pipeline.ValueKit
public import Idealize.ShloMosaic.Lib.StableHlo.ReadAt
public import Idealize.ShloMosaic.Lib.WordCmp
public import Idealize.ShloMosaic.Lib.DynamicIndex

@[expose] public section

set_option maxRecDepth 16384

noncomputable section
namespace Cert.RetRefIdeal.Value
open Cert.RetRefIdeal Cert.RetRefIdeal.Gen Cert.Retention Idealize.ShloMosaic Idealize.ShloMosaic.TcCoe Idealize.SL.Sem
  Idealize.ShloMosaic.StableHlo
variable (m : (ℓ : Loc nD τ sig) → Buf (Elt Ideal) ℓ)

/-- The argument's array at an index, before everything. -/
theorem arg_read (c : Dev nD) (i : Fin 4) (j : Fin 2048) (k : Fin 24576) :
    (launchContents m c (Proc.devRef .tc main_arg0) : S4x2048x24576.Idx → EReal) (ix3 i j k)
      = rd3 (m ((c.tc : Thread nD τ).loc main_arg0)) i j k := rd3_ix3 _ i j k

/-- The loop's queries at its entry. -/
theorem entry_0 (c : Dev nD) (n : Fin 16) (b : Fin 4) (h : Fin 16) (r : Fin 128) (d : Fin 256) :
    (entryContents preI m c (Proc.devRef .tc main_v119_0) : S16x4x16x128x256.Idx → EReal) (ix5 n b h r d)
      = (prompt (m ((c.tc : Thread nD τ).loc main_arg0))).Q b (n * 128 + r) h d := by
  simp only [entryContents, afterL_cons, afterL_nil]
  after_reads_at
  simp only [id_eq]
  pointwise
  split
  · after_reads_at
    pointwise
    refine Eq.trans ?_ (if_pos ‹_›).symm
    refine (congrArg₂ (fun u v : EReal => u * _ - v * _) (arg_read m c _ _ _) (arg_read m c _ _ _)).trans ?_
    simp only [prompt, Data.ang, W]
  · after_reads_at
    pointwise
    refine Eq.trans ?_ (if_neg ‹_›).symm
    refine (congrArg₂ (fun u v : EReal => u * _ + v * _) (arg_read m c _ _ _) (arg_read m c _ _ _)).trans ?_
    simp only [prompt, Data.ang, W]

/-- The loop's keys at its entry. -/
theorem entry_1 (c : Dev nD) (n : Fin 16) (b : Fin 4) (h : Fin 16) (r : Fin 128) (d : Fin 256) :
    (entryContents preI m c (Proc.devRef .tc main_v119_1) : S16x4x16x128x256.Idx → EReal) (ix5 n b h r d)
      = (prompt (m ((c.tc : Thread nD τ).loc main_arg0))).K b (n * 128 + r) h d := by
  simp only [entryContents, afterL_cons, afterL_nil]
  after_reads_at
  simp only [id_eq]
  pointwise
  split
  · after_reads_at
    pointwise
    refine Eq.trans ?_ (congrArg (· * Ideal.ofBits FTy.f32 1031798784#32) (if_pos ‹_›).symm)
    refine (congrArg₂ (fun u v : EReal => (u * _ - v * _) * _) (arg_read m c _ _ _) (arg_read m c _ _ _)).trans ?_
    simp only [prompt, Data.ang, W]
  · after_reads_at
    pointwise
    refine Eq.trans ?_ (congrArg (· * Ideal.ofBits FTy.f32 1031798784#32) (if_neg ‹_›).symm)
    refine (congrArg₂ (fun u v : EReal => (u * _ + v * _) * _) (arg_read m c _ _ _) (arg_read m c _ _ _)).trans ?_
    simp only [prompt, Data.ang, W]

/-- What the loop's buffers hold at its entry. -/
theorem inv_entry (c : Dev nD) : Inv (m ((c.tc : Thread nD τ).loc main_arg0)) 0 (entryContents preI m c) where
  fq := entry_0 m c
  fk := entry_1 m c
  fv := by
    intro n b h r d
    simp only [entryContents, afterL_cons, afterL_nil]
    after_reads_at
    simp only [id_eq]
    pointwise
    exact rd3_ix3 _ _ _ _
  fmsk := by
    intro h i j
    simp only [entryContents, afterL_cons, afterL_nil]
    after_reads_at
    simp only [id_eq]
    pointwise
    rfl
  fqd := by
    intro h i
    simp only [entryContents, afterL_cons, afterL_nil]
    after_reads_at
    simp only [id_eq]
    pointwise
    rfl
  fcd := by
    intro h
    simp only [entryContents, afterL_cons, afterL_nil]
    after_reads_at
    simp only [id_eq]
    pointwise
    rfl
  fkd := by
    intro h i
    simp only [entryContents, afterL_cons, afterL_nil]
    after_reads_at
    simp only [id_eq]
    pointwise
    rfl
  fctr := ctr_entry m c
  fs := by
    intro b h d e
    simp only [entryContents, afterL_cons, afterL_nil]
    after_reads_at
    simp only [id_eq]
    pointwise
    rfl
  fo := fun n _ _ _ _ h => absurd h (Nat.not_lt_zero _)

/-- Before chunk `k` the loop's buffers hold what the retention says. -/
theorem inv (c : Dev nD) : ∀ k, k ≤ 16 → Inv (m ((c.tc : Thread nD τ).loc main_arg0)) k (STEP^[k] (entryContents preI m c))
  | 0, _ => inv_entry m c
  | k + 1, h => by
    rw [Function.iterate_succ_apply']
    exact inv_step _ k (by omega) _ (inv c k (by omega))
/-- The reference's rows. -/
theorem ref_out (c : Dev nD) (X : S4x2048x24576.Idx → EReal) (hX : m ((c.tc : Thread nD τ).loc main_arg0) = X) :
    out_main_v136 (STEP^[16] (entryContents preI m c)) = (fun j : S4x2048x8192.Idx =>
      (prompt X).out (j 0) ((j 2).val / 512) ((j 1).val / 128) ((j 1).val % 128) ((j 2).val % 512)) := by
  subst hX
  refine funext fun (j : S4x2048x8192.Idx) => ?_
  refine (congrArg (out_main_v136 (STEP^[16] (entryContents preI m c)) : S4x2048x8192.Idx → EReal) (eq_ix3 j)).trans ?_
  exact out_read _ _ (inv m c 16 (le_refl _)) (iter_main_arg0 m c 16) (j 0) (j 1) (j 2)

/-- The reference's final states. -/
theorem ref_state (c : Dev nD) (X : S4x2048x24576.Idx → EReal) (hX : m ((c.tc : Thread nD τ).loc main_arg0) = X) :
    (STEP^[16] (entryContents preI m c)) (Proc.devRef .tc main_v119_8) = (fun j : S4x16x256x512.Idx =>
      (prompt X).S (j 0) (j 1) 16 (j 2) (j 3)) := by
  subst hX
  refine funext fun (j : S4x16x256x512.Idx) => ?_
  refine (congrArg ((STEP^[16] (entryContents preI m c)) (Proc.devRef .tc main_v119_8) : S4x16x256x512.Idx → EReal) (eq_ix4 j)).trans ?_
  exact (inv m c 16 (le_refl _)).fs (j 0) (j 1) (j 2) (j 3)

end Cert.RetRefIdeal.Value
end
-- ==== Proof.RetClaim.lean ====
module

public import proofs.«01_k».proof.Defs
public import proofs.«01_k».proof.Proof.Gen.Ret
public import proofs.«01_k».proof.Proof.Gen.Ret.Frame
public import proofs.«01_k».proof.Proof.Gen.RetIdeal.Frame
public import proofs.«01_k».proof.Proof.RetIter
public import proofs.«01_k».proof.Proof.RetEntry
public import Idealize.ShloMosaic.Adequacy
public import Idealize.ShloMosaic.Init

@[expose] public section

noncomputable section

namespace Cert.Proof

open Cert.Retention Idealize.ShloMosaic Idealize.SL.Sem

/-- The retention's reference runs, leaves its argument and every counter as they were. -/
theorem ret_ref_frame : Cert.quiescent_RetRefIdeal := fun m ρ _ =>
  (θ_run Cert.RetRefIdeal.defs _ _).mono (fun r h => ⟨fun c => (h c).2.2, sem_eq_zero_of_no_sems (by decide) r.2⟩)
    (Cert.RetRefIdeal.Value.run (F := Ideal) m ρ)

/-- The retention kernel and its reference compute the same rows and the same final states. -/
theorem ret_algebraic : Cert.algebraic_RetIdeal_RetRefIdeal := by
  intro m ρ m' ρ' _ hin
  refine ⟨fun c => (fun j : Cert.RetIdeal.S4x2048x8192.Idx =>
      (Cert.RetIdeal.Value.dat m c).out (j 0) ((j 2).val / 512) ((j 1).val / 128) ((j 1).val % 128) ((j 2).val % 512)),
    fun c => (fun j : Cert.RetIdeal.S4x16x256x512.Idx => (Cert.RetIdeal.Value.dat m c).S (j 0) (j 1) 16 (j 2) (j 3)), ?_, ?_⟩
  · exact (θ_run Cert.RetIdeal.defs _ _).mono (fun r h c => ⟨(h c).1.trans (Cert.RetIdeal.Value.out_array m c),
      (h c).2.1.trans (Cert.RetIdeal.Value.state_array m c), (h c).2.2⟩) (Cert.RetIdeal.Value.run_blocks (F := Ideal) m ρ)
  · exact (θ_run Cert.RetRefIdeal.defs _ _).mono (fun r h c => ⟨(h c).1.trans (Cert.RetRefIdeal.Value.ref_out m' c _ (hin c)),
      (h c).2.1.trans (Cert.RetRefIdeal.Value.ref_state m' c _ (hin c)), (h c).2.2⟩) (Cert.RetRefIdeal.Value.run (F := Ideal) m' ρ')

end Cert.Proof

end
-- ==== Proof.MmSum.lean ====
/- Products of matrices over the extended reals, cut into blocks of the contracted axis. -/
module

public import Idealize.ShloMosaic.Lib.Pipeline.ValueKit
public import Idealize.ShloMosaic.PureOps.Ideal
public import Idealize.ShloMosaic.Lib.Pointwise

@[expose] public section

noncomputable section

namespace Cert.Mm

open Idealize.ShloMosaic

/-- An entry of the product of two arrays of two axes. -/
def dot {M K N : ℕ} (x : (⟨2, ![M, K]⟩ : Shape).Idx → EReal) (w : (⟨2, ![K, N]⟩ : Shape).Idx → EReal) (i : Fin M) (j : Fin N) : EReal :=
  ∑ k : Fin K, x (ix2 i k) * w (ix2 k j)

/-- The products of the blocks of the contracted axis add up to the whole product's entry. -/
theorem dot_blocks {M K N S n tm tn : ℕ} (hK : K = S * n) (x : (⟨2, ![M, K]⟩ : Shape).Idx → EReal) (w : (⟨2, ![K, N]⟩ : Shape).Idx → EReal)
    (xs : Fin S → (⟨2, ![tm, n]⟩ : Shape).Idx → EReal) (ws : Fin S → (⟨2, ![n, tn]⟩ : Shape).Idx → EReal)
    (i : Fin tm) (j : Fin tn) (I : Fin M) (J : Fin N)
    (hx : ∀ (s : Fin S) (k : Fin n) (hl : s.val * n + k.val < K), xs s (ix2 i k) = x (ix2 I ⟨s.val * n + k.val, hl⟩))
    (hw : ∀ (s : Fin S) (k : Fin n) (hl : s.val * n + k.val < K), ws s (ix2 k j) = w (ix2 ⟨s.val * n + k.val, hl⟩ J)) :
    ∑ s, dot (xs s) (ws s) i j = dot x w I J :=
  Fin.sum_mul_add_congr (fun s k hl => congrArg₂ (fun u v : EReal => u * v) (hx s k hl) (hw s k hl)) hK

/-- A block that a run's first point starts at an entry of its own and every point adds its part to: the run's last point
leaves the first point's entry and all the parts. -/
theorem run_from {N : ℕ} {ι : Type} (f : (n : ℕ) → n < N → ι → EReal) (J : ℕ) [NeZero J] (r p : Fin N → ι → EReal)
    (h0 : ∀ t : Fin N, t.val % J = 0 → ∀ i, f t.val t.isLt i = r t i + p t i)
    (hs : ∀ t : Fin N, ¬t.val % J = 0 → ∀ i,
      f t.val t.isLt i = f (t.val - 1) (Nat.lt_of_le_of_lt (Nat.sub_le _ _) t.isLt) i + p t i)
    (t : Fin N) (hr : t.val % J = J - 1) (i : ι) :
    f t.val t.isLt i = r ⟨J * (t.val / J), Nat.lt_of_le_of_lt (Nat.mul_div_le _ _) t.isLt⟩ i
      + ∑ s : Fin J, p ⟨J * (t.val / J) + s.val, Pipeline.run_point_lt_of_flush t hr s⟩ i := by
  rw [Pipeline.eq_sum_fin_of_reset_step_apply_of_flush (M := EReal) f J (fun _ => 0)
    (fun t i => (if t.val % J = 0 then r t i else 0) + p t i)
    (fun t h i => by rw [h0 t h i, if_pos h, zero_add]) (fun t h i => by rw [hs t h i, if_neg h, zero_add]) t hr i,
    zero_add, Finset.sum_add_distrib]
  congr 1
  rw [Finset.sum_eq_single (⟨0, Nat.pos_of_ne_zero (NeZero.ne J)⟩ : Fin J)]
  · simp
  · intro s _ hne
    refine if_neg fun h => hne (Fin.ext ?_)
    have h' : (J * (t.val / J) + s.val) % J = 0 := h
    rwa [Nat.mul_add_mod, Nat.mod_eq_of_lt s.isLt] at h'
  · exact fun h => absurd (Finset.mem_univ _) h

/-- A block that a run's first point starts with its part, every point but the last adds its part to, and whose last point adds its
part before it does anything else with it: there it has all the parts of the run. -/
theorem run_upto {N : ℕ} {ι : Type} (f : (n : ℕ) → n < N → ι → EReal) (J : ℕ) [NeZero J] (hJ : 1 < J) (p : Fin N → ι → EReal)
    (h0 : ∀ t : Fin N, t.val % J = 0 → ∀ i, f t.val t.isLt i = p t i)
    (hs : ∀ t : Fin N, ¬t.val % J = 0 → ¬t.val % J = J - 1 → ∀ i,
      f t.val t.isLt i = f (t.val - 1) (Nat.lt_of_le_of_lt (Nat.sub_le _ _) t.isLt) i + p t i)
    (t : Fin N) (hr : t.val % J = J - 1) (i : ι) :
    f (t.val - 1) (Nat.lt_of_le_of_lt (Nat.sub_le _ _) t.isLt) i + p t i
      = ∑ s : Fin J, p ⟨J * (t.val / J) + s.val, Pipeline.run_point_lt_of_flush t hr s⟩ i := by
  have key := Pipeline.eq_sum_fin_of_reset_step_apply_of_flush (M := EReal)
    (fun n h i => if n % J = J - 1 then f (n - 1) (Nat.lt_of_le_of_lt (Nat.sub_le _ _) h) i + p ⟨n, h⟩ i else f n h i) J (fun _ => 0) p
    (fun t h i => by
      show (if t.val % J = J - 1 then _ else _) = _
      rw [if_neg (by omega), h0 t h i, zero_add])
    (fun t h i => by
      show (if t.val % J = J - 1 then _ else _) = (if (t.val - 1) % J = J - 1 then _ else _) + _
      have hp : ¬(t.val - 1) % J = J - 1 := by
        intro hp
        refine h ?_
        have h1 : t.val = t.val - 1 + 1 := by
          rcases Nat.eq_zero_or_pos t.val with h2 | h2
          · exact absurd (by rw [h2]; exact Nat.zero_mod _) h
          · omega
        rw [h1, Nat.add_mod, hp, Nat.mod_eq_of_lt hJ, show J - 1 + 1 = J by omega, Nat.mod_self]
      rw [if_neg hp]
      by_cases hl : t.val % J = J - 1
      · rw [if_pos hl]
      · rw [if_neg hl, hs t h hl i]) t hr i
  rw [if_pos hr, zero_add] at key
  exact key

/-- A row of an array of two axes as a function of the column's number, zero past its end. -/
def row {M N : ℕ} (a : (⟨2, ![M, N]⟩ : Shape).Idx → EReal) (r : Fin M) (n : ℕ) : EReal := if h : n < N then a (ix2 r ⟨n, h⟩) else 0

/-- An entry of a row. -/
theorem row_mk {M N : ℕ} (a : (⟨2, ![M, N]⟩ : Shape).Idx → EReal) (r : Fin M) (n : ℕ) (h : n < N) : a (ix2 r ⟨n, h⟩) = row a r n := by
  unfold row
  rw [dif_pos h]

/-- One row of a product as a function of the column's number. -/
def dotRow {M K N : ℕ} (x : (⟨2, ![M, K]⟩ : Shape).Idx → EReal) (w : (⟨2, ![K, N]⟩ : Shape).Idx → EReal) (i : Fin M) (n : ℕ) : EReal :=
  if h : n < N then dot x w i ⟨n, h⟩ else 0

/-- An entry of a product, as the entry of a row. -/
theorem dotRow_mk {M K N : ℕ} (x : (⟨2, ![M, K]⟩ : Shape).Idx → EReal) (w : (⟨2, ![K, N]⟩ : Shape).Idx → EReal) (i : Fin M) (n : ℕ) (h : n < N) :
    dot x w i ⟨n, h⟩ = dotRow x w i n := by
  unfold dotRow
  rw [dif_pos h]

/-- A sum of products, as the entry of a row. -/
theorem sum_dotRow {M K N : ℕ} (x : (⟨2, ![M, K]⟩ : Shape).Idx → EReal) (w : (⟨2, ![K, N]⟩ : Shape).Idx → EReal) (i : Fin M) (n : ℕ) (h : n < N) :
    ∑ k : Fin K, x (ix2 i k) * w (ix2 k ⟨n, h⟩) = dotRow x w i n :=
  dotRow_mk x w i n h

/-- An entry of a row, divided by the root mean square of the 128 entries of its group. -/
def nrm (z : ℕ → EReal) (q : ℕ) : EReal :=
  z q * Ideal.rsqrt (Ideal.div (∑ x : Fin 128, z (q / 128 * 128 + x) * z (q / 128 * 128 + x)) (Ideal.ofBits .f32 0x43000000#32)
    + Ideal.ofBits .f32 0x358637BD#32)

/-- The normalised entry, its group's columns given in another way. -/
theorem nrm_eq (z : ℕ → EReal) (q q' : ℕ) (f : Fin 128 → ℕ) (hq : q' = q) (hf : ∀ x, f x = q / 128 * 128 + x.val) :
    z q' * Ideal.rsqrt (Ideal.div (∑ x : Fin 128, z (f x) * z (f x)) (Ideal.ofBits .f32 0x43000000#32) + Ideal.ofBits .f32 0x358637BD#32)
      = nrm z q := by
  unfold nrm
  simp only [hf, hq]

/-- Normalised entries agree where the groups' entries do. -/
theorem nrm_congr (z z' : ℕ → EReal) (q q' : ℕ) (h : q % 128 = q' % 128)
    (hz : ∀ e, e < 128 → z (q / 128 * 128 + e) = z' (q' / 128 * 128 + e)) : nrm z q = nrm z' q' := by
  unfold nrm
  simp only [hz _ (Fin.is_lt _)]
  have hq : z q = z' q' := by
    have := hz (q % 128) (Nat.mod_lt _ (by decide))
    rwa [show q / 128 * 128 + q % 128 = q by omega, show q' / 128 * 128 + q % 128 = q' by omega] at this
  rw [hq]

/-- One layer's matrix of a stack of matrices. -/
def slab {L K N : ℕ} (w : (⟨3, ![L, K, N]⟩ : Shape).Idx → EReal) (l : Fin L) : (⟨2, ![K, N]⟩ : Shape).Idx → EReal :=
  fun j => w (ix3 l (j 0) (j 1))

/-- The gated sum: the residual, and the embedding times the gate's logistic function. -/
def gated (r u a : EReal) : EReal := r + u * Ideal.logistic a

end Cert.Mm
end
-- ==== Proof.RetInVal.lean ====
/- The retention's input projection: what the call's blocks add up to, and the reference's product. -/
module

public import proofs.«01_k».proof.Proof.Gen.RetIn.Frame
public import proofs.«01_k».proof.Proof.Gen.RetInIdeal.Value
public import proofs.«01_k».proof.Proof.Gen.RetInRefIdeal.Run
public import proofs.«01_k».proof.Proof.MmSum
public import proofs.«01_k».proof.Defs
public import Idealize.ShloMosaic.Lib.Pipeline.ValueKit
public import Idealize.ShloMosaic.Lib.Pipeline.ReadBack

@[expose] public section

set_option maxRecDepth 16384

noncomputable section

namespace Cert.RetInIdeal.Value

open Cert.RetInIdeal Cert.RetInIdeal.Gen Cert.Mm Idealize.ShloMosaic Idealize.ShloMosaic.TcCoe Idealize.SL.Sem

/-- The first store of a block is the product of the point's blocks. -/
theorem first (w : Vec Ideal S1024x1024 .f32) (x : Vec Ideal S2048x1024 .bf16) (j) : k0_pay1 (F := Ideal) w x j = dot x w (j 0) (j 1) := by
  idx_vars j
  pointwise! [k0_pay1]

/-- A later store is what the block held and the product of the point's blocks. -/
theorem later (a : Vec Ideal S2048x1024 .f32) (w : Vec Ideal S1024x1024 .f32) (x : Vec Ideal S2048x1024 .bf16) (j) :
    k0_pay2 (F := Ideal) a w x j = (a j : EReal) + dot x w (j 0) (j 1) := by
  idx_vars j
  pointwise! [k0_pay2]

variable (m : (ℓ : Loc nD τ sig) → Buf (Elt Ideal) ℓ) (ρ : Dev nD → PrngReg)

/-- Where each window's block lies at a grid point. -/
theorem idx : ∀ t : Fin cfg0.N, win0_0.index t = ![t.val / 96, t.val % 4] ∧ win0_1.index t = ![t.val % 4, t.val / 4 % 24]
    ∧ win0_2.index t = ![t.val / 96, t.val / 4 % 24] :=
  (by decide +kernel : ∀ t : Fin grid0.N, _)

/-- What a grid point that writes back leaves in the output's block. -/
theorem block (c : Dev nD) (t : Fin cfg0.N) (hf : (cfg0.win 2).flush t = true) (y : S2048x1024.Idx) :
    outsAt0 m c t.val t.isLt y = (0 : EReal) + ∑ s : Fin 4, dot
      (iblk m c 0 ⟨4 * (t.val / 4) + s.val, Pipeline.run_point_lt_of_flush t ((flush0_2 t).mp hf) s⟩)
      (iblk m c 1 ⟨4 * (t.val / 4) + s.val, Pipeline.run_point_lt_of_flush t ((flush0_2 t).mp hf) s⟩) (y 0) (y 1) :=
  Pipeline.eq_sum_fin_of_reset_step_apply_of_flush (M := EReal) (fun n h => outsAt0 m c n h) 4 (fun _ => 0)
    (fun t j => dot (iblk m c 0 t) (iblk m c 1 t) (j 0) (j 1))
    (fun t h j => by
      rw [outsAt0_A m c t h (by omega)]; frame_out
      exact (first _ _ j).trans (zero_add _).symm)
    (fun t h j => by
      rw [outsAt0_B m c t h (by omega)]; frame_out
      exact later _ _ _ j) t ((flush0_2 t).mp hf) y

/-- The output array is the product of the two argument arrays. -/
theorem array (c : Dev nD) : (dats m 0 c).arrAt 2 cfg0.N = (fun j : S8192x24576.Idx =>
    dot (m ((c : Thread nD τ).loc main_arg0)) (m ((c : Thread nD τ).loc main_arg1)) (j 0) (j 1)) := by
  refine (dats m 0 c).arrAt_eq_of_covers 2 _ (by decide +kernel) fun t hf y => ?_
  refine (congrFun (after0_2 m c t) y).trans ((block m c t hf y).trans ((zero_add _).trans ?_))
  have ht : t.val < 384 := t.isLt
  have h3 := (flush0_2 t).mp hf
  obtain ⟨-, -, i2⟩ := idx t
  idx_vars y
  refine dot_blocks rfl _ _ _ _ _ _ _ _ (fun s k hl => ?_) (fun s k hl => ?_)
  all_goals obtain ⟨i0, i1, -⟩ := idx ⟨4 * (t.val / 4) + s.val, Pipeline.run_point_lt_of_flush t h3 s⟩
  · blk_ext [iblk, V_main_arg0, i0, i2]
  · blk_ext [iblk, V_main_arg1, i1, i2]

end Cert.RetInIdeal.Value

namespace Cert.Proof

open Cert.Mm Idealize.ShloMosaic Idealize.SL.Sem

/-- The reference of the retention's input projection runs, leaves its arguments and every counter as they were. -/
theorem retIn_ref_frame : Cert.quiescent_RetInRefIdeal := fun m ρ _ =>
  (θ_run Cert.RetInRefIdeal.defs _ _).mono (fun r h => ⟨fun c => (h c).2, sem_eq_zero_of_no_sems (by decide) r.2⟩)
    (Cert.RetInRefIdeal.Value.run (F := Ideal) m ρ)

/-- The retention's input projection and its reference compute the same product. -/
theorem retIn_algebraic : Cert.algebraic_RetInIdeal_RetInRefIdeal := by
  intro m ρ m' ρ' _ hin
  refine ⟨_, (θ_run Cert.RetInIdeal.defs _ _).mono (fun r h c => ⟨(h c).1.trans (Cert.RetInIdeal.Value.array m c), (h c).2⟩)
      (Cert.RetInIdeal.Value.run_blocks (F := Ideal) m ρ),
    (θ_run Cert.RetInRefIdeal.defs _ _).mono (fun r h c => ⟨(h c).1.trans ?_, (h c).2⟩) (Cert.RetInRefIdeal.Value.run (F := Ideal) m' ρ')⟩
  rw [(hin c).1, (hin c).2]
  funext j
  idx_vars j
  pointwise
  rfl

end Cert.Proof
end
-- ==== Proof.ResidVal.lean ====
/- The two output projections with their residuals: what the blocks of the calls add up to, and the references' sums. -/
module

public import proofs.«01_k».proof.Proof.Gen.RetOut.Frame
public import proofs.«01_k».proof.Proof.Gen.RetOutIdeal.Value
public import proofs.«01_k».proof.Proof.Gen.RetOutRefIdeal.Run
public import proofs.«01_k».proof.Proof.Gen.NsaOut.Frame
public import proofs.«01_k».proof.Proof.Gen.NsaOutIdeal.Value
public import proofs.«01_k».proof.Proof.Gen.NsaOutRefIdeal.Run
public import proofs.«01_k».proof.Proof.MmSum
public import proofs.«01_k».proof.Defs
public import Idealize.ShloMosaic.Lib.Pipeline.ValueKit
public import Idealize.ShloMosaic.Lib.Pipeline.ReadBack

@[expose] public section

set_option maxRecDepth 16384

noncomputable section

namespace Cert.RetOutIdeal.Value

open Cert.RetOutIdeal Cert.RetOutIdeal.Gen Cert.Mm Idealize.ShloMosaic Idealize.ShloMosaic.TcCoe Idealize.SL.Sem

/-- The first store of a block is the residual's block and the product of the point's blocks. -/
theorem first (r : Vec Ideal S2048x1024 .f32) (x : Vec Ideal S2048x1024 .bf16) (w : Vec Ideal S1024x1024 .f32) (j) :
    k0_pay1 (F := Ideal) r x w j = (r j : EReal) + dot x w (j 0) (j 1) := by
  idx_vars j
  pointwise! [k0_pay1]

/-- A later store is what the block held and the product of the point's blocks. -/
theorem later (a : Vec Ideal S2048x1024 .f32) (x : Vec Ideal S2048x1024 .bf16) (w : Vec Ideal S1024x1024 .f32) (j) :
    k0_pay2 (F := Ideal) a x w j = (a j : EReal) + dot x w (j 0) (j 1) := by
  idx_vars j
  pointwise! [k0_pay2]

variable (m : (ℓ : Loc nD τ sig) → Buf (Elt Ideal) ℓ) (ρ : Dev nD → PrngReg)

/-- Where each window's block lies at a grid point. -/
theorem idx : ∀ t : Fin cfg0.N, win0_0.index t = ![t.val / 32, t.val % 8] ∧ win0_1.index t = ![t.val % 8, t.val / 8 % 4]
    ∧ win0_2.index t = ![t.val / 32, t.val / 8 % 4] ∧ win0_3.index t = ![t.val / 32, t.val / 8 % 4] :=
  (by decide +kernel : ∀ t : Fin grid0.N, _)

/-- What a grid point that writes back leaves in the output's block: the residual's block and the products of the run. -/
theorem block (c : Dev nD) (t : Fin cfg0.N) (hf : (cfg0.win 3).flush t = true) (y : S2048x1024.Idx) :
    outsAt0 m c t.val t.isLt y
      = HAdd.hAdd (α := EReal) (iblk m c 2 ⟨8 * (t.val / 8), Nat.lt_of_le_of_lt (Nat.mul_div_le _ _) t.isLt⟩ y) (∑ s : Fin 8, dot
      (iblk m c 0 ⟨8 * (t.val / 8) + s.val, Pipeline.run_point_lt_of_flush t ((flush0_3 t).mp hf) s⟩)
      (iblk m c 1 ⟨8 * (t.val / 8) + s.val, Pipeline.run_point_lt_of_flush t ((flush0_3 t).mp hf) s⟩) (y 0) (y 1)) :=
  run_from (fun n h => outsAt0 m c n h) 8 (fun t j => iblk m c 2 t j)
    (fun t j => dot (iblk m c 0 t) (iblk m c 1 t) (j 0) (j 1))
    (fun t h j => by
      rw [outsAt0_A m c t h (by omega)]; frame_out
      exact Cert.RetOutIdeal.Value.first _ _ _ j)
    (fun t h j => by
      rw [outsAt0_B m c t h (by omega)]; frame_out
      exact Cert.RetOutIdeal.Value.later _ _ _ j) t ((flush0_3 t).mp hf) y

/-- The output array is the residual and the product of the two other argument arrays. -/
theorem array (c : Dev nD) : (dats m 0 c).arrAt 3 cfg0.N = (fun j : S8192x4096.Idx => HAdd.hAdd (α := EReal)
    (m ((c : Thread nD τ).loc main_arg2) j) (dot (m ((c : Thread nD τ).loc main_arg0)) (m ((c : Thread nD τ).loc main_arg1)) (j 0) (j 1))) := by
  refine (dats m 0 c).arrAt_eq_of_covers 3 _ (by decide +kernel) fun t hf y => ?_
  refine (congrFun (after0_3 m c t) y).trans ((block m c t hf y).trans ?_)
  have ht : t.val < 128 := t.isLt
  have h3 := (flush0_3 t).mp hf
  obtain ⟨-, -, -, i3⟩ := idx t
  idx_vars y
  refine congrArg₂ (fun u v : EReal => u + v) ?_ (dot_blocks rfl _ _ _ _ _ _ _ _ (fun s k hl => ?_) (fun s k hl => ?_))
  · obtain ⟨-, -, i2, -⟩ := idx ⟨8 * (t.val / 8), Nat.lt_of_le_of_lt (Nat.mul_div_le _ _) t.isLt⟩
    blk_ext [iblk, V_main_arg2, i2, i3]
  all_goals obtain ⟨i0, i1, -⟩ := idx ⟨8 * (t.val / 8) + s.val, Pipeline.run_point_lt_of_flush t h3 s⟩
  · blk_ext [iblk, V_main_arg0, i0, i3]
  · blk_ext [iblk, V_main_arg1, i1, i3]

end Cert.RetOutIdeal.Value

namespace Cert.Proof

open Cert.Mm Idealize.ShloMosaic Idealize.SL.Sem

/-- The reference of the retention's output projection runs, leaves its arguments and every counter as they were. -/
theorem retOut_ref_frame : Cert.quiescent_RetOutRefIdeal := fun m ρ _ =>
  (θ_run Cert.RetOutRefIdeal.defs _ _).mono (fun r h => ⟨fun c => (h c).2, sem_eq_zero_of_no_sems (by decide) r.2⟩)
    (Cert.RetOutRefIdeal.Value.run (F := Ideal) m ρ)

/-- The kernel of the retention's output projection and its reference compute the same sum of the residual and a product. -/
theorem retOut_algebraic : Cert.algebraic_RetOutIdeal_RetOutRefIdeal := by
  intro m ρ m' ρ' _ hin
  refine ⟨_, (θ_run Cert.RetOutIdeal.defs _ _).mono (fun r h c => ⟨(h c).1.trans (Cert.RetOutIdeal.Value.array m c), (h c).2⟩)
      (Cert.RetOutIdeal.Value.run_blocks (F := Ideal) m ρ),
    (θ_run Cert.RetOutRefIdeal.defs _ _).mono (fun r h c => ⟨(h c).1.trans ?_, (h c).2⟩) (Cert.RetOutRefIdeal.Value.run (F := Ideal) m' ρ')⟩
  rw [(hin c).1, (hin c).2.1, (hin c).2.2]
  funext j
  idx_vars j
  pointwise
  rfl

end Cert.Proof

namespace Cert.NsaOutIdeal.Value

open Cert.NsaOutIdeal Cert.NsaOutIdeal.Gen Cert.Mm Idealize.ShloMosaic Idealize.ShloMosaic.TcCoe Idealize.SL.Sem

variable (m : (ℓ : Loc nD τ sig) → Buf (Elt Ideal) ℓ) (ρ : Dev nD → PrngReg)

/-- Where each window's block lies at a grid point. -/
theorem idx : ∀ t : Fin cfg0.N, win0_0.index t = ![t.val / 16, t.val % 4] ∧ win0_1.index t = ![t.val % 4, t.val / 4 % 4]
    ∧ win0_2.index t = ![t.val / 16, t.val / 4 % 4] ∧ win0_3.index t = ![t.val / 16, t.val / 4 % 4] :=
  (by decide +kernel : ∀ t : Fin grid0.N, _)

/-- What a grid point that writes back leaves in the output's block: the residual's block and the products of the run. -/
theorem block (c : Dev nD) (t : Fin cfg0.N) (hf : (cfg0.win 3).flush t = true) (y : S2048x1024.Idx) :
    outsAt0 m c t.val t.isLt y
      = HAdd.hAdd (α := EReal) (iblk m c 2 ⟨4 * (t.val / 4), Nat.lt_of_le_of_lt (Nat.mul_div_le _ _) t.isLt⟩ y) (∑ s : Fin 4, dot
      (iblk m c 0 ⟨4 * (t.val / 4) + s.val, Pipeline.run_point_lt_of_flush t ((flush0_3 t).mp hf) s⟩)
      (iblk m c 1 ⟨4 * (t.val / 4) + s.val, Pipeline.run_point_lt_of_flush t ((flush0_3 t).mp hf) s⟩) (y 0) (y 1)) :=
  run_from (fun n h => outsAt0 m c n h) 4 (fun t j => iblk m c 2 t j)
    (fun t j => dot (iblk m c 0 t) (iblk m c 1 t) (j 0) (j 1))
    (fun t h j => by
      rw [outsAt0_A m c t h (by omega)]; frame_out
      exact Cert.RetOutIdeal.Value.first _ _ _ j)
    (fun t h j => by
      rw [outsAt0_B m c t h (by omega)]; frame_out
      exact Cert.RetOutIdeal.Value.later _ _ _ j) t ((flush0_3 t).mp hf) y

/-- The output array is the residual and the product of the two other argument arrays. -/
theorem array (c : Dev nD) : (dats m 0 c).arrAt 3 cfg0.N = (fun j : S8192x4096.Idx => HAdd.hAdd (α := EReal)
    (m ((c : Thread nD τ).loc main_arg2) j) (dot (m ((c : Thread nD τ).loc main_arg0)) (m ((c : Thread nD τ).loc main_arg1)) (j 0) (j 1))) := by
  refine (dats m 0 c).arrAt_eq_of_covers 3 _ (by decide +kernel) fun t hf y => ?_
  refine (congrFun (after0_3 m c t) y).trans ((block m c t hf y).trans ?_)
  have ht : t.val < 64 := t.isLt
  have h3 := (flush0_3 t).mp hf
  obtain ⟨-, -, -, i3⟩ := idx t
  idx_vars y
  refine congrArg₂ (fun u v : EReal => u + v) ?_ (dot_blocks rfl _ _ _ _ _ _ _ _ (fun s k hl => ?_) (fun s k hl => ?_))
  · obtain ⟨-, -, i2, -⟩ := idx ⟨4 * (t.val / 4), Nat.lt_of_le_of_lt (Nat.mul_div_le _ _) t.isLt⟩
    blk_ext [iblk, V_main_arg2, i2, i3]
  all_goals obtain ⟨i0, i1, -⟩ := idx ⟨4 * (t.val / 4) + s.val, Pipeline.run_point_lt_of_flush t h3 s⟩
  · blk_ext [iblk, V_main_arg0, i0, i3]
  · blk_ext [iblk, V_main_arg1, i1, i3]

end Cert.NsaOutIdeal.Value

namespace Cert.Proof

open Cert.Mm Idealize.ShloMosaic Idealize.SL.Sem

/-- The reference of the attention's output projection runs, leaves its arguments and every counter as they were. -/
theorem nsaOut_ref_frame : Cert.quiescent_NsaOutRefIdeal := fun m ρ _ =>
  (θ_run Cert.NsaOutRefIdeal.defs _ _).mono (fun r h => ⟨fun c => (h c).2, sem_eq_zero_of_no_sems (by decide) r.2⟩)
    (Cert.NsaOutRefIdeal.Value.run (F := Ideal) m ρ)

/-- The kernel of the attention's output projection and its reference compute the same sum of the residual and a product. -/
theorem nsaOut_algebraic : Cert.algebraic_NsaOutIdeal_NsaOutRefIdeal := by
  intro m ρ m' ρ' _ hin
  refine ⟨_, (θ_run Cert.NsaOutIdeal.defs _ _).mono (fun r h c => ⟨(h c).1.trans (Cert.NsaOutIdeal.Value.array m c), (h c).2⟩)
      (Cert.NsaOutIdeal.Value.run_blocks (F := Ideal) m ρ),
    (θ_run Cert.NsaOutRefIdeal.defs _ _).mono (fun r h c => ⟨(h c).1.trans ?_, (h c).2⟩) (Cert.NsaOutRefIdeal.Value.run (F := Ideal) m' ρ')⟩
  rw [(hin c).1, (hin c).2.1, (hin c).2.2]
  funext j
  idx_vars j
  pointwise
  rfl

end Cert.Proof
end
-- ==== Proof.PleVal.lean ====
/- The per-layer embedding's gate: what the call's blocks hold at the last point of a run, and the reference's gated sum. -/
module

public import proofs.«01_k».proof.Proof.Gen.Ple.Frame
public import proofs.«01_k».proof.Proof.Gen.PleIdeal.Value
public import proofs.«01_k».proof.Proof.Gen.PleRefIdeal.Run
public import proofs.«01_k».proof.Proof.MmSum
public import proofs.«01_k».proof.Defs
public import Idealize.ShloMosaic.Lib.Pipeline.ValueKit
public import Idealize.ShloMosaic.Lib.Pipeline.ReadBack

@[expose] public section

set_option maxRecDepth 16384

noncomputable section

namespace Cert.PleIdeal.Value

open Cert.PleIdeal Cert.PleIdeal.Gen Cert.Mm Idealize.ShloMosaic Idealize.ShloMosaic.TcCoe Idealize.SL.Sem

/-- The first store of a block is the product of the point's blocks. -/
theorem first (w : Vec Ideal S1x512x1024 .f32) (x : Vec Ideal S2048x512 .bf16) (j) :
    k0_pay1 (F := Ideal) w x j = dot x (slab w 0) (j 0) (j 1) := by
  idx_vars j
  pointwise! [k0_pay1]

/-- A later store is what the block held and the product of the point's blocks. -/
theorem later (a : Vec Ideal S2048x1024 .f32) (w : Vec Ideal S1x512x1024 .f32) (x : Vec Ideal S2048x512 .bf16) (j) :
    k0_pay2 (F := Ideal) a w x j = (a j : EReal) + dot x (slab w 0) (j 0) (j 1) := by
  idx_vars j
  pointwise! [k0_pay2]

/-- The last store is the gated sum of what the block then holds. -/
theorem last (a : Vec Ideal S2048x1024 .f32) (p : Vec Ideal S2048x256 .f32) (u : Vec Ideal S1x256x1024 .f32) (r : Vec Ideal S2048x1024 .f32) (j) :
    k0_pay3 (F := Ideal) a p u r j = gated (r j) (dot p (slab u 0) (j 0) (j 1)) (a j) := by
  idx_vars j
  pointwise! [k0_pay3]

variable (m : (ℓ : Loc nD τ sig) → Buf (Elt Ideal) ℓ) (ρ : Dev nD → PrngReg)

/-- Where each window's block lies at a grid point. -/
theorem idx : ∀ t : Fin cfg0.N, win0_0.index t = ![t.val / 32, t.val % 8] ∧ win0_1.index t = ![1, t.val % 8, t.val / 8 % 4]
    ∧ win0_2.index t = ![t.val / 32, t.val / 8 % 4] ∧ win0_3.index t = ![t.val / 32, 0] ∧ win0_4.index t = ![1, 0, t.val / 8 % 4]
    ∧ win0_5.index t = ![t.val / 32, t.val / 8 % 4] :=
  (by decide +kernel : ∀ t : Fin grid0.N, _)

/-- What the last point of a run leaves in the output's block. -/
theorem block (c : Dev nD) (t : Fin cfg0.N) (hr : t.val % 8 = 8 - 1) (y : S2048x1024.Idx) :
    outsAt0 m c t.val t.isLt y = gated (iblk m c 2 t y) (dot (iblk m c 3 t) (slab (iblk m c 4 t) 0) (y 0) (y 1)) (∑ s : Fin 8, dot
      (iblk m c 0 ⟨8 * (t.val / 8) + s.val, Pipeline.run_point_lt_of_flush t hr s⟩)
      (slab (iblk m c 1 ⟨8 * (t.val / 8) + s.val, Pipeline.run_point_lt_of_flush t hr s⟩) 0) (y 0) (y 1)) := by
  rw [← run_upto (fun n h => outsAt0 m c n h) 8 (by decide) (fun t j => dot (iblk m c 0 t) (slab (iblk m c 1 t) 0) (j 0) (j 1))
    (fun t h j => by
      rw [outsAt0_A m c t h (by omega) (by omega)]; frame_out
      exact first _ _ j)
    (fun t h h' j => by
      rw [outsAt0_B m c t h (by omega) h']; frame_out
      exact later _ _ _ j) t hr y,
    outsAt0_C m c t (by omega) (by omega) hr]
  frame_out
  exact (last _ _ _ _ y).trans (congrArg _ (later _ _ _ y))

/-- The output array is the gated sum of the argument arrays, of the second layer's weights. -/
theorem array (c : Dev nD) : (dats m 0 c).arrAt 5 cfg0.N = (fun j : S8192x4096.Idx => gated (m ((c : Thread nD τ).loc main_arg2) j)
    (dot (m ((c : Thread nD τ).loc main_arg3)) (slab (m ((c : Thread nD τ).loc main_arg4)) 1) (j 0) (j 1))
    (dot (m ((c : Thread nD τ).loc main_arg0)) (slab (m ((c : Thread nD τ).loc main_arg1)) 1) (j 0) (j 1))) := by
  refine (dats m 0 c).arrAt_eq_of_covers 5 _ (by decide +kernel) fun t hf y => ?_
  have hr : t.val % 8 = 8 - 1 := (flush0_5 t).mp hf
  refine (congrFun (after0_5 m c t) y).trans ((block m c t hr y).trans ?_)
  have ht : t.val < 128 := t.isLt
  obtain ⟨-, -, i2, i3, i4, i5⟩ := idx t
  idx_vars y
  refine congr (congrArg₂ gated ?_ (Finset.sum_congr rfl fun k _ => congrArg₂ (fun u v : EReal => u * v) ?_ ?_))
    (dot_blocks rfl _ _ _ _ _ _ _ _ (fun s k hl => ?_) (fun s k hl => ?_))
  · blk_ext [iblk, V_main_arg2, i2, i5]
  · blk_ext [iblk, V_main_arg3, i3, i5]
  · unfold slab
    blk_ext [iblk, V_main_arg4, i4, i5]
  all_goals obtain ⟨i0, i1, -⟩ := idx ⟨8 * (t.val / 8) + s.val, Pipeline.run_point_lt_of_flush t hr s⟩
  · blk_ext [iblk, V_main_arg0, i0, i5]
  · unfold slab
    blk_ext [iblk, V_main_arg1, i1, i5]

end Cert.PleIdeal.Value

namespace Cert.Proof

open Cert.Mm Idealize.ShloMosaic Idealize.SL.Sem

/-- The reference of the embedding's gate runs, leaves its arguments and every counter as they were. -/
theorem ple_ref_frame : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

/-- The kernel of the embedding's gate and its reference compute the same gated sum. -/
theorem ple_algebraic : Cert.algebraic_PleIdeal_PleRefIdeal := by
  intro m ρ m' ρ' _ hin
  refine ⟨_, (θ_run Cert.PleIdeal.defs _ _).mono (fun r h c => ⟨(h c).1.trans (Cert.PleIdeal.Value.array m c), (h c).2⟩)
      (Cert.PleIdeal.Value.run_blocks (F := Ideal) m ρ),
    (θ_run Cert.PleRefIdeal.defs _ _).mono (fun r h c => ⟨(h c).1.trans ?_, (h c).2⟩) (Cert.PleRefIdeal.Value.run (F := Ideal) m' ρ')⟩
  rw [(hin c).1, (hin c).2.1, (hin c).2.2.1, (hin c).2.2.2.1, (hin c).2.2.2.2]
  funext j
  idx_vars j
  pointwise
  rfl

end Cert.Proof
end
-- ==== Proof.KvPure.lean ====
/- The key and value projection's entries for any number of rows: what a block's last store and the reference's stacks give. -/
module

public import proofs.«01_k».proof.Proof.MmSum
public import Idealize.ShloMosaic.PureOps.Ideal

@[expose] public section

noncomputable section

namespace Cert.Kv2

open Cert.Mm Idealize.ShloMosaic

/-- The number one half. -/
theorem half : Ideal.ofBits .f32 0x3F000000#32 = (((1 : ℝ) / 2 : ℝ) : EReal) := by
  simp [Ideal.ofBits, Ideal.ieee, -EReal.coe_mul]; norm_num

/-- The projection's entry: the product, normalised in groups and scaled in the columns of the selected and the window's keys. -/
def entry {M : ℕ} (x : (⟨2, ![M, 4096]⟩ : Shape).Idx → EReal) (w : (⟨2, ![4096, 3072]⟩ : Shape).Idx → EReal)
    (g g' : (⟨1, ![128]⟩ : Shape).Idx → EReal) (R : Fin M) (Q : Fin 3072) : EReal :=
  if Q.val / 512 = 2 then nrm (dotRow x w R) Q.val * g (ix1 ⟨Q.val % 128, Nat.mod_lt _ (by decide)⟩)
  else if Q.val / 512 = 4 then nrm (dotRow x w R) Q.val * g' (ix1 ⟨Q.val % 128, Nat.mod_lt _ (by decide)⟩)
  else dot x w R Q

/-- The projection's entry, the product as the entry of a row. -/
theorem entry_eq {M : ℕ} (x : (⟨2, ![M, 4096]⟩ : Shape).Idx → EReal) (w : (⟨2, ![4096, 3072]⟩ : Shape).Idx → EReal)
    (g g' : (⟨1, ![128]⟩ : Shape).Idx → EReal) (R : Fin M) (Q : Fin 3072) :
    entry x w g g' R Q = if Q.val / 512 = 2 then nrm (dotRow x w R) Q.val * g (ix1 ⟨Q.val % 128, Nat.mod_lt _ (by decide)⟩)
      else if Q.val / 512 = 4 then nrm (dotRow x w R) Q.val * g' (ix1 ⟨Q.val % 128, Nat.mod_lt _ (by decide)⟩)
      else dotRow x w R Q.val := by
  unfold entry
  rw [dotRow_mk x w R Q.val Q.isLt]

/-- The last store of a column that holds the product is the projection's entry, if the gain and the flag are the column's. -/
theorem entry_of {M : ℕ} (x : (⟨2, ![M, 4096]⟩ : Shape).Idx → EReal) (w : (⟨2, ![4096, 3072]⟩ : Shape).Idx → EReal)
    (g g' : (⟨1, ![128]⟩ : Shape).Idx → EReal) (R : Fin M) (Q : Fin 3072) (z : ℕ → EReal) (q o : ℕ) (hQ : Q.val = o * 1024 + q) (hq : q < 1024)
    (hz : ∀ n, n < 1024 → z n = dotRow x w R (o * 1024 + n)) (gn fl : EReal)
    (h2 : Q.val / 512 = 2 → gn = g (ix1 ⟨Q.val % 128, Nat.mod_lt _ (by decide)⟩))
    (h4 : Q.val / 512 = 4 → gn = g' (ix1 ⟨Q.val % 128, Nat.mod_lt _ (by decide)⟩))
    (on : Q.val / 512 = 2 ∨ Q.val / 512 = 4 → fl = Ideal.ofBits .f32 0x3F800000#32)
    (off : ¬(Q.val / 512 = 2 ∨ Q.val / 512 = 4) → fl = Ideal.ofBits .f32 0x00000000#32) :
    (if (((1 : ℝ) / 2 : ℝ) : EReal) < fl then nrm z q * gn else z q) = entry x w g g' R Q := by
  have hn : nrm z q = nrm (dotRow x w R) Q :=
    nrm_congr _ _ _ _ (by omega) fun e he => (hz _ (by omega)).trans (congrArg _ (by omega))
  rw [entry_eq]
  by_cases c2 : Q.val / 512 = 2
  · rw [on (.inl c2), h2 c2, if_pos (by rw [Ideal.ofBits_one_f32]; norm_cast; norm_num), if_pos c2, hn]
  by_cases c4 : Q.val / 512 = 4
  · rw [on (.inr c4), h4 c4, if_pos (by rw [Ideal.ofBits_one_f32]; norm_cast; norm_num), if_neg c2, if_pos c4, hn]
  rw [off (by omega), if_neg (by rw [Ideal.ofBits_zero_f32]; norm_cast; norm_num), if_neg c2, if_neg c4, hz q hq, ← hQ]

/-- The stacks of the reference, read at a column: each is a piece of the product, normalised for the selected and the window's keys. -/
theorem pick (z : ℕ → EReal) (g g' : EReal) (q : ℕ) (hq : q < 3072) :
    (if _ : q / 512 < 2 then z q
      else if _ : q / 512 - 2 < 2 then
        if _ : q / 512 - 2 < 1 then
          z (1024 + q / 128 % 4 * 128 + q % 128) * Ideal.rsqrt (Ideal.div (∑ x : Fin 128, z (1024 + q / 128 % 4 * 128 + x) * z (1024 + q / 128 % 4 * 128 + x))
            (Ideal.ofBits .f32 0x43000000#32) + Ideal.ofBits .f32 0x358637BD#32) * g
        else z (1536 + q / 128 % 4 * 128 + q % 128)
      else if _ : q / 512 - 2 - 2 < 1 then
          z (2048 + q / 128 % 4 * 128 + q % 128) * Ideal.rsqrt (Ideal.div (∑ x : Fin 128, z (2048 + q / 128 % 4 * 128 + x) * z (2048 + q / 128 % 4 * 128 + x))
            (Ideal.ofBits .f32 0x43000000#32) + Ideal.ofBits .f32 0x358637BD#32) * g'
        else z (2560 + q / 128 % 4 * 128 + q % 128))
      = if q / 512 = 2 then nrm z q * g else if q / 512 = 4 then nrm z q * g' else z q := by
  by_cases h2 : q / 512 = 2
  · rw [dif_neg (by omega), dif_pos (by omega), dif_pos (by omega), if_pos h2]
    rw [nrm_eq z q _ _ (by omega) (fun x => by omega)]
  by_cases h4 : q / 512 = 4
  · rw [dif_neg (by omega), dif_neg (by omega), dif_pos (by omega), if_neg h2, if_pos h4]
    rw [nrm_eq z q _ _ (by omega) (fun x => by omega)]
  rw [if_neg h2, if_neg h4]
  split_ifs <;> first | (exfalso; omega) | exact congrArg z (by omega)

end Cert.Kv2
-- ==== Proof.KvVal.lean ====
/- The shared key and value projection: the products, the normalised groups and the gains, and the reference's stacks. -/
module

public import proofs.«01_k».proof.Proof.Gen.Kv.Frame
public import proofs.«01_k».proof.Proof.Gen.KvIdeal.Value
public import proofs.«01_k».proof.Proof.Gen.KvRefIdeal.Run
public import proofs.«01_k».proof.Proof.KvPure
public import proofs.«01_k».proof.Defs
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.KvIdeal.Value

open Cert.KvIdeal Cert.KvIdeal.Gen Cert.Mm Cert.Kv2 Idealize.ShloMosaic Idealize.ShloMosaic.TcCoe Idealize.SL.Sem

/-- The first store of a block is the product of the point's blocks. -/
theorem first (w : Vec Ideal S1024x1024 .f32) (x : Vec Ideal S2048x1024 .bf16) (j) : k0_pay1 (F := Ideal) w x j = dot x w (j 0) (j 1) := by
  idx_vars j
  pointwise! [k0_pay1]

/-- A later store is what the block held and the product of the point's blocks. -/
theorem later (a : Vec Ideal S2048x1024 .f32) (w : Vec Ideal S1024x1024 .f32) (x : Vec Ideal S2048x1024 .bf16) (j) :
    k0_pay2 (F := Ideal) a w x j = (a j : EReal) + dot x w (j 0) (j 1) := by
  idx_vars j
  pointwise! [k0_pay2]

/-- The eight normalised groups, side by side, are the normalised entries of the block. -/
theorem groups (a : Vec Ideal S2048x1024 .f32) (r : Fin 2048) (q : Fin 1024) :
    k0_pay9 (F := Ideal) (k0_pay4 a) (k0_pay5 a) (k0_pay6 a) (k0_pay7 a) (k0_pay8 a) (ix2 r q) = nrm (row a r) q := by
  pointwise! [k0_pay9, k0_pay4, k0_pay5, k0_pay6, k0_pay7, k0_pay8]
  simp only [row_mk a r]
  split_ifs <;> exact nrm_eq _ _ _ _ (by omega) (fun x => by omega)

/-- The last store: a flagged column is normalised and scaled, another stays. -/
theorem last (a : Vec Ideal S2048x1024 .f32) (g f : Vec Ideal S1x1024 .f32) (r : Fin 2048) (q : Fin 1024) :
    k0_pay3 (F := Ideal) (k0_pay4 a) (k0_pay9 (k0_pay4 a) (k0_pay5 a) (k0_pay6 a) (k0_pay7 a) (k0_pay8 a)) g f (ix2 r q)
      = if (((1 : ℝ) / 2 : ℝ) : EReal) < f (ix2 0 q) then nrm (row a r) q * g (ix2 0 q) else row a r q := by
  have h := groups a r q
  generalize k0_pay9 (F := Ideal) (k0_pay4 a) (k0_pay5 a) (k0_pay6 a) (k0_pay7 a) (k0_pay8 a) = n at h ⊢
  pointwise! [k0_pay3, k0_pay4]
  rw [half, h, ← row_mk a r q.val q.isLt]

variable (m : (ℓ : Loc nD τ sig) → Buf (Elt Ideal) ℓ) (ρ : Dev nD → PrngReg)

/-- The gain of a column of the selected keys. -/
theorem gain_slc (c : Dev nD) (j : Fin 3072) (h : j.val / 512 = 2) : (V m c main_v8 : S1x3072.Idx → EReal) (ix2 0 j)
    = m ((c : Thread nD τ).loc main_arg2) (ix1 ⟨j.val % 128, Nat.mod_lt _ (by decide)⟩) := by
  unfold V
  after_reads_at
  pointwise
  rw [dif_neg (by omega), dif_neg (by omega), dif_pos (by omega)]
  after_reads_at
  pointwise
  exact congrArg (fun e => m (c, Proc.tc.devRef main_arg2) (ix1 e)) (Fin.ext (by show (j.val - 512 - 512) % 128 = j.val % 128; omega))

/-- The gain of a column of the window's keys. -/
theorem gain_win (c : Dev nD) (j : Fin 3072) (h : j.val / 512 = 4) : (V m c main_v8 : S1x3072.Idx → EReal) (ix2 0 j)
    = m ((c : Thread nD τ).loc main_arg3) (ix1 ⟨j.val % 128, Nat.mod_lt _ (by decide)⟩) := by
  unfold V
  after_reads_at
  pointwise
  rw [dif_neg (by omega), dif_neg (by omega), dif_neg (by omega), dif_neg (by omega), dif_pos (by omega)]
  after_reads_at
  pointwise
  exact congrArg (fun e => m (c, Proc.tc.devRef main_arg3) (ix1 e))
    (Fin.ext (by show (j.val - 512 - 512 - 512 - 512) % 128 = j.val % 128; omega))

/-- The columns of the selected and the window's keys are flagged. -/
theorem flag_on (c : Dev nD) (j : Fin 3072) (h : j.val / 512 = 2 ∨ j.val / 512 = 4) : (V m c main_v11 : S1x3072.Idx → EReal) (ix2 0 j) = Ideal.ofBits .f32 0x3F800000#32 := by
  unfold V
  after_reads_at
  pointwise
  split_ifs <;> first | omega | (after_reads_at; done) | (after_reads_at; rfl)

/-- The other columns are not. -/
theorem flag_off (c : Dev nD) (j : Fin 3072) (h : ¬(j.val / 512 = 2 ∨ j.val / 512 = 4)) :
    (V m c main_v11 : S1x3072.Idx → EReal) (ix2 0 j) = Ideal.ofBits .f32 0x00000000#32 := by
  unfold V
  after_reads_at
  pointwise
  split_ifs <;> first | omega | (after_reads_at; done) | (after_reads_at; rfl)

/-- Where each window's block lies at a grid point. -/
theorem idx : ∀ t : Fin cfg0.N, win0_0.index t = ![t.val / 12, t.val % 4] ∧ win0_1.index t = ![t.val % 4, t.val / 4 % 3]
    ∧ win0_2.index t = ![0, t.val / 4 % 3] ∧ win0_3.index t = ![0, t.val / 4 % 3] ∧ win0_4.index t = ![t.val / 12, t.val / 4 % 3] :=
  (by decide +kernel : ∀ t : Fin grid0.N, _)

/-- What the last point of a run leaves in the output's block: the last store over the block with all the products of the run. -/
theorem block (c : Dev nD) (t : Fin cfg0.N) (hr : t.val % 4 = 4 - 1) : ∃ a : Vec Ideal S2048x1024 .f32,
    (∀ y, a y = ∑ s : Fin 4, dot (iblk m c 0 ⟨4 * (t.val / 4) + s.val, Pipeline.run_point_lt_of_flush t hr s⟩)
      (iblk m c 1 ⟨4 * (t.val / 4) + s.val, Pipeline.run_point_lt_of_flush t hr s⟩) (y 0) (y 1)) ∧
    outsAt0 m c t.val t.isLt = k0_pay3 (F := Ideal) (k0_pay4 a)
      (k0_pay9 (k0_pay4 a) (k0_pay5 a) (k0_pay6 a) (k0_pay7 a) (k0_pay8 a)) (iblk m c 2 t) (iblk m c 3 t) := by
  refine ⟨k0_pay2 (F := Ideal) (outsAt0 m c (t.val - 1) (Nat.lt_of_le_of_lt (Nat.sub_le _ _) t.isLt)) (iblk m c 1 t) (iblk m c 0 t), fun y => ?_, ?_⟩
  · refine (later _ _ _ y).trans (run_upto (fun n h => outsAt0 m c n h) 4 (by decide)
      (fun t j => dot (iblk m c 0 t) (iblk m c 1 t) (j 0) (j 1)) (fun t h j => ?_) (fun t h h' j => ?_) t hr y)
    · rw [outsAt0_A m c t h (by omega) (by omega)]; frame_out
      exact first _ _ j
    · rw [outsAt0_B m c t h (by omega) h']; frame_out
      exact later _ _ _ j
  · rw [outsAt0_C m c t (by omega) (by omega) hr]; frame_out

/-- The block of the gains at a grid point. -/
theorem gain_blk (c : Dev nD) (t : Fin cfg0.N) (q : Fin 1024) (Q : Fin 3072) (hQ : Q.val = t.val / 4 % 3 * 1024 + q.val) :
    iblk m c 2 t (ix2 0 q) = (V m c main_v8 : S1x3072.Idx → EReal) (ix2 0 Q) := by
  obtain ⟨-, -, i2, -, -⟩ := idx t
  blk_ext [iblk, i2]

/-- The block of the flags at a grid point. -/
theorem flag_blk (c : Dev nD) (t : Fin cfg0.N) (q : Fin 1024) (Q : Fin 3072) (hQ : Q.val = t.val / 4 % 3 * 1024 + q.val) :
    iblk m c 3 t (ix2 0 q) = (V m c main_v11 : S1x3072.Idx → EReal) (ix2 0 Q) := by
  obtain ⟨-, -, -, i3, -⟩ := idx t
  blk_ext [iblk, i3]

/-- All the products of a run: one entry of the whole product. -/
theorem dots (c : Dev nD) (t : Fin cfg0.N) (hr : t.val % 4 = 4 - 1) (r : Fin 2048) (q : Fin 1024) (R : Fin 8192) (Q : Fin 3072)
    (hR : R.val = t.val / 12 * 2048 + r.val) (hQ : Q.val = t.val / 4 % 3 * 1024 + q.val) :
    ∑ s : Fin 4, dot (iblk m c 0 ⟨4 * (t.val / 4) + s.val, Pipeline.run_point_lt_of_flush t hr s⟩)
      (iblk m c 1 ⟨4 * (t.val / 4) + s.val, Pipeline.run_point_lt_of_flush t hr s⟩) r q
      = dot (m ((c : Thread nD τ).loc main_arg0)) (m ((c : Thread nD τ).loc main_arg1)) R Q := by
  have ht : t.val < 48 := t.isLt
  refine dot_blocks rfl _ _ _ _ _ _ _ _ (fun s k hl => ?_) (fun s k hl => ?_)
  all_goals obtain ⟨i0, i1, -, -, -⟩ := idx ⟨4 * (t.val / 4) + s.val, Pipeline.run_point_lt_of_flush t hr s⟩
  · blk_ext [iblk, V_main_arg0, i0]
  · blk_ext [iblk, V_main_arg1, i1]

/-- An entry of the block that the last point of a run leaves. -/
theorem block_entry (c : Dev nD) (t : Fin cfg0.N) (hr : t.val % 4 = 4 - 1) (r : Fin 2048) (q : Fin 1024) (R : Fin 8192) (Q : Fin 3072)
    (hR : R.val = t.val / 12 * 2048 + r.val) (hQ : Q.val = t.val / 4 % 3 * 1024 + q.val) :
    outsAt0 m c t.val t.isLt (ix2 r q) = entry (m ((c : Thread nD τ).loc main_arg0)) (m ((c : Thread nD τ).loc main_arg1))
      (m ((c : Thread nD τ).loc main_arg2)) (m ((c : Thread nD τ).loc main_arg3)) R Q := by
  obtain ⟨a, ha, ho⟩ := block m c t hr
  have hrow : ∀ n, n < 1024 → row a r n
      = dotRow (m ((c : Thread nD τ).loc main_arg0)) (m ((c : Thread nD τ).loc main_arg1)) R (t.val / 4 % 3 * 1024 + n) := fun n hn => by
    rw [← row_mk a r n hn, ← dotRow_mk _ _ R _ (by omega : t.val / 4 % 3 * 1024 + n < 3072)]
    exact (ha _).trans (dots m c t hr r ⟨n, hn⟩ R _ hR rfl)
  rw [ho, last, gain_blk m c t q Q hQ, flag_blk m c t q Q hQ]
  exact entry_of _ _ _ _ R Q _ _ _ hQ q.isLt hrow _ _ (gain_slc m c Q) (gain_win m c Q) (flag_on m c Q) (flag_off m c Q)

/-- The output array holds the projection's entries. -/
theorem array (c : Dev nD) : (dats m 0 c).arrAt 4 cfg0.N = (fun j : S8192x3072.Idx => entry (m ((c : Thread nD τ).loc main_arg0))
      (m ((c : Thread nD τ).loc main_arg1)) (m ((c : Thread nD τ).loc main_arg2)) (m ((c : Thread nD τ).loc main_arg3)) (j 0) (j 1)) := by
  refine (dats m 0 c).arrAt_eq_of_covers 4 _ (by decide +kernel) fun t hf y => ?_
  have hr : t.val % 4 = 4 - 1 := (flush0_4 t).mp hf
  have ht : t.val < 48 := t.isLt
  obtain ⟨-, -, -, -, i4⟩ := idx t
  idx_vars y
  refine (congrFun (after0_4 m c t) _).trans ((block_entry m c t hr y0 y1 ⟨t.val / 12 * 2048 + y0.val, by omega⟩
    ⟨t.val / 4 % 3 * 1024 + y1.val, by omega⟩ rfl rfl).trans
    (congrArg₂ (entry _ _ _ _) (Fin.ext ?_) (Fin.ext ?_)))
  · blk_simp [i4]
  · blk_simp [i4]

end Cert.KvIdeal.Value

namespace Cert.KvRefIdeal.Value

open Cert.KvRefIdeal Cert.KvRefIdeal.Gen Cert.Mm Cert.Kv2 Idealize.ShloMosaic Idealize.ShloMosaic.TcCoe Idealize.SL.Sem

/-- The reference's result holds the projection's entries. -/
theorem result (m : (ℓ : Loc nD τ sig) → Buf (Elt Ideal) ℓ) (c : Dev nD) : res_main_v45 m c = (fun j : S8192x3072.Idx =>
    entry (m ((c : Thread nD τ).loc main_arg0)) (m ((c : Thread nD τ).loc main_arg1)) (m ((c : Thread nD τ).loc main_arg2))
      (m ((c : Thread nD τ).loc main_arg3)) (j 0) (j 1)) := by
  funext y
  idx_vars y
  unfold res_main_v45
  pointwise
  simp only [sum_dotRow]
  show _ = entry _ _ _ _ y0 y1
  exact (pick _ _ _ y1.val y1.isLt).trans (entry_eq _ _ _ _ y0 y1).symm

end Cert.KvRefIdeal.Value

namespace Cert.Proof

open Cert.Mm Cert.Kv2 Idealize.ShloMosaic Idealize.SL.Sem

/-- The reference of the key and value projection runs, leaves its arguments and every counter as they were. -/
theorem kv_ref_frame : Cert.quiescent_KvRefIdeal := fun m ρ _ =>
  (θ_run Cert.KvRefIdeal.defs _ _).mono (fun r h => ⟨fun c => (h c).2, sem_eq_zero_of_no_sems (by decide) r.2⟩)
    (Cert.KvRefIdeal.Value.run (F := Ideal) m ρ)

/-- The kernel of the key and value projection and its reference compute the same entries. -/
theorem kv_algebraic : Cert.algebraic_KvIdeal_KvRefIdeal := by
  intro m ρ m' ρ' _ hin
  refine ⟨_, (θ_run Cert.KvIdeal.defs _ _).mono (fun r h c => ⟨(h c).1.trans (Cert.KvIdeal.Value.array m c), (h c).2⟩)
      (Cert.KvIdeal.Value.run_blocks (F := Ideal) m ρ),
    (θ_run Cert.KvRefIdeal.defs _ _).mono (fun r h c => ⟨(h c).1.trans ((Cert.KvRefIdeal.Value.result m' c).trans ?_), (h c).2⟩)
      (Cert.KvRefIdeal.Value.run (F := Ideal) m' ρ')⟩
  rw [(hin c).1, (hin c).2.1, (hin c).2.2.1, (hin c).2.2.2]

end Cert.Proof
end
-- ==== Proof.NsaQVal.lean ====
/- The query projection: the products, the normalised heads and their gain. -/
module

public import proofs.«01_k».proof.Proof.Gen.NsaQ.Frame
public import proofs.«01_k».proof.Proof.Gen.NsaQIdeal.Value
public import proofs.«01_k».proof.Proof.Gen.NsaQRefIdeal.Run
public import proofs.«01_k».proof.Proof.MmSum
public import proofs.«01_k».proof.Defs
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.NsaQIdeal.Value

open Cert.NsaQIdeal Cert.NsaQIdeal.Gen Cert.Mm Idealize.ShloMosaic Idealize.ShloMosaic.TcCoe Idealize.SL.Sem
/-- The first store of a block is the product of the point's blocks. -/
theorem first (w : Vec Ideal S1024x1024 .f32) (x : Vec Ideal S2048x1024 .bf16) (j) : k0_pay1 (F := Ideal) w x j = dot x w (j 0) (j 1) := by
  idx_vars j
  pointwise! [k0_pay1]

/-- A later store is what the block held and the product of the point's blocks. -/
theorem later (a : Vec Ideal S2048x1024 .f32) (w : Vec Ideal S1024x1024 .f32) (x : Vec Ideal S2048x1024 .bf16) (j) :
    k0_pay2 (F := Ideal) a w x j = (a j : EReal) + dot x w (j 0) (j 1) := by
  idx_vars j
  pointwise! [k0_pay2]

/-- An entry of one head of a block: its group of 128 columns, normalised and scaled. -/
def head (a : Vec Ideal S2048x1024 .f32) (g : Vec Ideal S1x128 .f32) (n : ℕ) (r : Fin 2048) (e : Fin 128) : EReal :=
  nrm (row a r) (n * 128 + e.val) * g (ix2 0 e)

/-- A head read at an index of the part of the block it fills. -/
theorem head_emb (a : Vec Ideal S2048x1024 .f32) (g : Vec Ideal S1x128 .f32) (n : ℕ)
    (inb : ∀ i, (![0, 0, n, 0, 0] : Fin 5 → ℕ) i + (![1, 1, 1, 2048, 128] : Fin 5 → ℕ) i ≤ S1x1x8x2048x128.size i)
    (x : S1x1x1x2048x128.Idx) : (fun y : S1x1x8x2048x128.Idx => head a g (y 2).val (y 3) (y 4))
      ((Rect.unit (s := S1x1x8x2048x128) ![0, 0, n, 0, 0] ![1, 1, 1, 2048, 128] inb).emb x) = head a g n (x 3) (x 4) := by
  idx_vars x
  have h := ValueKit.rect_emb_unit_val (s := S1x1x8x2048x128) ![0, 0, n, 0, 0] ![1, 1, 1, 2048, 128] inb (ix5 x0 x1 x2 x3 x4)
  have h2 : _ = n + x2.val := h 2
  have h3 : _ = 0 + x3.val := h 3
  have h4 : _ = 0 + x4.val := h 4
  show head a g _ _ _ = head a g n x3 x4
  congr 1
  · exact h2.trans (by omega)
  · exact Fin.ext (h3.trans (by omega))
  · exact Fin.ext (h4.trans (by omega))

/-- The eight stores of a block are its heads. -/
theorem pieces (a : Vec Ideal S2048x1024 .f32) (g : Vec Ideal S1x128 .f32) : View.PiecesOf (Val := Elt Ideal) (e := .f32)
    (fun y : S1x1x8x2048x128.Idx => head a g (y 2).val (y 3) (y 4))
    [⟨Rect.unit ![0, 0, 7, 0, 0] ![1, 1, 1, 2048, 128] inb_S1x1x8x2048x128_S1x1x1x2048x128_0_0_7_0_0, k0_pay4 a g⟩,
      ⟨Rect.unit ![0, 0, 6, 0, 0] ![1, 1, 1, 2048, 128] inb_S1x1x8x2048x128_S1x1x1x2048x128_0_0_6_0_0, k0_pay3 (k0_pay12 a) (k0_pay13 a) g⟩,
      ⟨Rect.unit ![0, 0, 5, 0, 0] ![1, 1, 1, 2048, 128] inb_S1x1x8x2048x128_S1x1x1x2048x128_0_0_5_0_0, k0_pay11 a g⟩,
      ⟨Rect.unit ![0, 0, 4, 0, 0] ![1, 1, 1, 2048, 128] inb_S1x1x8x2048x128_S1x1x1x2048x128_0_0_4_0_0, k0_pay10 (k0_pay9 a) g⟩,
      ⟨Rect.unit ![0, 0, 3, 0, 0] ![1, 1, 1, 2048, 128] inb_S1x1x8x2048x128_S1x1x1x2048x128_0_0_3_0_0, k0_pay8 a g⟩,
      ⟨Rect.unit ![0, 0, 2, 0, 0] ![1, 1, 1, 2048, 128] inb_S1x1x8x2048x128_S1x1x1x2048x128_0_0_2_0_0, k0_pay7 a g⟩,
      ⟨Rect.unit ![0, 0, 1, 0, 0] ![1, 1, 1, 2048, 128] inb_S1x1x8x2048x128_S1x1x1x2048x128_0_0_1_0_0, k0_pay6 a g⟩,
      ⟨Rect.unit ![0, 0, 0, 0, 0] ![1, 1, 1, 2048, 128] inb_S1x1x8x2048x128_S1x1x1x2048x128_0_0_0_0_0, k0_pay5 a g⟩] := by
  refine ⟨fun x => ?_, fun x => ?_, fun x => ?_, fun x => ?_, fun x => ?_, fun x => ?_, fun x => ?_, fun x => ?_, trivial⟩ <;>
    refine Eq.trans ?_ (head_emb a g _ (by decide) x).symm <;> idx_vars x <;> unfold head <;>
    pointwise! [k0_pay3, k0_pay4, k0_pay5, k0_pay6, k0_pay7, k0_pay8, k0_pay9, k0_pay10, k0_pay11, k0_pay12, k0_pay13] <;>
    simp only [row_mk a] <;>
    refine congrArg₂ (fun u v : EReal => u * v) (nrm_eq _ _ _ _ ?_ fun x => ?_) rfl <;> omega

variable (m : (ℓ : Loc nD τ sig) → Buf (Elt Ideal) ℓ) (ρ : Dev nD → PrngReg)

/-- Where each window's block lies at a grid point. -/
theorem idx : ∀ t : Fin cfg0.N, win0_0.index t = ![t.val / 16, t.val % 4] ∧ win0_1.index t = ![t.val % 4, t.val / 4 % 4]
    ∧ win0_2.index t = ![0, 0] ∧ win0_3.index t = ![t.val / 16, t.val / 4 % 4, 0, 0, 0] :=
  (by decide +kernel : ∀ t : Fin grid0.N, _)

/-- What the last point of a run leaves in the output's block: the heads of the block with all the products of the run. -/
theorem block (c : Dev nD) (t : Fin cfg0.N) (hr : t.val % 4 = 4 - 1) : ∃ a : Vec Ideal S2048x1024 .f32,
    (∀ y, a y = ∑ s : Fin 4, dot (iblk m c 0 ⟨4 * (t.val / 4) + s.val, Pipeline.run_point_lt_of_flush t hr s⟩)
      (X0_1 m c ⟨4 * (t.val / 4) + s.val, Pipeline.run_point_lt_of_flush t hr s⟩) (y 0) (y 1)) ∧
    ∀ y, (outsAt0 m c t.val t.isLt).1 y = head a (iblk m c 2 t) (y 2).val (y 3) (y 4) := by
  refine ⟨k0_pay2 (F := Ideal) (outsAt0 m c (t.val - 1) (Nat.lt_of_le_of_lt (Nat.sub_le _ _) t.isLt)).2 (X0_1 m c t) (iblk m c 0 t), fun y => ?_, fun y => ?_⟩
  · refine (later _ _ _ y).trans (run_upto (fun n h => (outsAt0 m c n h).2) 4 (by decide)
      (fun t j => dot (iblk m c 0 t) (X0_1 m c t) (j 0) (j 1)) (fun t h j => ?_) (fun t h h' j => ?_) t hr y)
    · rw [outsAt0_A m c t h (by omega) (by omega)]; frame_out
      exact first _ _ j
    · rw [outsAt0_B m c t h (by omega) h']; frame_out
      simp only [read_unread_whole]
      exact later _ _ _ j
  · rw [outsAt0_C m c t (by omega) (by omega) hr]; frame_out
    simp only [read_unread_whole]
    exact View.canon_append_of_piecesOf _ [] _ (pieces _ (iblk m c 2 t)) y (View.cover_of_tiledL _ (![1, 1, 1, 2048, 128] : Fin 5 → ℕ) (by rfl) y)

/-- The block of the weights at a grid point. -/
theorem weight_blk (c : Dev nD) (t : Fin cfg0.N) (k q : Fin 1024) (K : Fin 4096) (Q : Fin 4192) (hK : K.val = t.val % 4 * 1024 + k.val)
    (hQ : Q.val = t.val / 4 % 4 * 1024 + q.val) : X0_1 m c t (ix2 k q) = m ((c : Thread nD τ).loc main_arg1) (ix2 K Q) := by
  unfold X0_1 Pipeline.Window.fill
  rw [dif_pos (moved0_1 t _)]
  obtain ⟨-, i1, -, -⟩ := idx t
  blk_ext [iblk, V_main_arg1, i1]

/-- The gain, reshaped by the host. -/
theorem gain (c : Dev nD) (e : Fin 128) : (V m c main_v0 : S1x128.Idx → EReal) (ix2 0 e) = m ((c : Thread nD τ).loc main_arg2) (ix1 e) := by
  unfold V
  after_reads_at

/-- The block of the gain at a grid point. -/
theorem gain_blk (c : Dev nD) (t : Fin cfg0.N) (e : Fin 128) : iblk m c 2 t (ix2 0 e) = (V m c main_v0 : S1x128.Idx → EReal) (ix2 0 e) := by
  obtain ⟨-, -, i2, -⟩ := idx t
  blk_ext [iblk, i2]

/-- All the products of a run: one entry of the whole product. -/
theorem dots (c : Dev nD) (t : Fin cfg0.N) (hr : t.val % 4 = 4 - 1) (r : Fin 2048) (q : Fin 1024) (R : Fin 8192) (Q : Fin 4192)
    (hR : R.val = t.val / 16 * 2048 + r.val) (hQ : Q.val = t.val / 4 % 4 * 1024 + q.val) :
    ∑ s : Fin 4, dot (iblk m c 0 ⟨4 * (t.val / 4) + s.val, Pipeline.run_point_lt_of_flush t hr s⟩)
      (X0_1 m c ⟨4 * (t.val / 4) + s.val, Pipeline.run_point_lt_of_flush t hr s⟩) r q
      = dot (m ((c : Thread nD τ).loc main_arg0)) (m ((c : Thread nD τ).loc main_arg1)) R Q := by
  have ht : t.val < 64 := t.isLt
  refine dot_blocks rfl _ _ _ _ _ _ _ _ (fun s k hl => ?_) (fun s k hl => ?_)
  · obtain ⟨i0, -, -, -⟩ := idx ⟨4 * (t.val / 4) + s.val, Pipeline.run_point_lt_of_flush t hr s⟩
    blk_ext [iblk, V_main_arg0, i0]
  · exact weight_blk m c _ k q _ Q (by dsimp only; omega) (by dsimp only; omega)

/-- The projection's entry: the product, normalised in groups and scaled. -/
def entry (x : S8192x4096.Idx → EReal) (w : S4096x4192.Idx → EReal) (g : S128.Idx → EReal) (b p : Fin 4) (h : Fin 8) (t : Fin 2048) (e : Fin 128) : EReal :=
  nrm (dotRow x w ⟨b.val * 2048 + t.val, by omega⟩) (p.val * 1024 + h.val * 128 + e.val) * g (ix1 e)

/-- An entry of the block that the last point of a run leaves. -/
theorem block_entry (c : Dev nD) (t : Fin cfg0.N) (hr : t.val % 4 = 4 - 1) (y : S1x1x8x2048x128.Idx) (b p : Fin 4)
    (hb : b.val = t.val / 16) (hp : p.val = t.val / 4 % 4) :
    (outsAt0 m c t.val t.isLt).1 y = entry (m ((c : Thread nD τ).loc main_arg0)) (m ((c : Thread nD τ).loc main_arg1))
      (m ((c : Thread nD τ).loc main_arg2)) b p (y 2) (y 3) (y 4) := by
  obtain ⟨a, ha, ho⟩ := block m c t hr
  idx_vars y
  have hrow : ∀ n, n < 1024 → row a y3 n
      = dotRow (m ((c : Thread nD τ).loc main_arg0)) (m ((c : Thread nD τ).loc main_arg1)) ⟨b.val * 2048 + y3.val, by omega⟩ (p.val * 1024 + n) := fun n hn => by
    rw [← row_mk a y3 n hn, ← dotRow_mk _ _ _ _ (by omega : p.val * 1024 + n < 4192)]
    exact (ha _).trans (dots m c t hr y3 ⟨n, hn⟩ _ _ (by dsimp only; omega) (by dsimp only; omega))
  refine (ho _).trans (congrArg₂ (fun u v : EReal => u * v) (nrm_congr _ _ _ _ ?_ fun e he => ?_) ((gain_blk m c t y4).trans (gain m c y4)))
  · show (y2.val * 128 + y4.val) % 128 = (p.val * 1024 + y2.val * 128 + y4.val) % 128
    omega
  · show row a y3 ((y2.val * 128 + y4.val) / 128 * 128 + e) = dotRow _ _ _ ((p.val * 1024 + y2.val * 128 + y4.val) / 128 * 128 + e)
    exact (hrow _ (by omega)).trans (congrArg _ (by omega))

/-- The output array holds the projection's entries. -/
theorem array (c : Dev nD) : (dats m 0 c).arrAt 3 cfg0.N = (fun j : S4x4x8x2048x128.Idx => entry (m ((c : Thread nD τ).loc main_arg0))
      (m ((c : Thread nD τ).loc main_arg1)) (m ((c : Thread nD τ).loc main_arg2)) (j 0) (j 1) (j 2) (j 3) (j 4)) := by
  refine (dats m 0 c).arrAt_eq_of_covers 3 _ (by decide +kernel) fun t hf y => ?_
  have hr : t.val % 4 = 4 - 1 := (flush0_3 t).mp hf
  have ht : t.val < 64 := t.isLt
  obtain ⟨-, -, -, i3⟩ := idx t
  refine (congrFun (after0_3 m c t) _).trans ((block_entry m c t hr y ⟨t.val / 16, by omega⟩ ⟨t.val / 4 % 4, by omega⟩ rfl rfl).trans ?_)
  idx_vars y
  congr 1 <;> refine Fin.ext ?_ <;> blk_simp [i3]

end Cert.NsaQIdeal.Value

namespace Cert.Proof

open Cert.Mm Idealize.ShloMosaic Idealize.SL.Sem

/-- The reference of the query projection runs, leaves its arguments and every counter as they were. -/
theorem nsaQ_ref_frame : Cert.quiescent_NsaQRefIdeal := fun m ρ _ =>
  (θ_run Cert.NsaQRefIdeal.defs _ _).mono (fun r h => ⟨fun c => (h c).2, sem_eq_zero_of_no_sems (by decide) r.2⟩)
    (Cert.NsaQRefIdeal.Value.run (F := Ideal) m ρ)

/-- The query projection and its reference compute the same entries. -/
theorem nsaQ_algebraic : Cert.algebraic_NsaQIdeal_NsaQRefIdeal := by
  intro m ρ m' ρ' _ hin
  refine ⟨_, (θ_run Cert.NsaQIdeal.defs _ _).mono (fun r h c => ⟨(h c).1.trans (Cert.NsaQIdeal.Value.array m c), (h c).2⟩)
      (Cert.NsaQIdeal.Value.run_blocks (F := Ideal) m ρ),
    (θ_run Cert.NsaQRefIdeal.defs _ _).mono (fun r h c => ⟨(h c).1.trans ?_, (h c).2⟩) (Cert.NsaQRefIdeal.Value.run (F := Ideal) m' ρ')⟩
  rw [(hin c).1, (hin c).2.1, (hin c).2.2]
  funext j
  idx_vars j
  pointwise
  simp only [sum_dotRow]
  show _ = Cert.NsaQIdeal.Value.entry _ _ _ j0 j1 j2 j3 j4
  unfold Cert.NsaQIdeal.Value.entry
  refine congrArg₂ (fun u v : EReal => u * v) ?_ rfl
  exact nrm_eq (dotRow (m (c.tc.loc Cert.NsaQIdeal.main_arg0)) (m (c.tc.loc Cert.NsaQIdeal.main_arg1)) ⟨j0.val * 2048 + j3.val, by omega⟩)
    (j1.val * 1024 + j2.val * 128 + j4.val) _ (fun x => j1.val * 1024 + j2.val * 128 + x.val) rfl (fun x => by omega)

end Cert.Proof
end
-- ==== Proof.PleSVal.lean ====
/- The per-layer embedding's gate for the sample group's rows: two products to a block, the second of them gated. -/
module

public import proofs.«01_k».proof.Proof.Gen.PleS.Frame
public import proofs.«01_k».proof.Proof.Gen.PleSIdeal.Value
public import proofs.«01_k».proof.Proof.Gen.PleSRefIdeal.Run
public import proofs.«01_k».proof.Proof.MmSum
public import proofs.«01_k».proof.Defs
public import Idealize.ShloMosaic.Lib.Pipeline.ValueKit
public import Idealize.ShloMosaic.Lib.Pipeline.ReadBack

@[expose] public section

set_option maxRecDepth 16384

noncomputable section

namespace Cert.PleSIdeal.Value

open Cert.PleSIdeal Cert.PleSIdeal.Gen Cert.Mm Idealize.ShloMosaic Idealize.ShloMosaic.TcCoe Idealize.SL.Sem

/-- The store of a block's first point is the product of the point's blocks. -/
theorem first (w : Vec Ideal S1x2048x1024 .f32) (x : Vec Ideal S64x2048 .bf16) (j) :
    k0_pay1 (F := Ideal) w x j = dot x (slab w 0) (j 0) (j 1) := by
  idx_vars j
  pointwise! [k0_pay1]

/-- The second point's stores: the product is added, and what the block then holds is gated. -/
theorem second (a : Vec Ideal S64x1024 .f32) (w : Vec Ideal S1x2048x1024 .f32) (x : Vec Ideal S64x2048 .bf16) (p : Vec Ideal S64x256 .f32)
    (u : Vec Ideal S1x256x1024 .f32) (r : Vec Ideal S64x1024 .f32) (j) : k0_pay3 (F := Ideal) (k0_pay2 a w x) p u r j
      = gated (r j) (dot p (slab u 0) (j 0) (j 1)) ((a j : EReal) + dot x (slab w 0) (j 0) (j 1)) := by
  idx_vars j
  pointwise! [k0_pay3, k0_pay2]

variable (m : (ℓ : Loc nD τ sig) → Buf (Elt Ideal) ℓ) (ρ : Dev nD → PrngReg)

/-- Where each window's block lies at a grid point. -/
theorem idx : ∀ t : Fin cfg0.N, win0_0.index t = ![0, t.val % 2] ∧ win0_1.index t = ![1, t.val % 2, t.val / 2 % 4]
    ∧ win0_2.index t = ![0, t.val / 2 % 4] ∧ win0_3.index t = ![0, 0] ∧ win0_4.index t = ![1, 0, t.val / 2 % 4]
    ∧ win0_5.index t = ![0, t.val / 2 % 4] :=
  (by decide +kernel : ∀ t : Fin grid0.N, _)

/-- What the second point of a block leaves in the output's block. -/
theorem block (c : Dev nD) (t : Fin cfg0.N) (hr : t.val % 2 = 2 - 1) (y : S64x1024.Idx) :
    outsAt0 m c t.val t.isLt y = gated (iblk m c 2 t y) (dot (iblk m c 3 t) (slab (iblk m c 4 t) 0) (y 0) (y 1)) (∑ s : Fin 2, dot
      (iblk m c 0 ⟨2 * (t.val / 2) + s.val, Pipeline.run_point_lt_of_flush t hr s⟩)
      (slab (iblk m c 1 ⟨2 * (t.val / 2) + s.val, Pipeline.run_point_lt_of_flush t hr s⟩) 0) (y 0) (y 1)) := by
  rw [← run_upto (fun n h => outsAt0 m c n h) 2 (by decide) (fun t j => dot (iblk m c 0 t) (slab (iblk m c 1 t) 0) (j 0) (j 1))
    (fun t h j => by
      rw [outsAt0_A m c t h (by omega) (by omega)]; frame_out
      exact first _ _ j)
    (fun t h h' j => by omega) t hr y,
    outsAt0_B m c t (by omega) hr hr]
  frame_out
  exact second _ _ _ _ _ _ y

/-- The output array is the gated sum of the argument arrays, of the second layer's weights. -/
theorem array (c : Dev nD) : (dats m 0 c).arrAt 5 cfg0.N = (fun j : S64x4096.Idx => gated (m ((c : Thread nD τ).loc main_arg2) j)
    (dot (m ((c : Thread nD τ).loc main_arg3)) (slab (m ((c : Thread nD τ).loc main_arg4)) 1) (j 0) (j 1))
    (dot (m ((c : Thread nD τ).loc main_arg0)) (slab (m ((c : Thread nD τ).loc main_arg1)) 1) (j 0) (j 1))) := by
  refine (dats m 0 c).arrAt_eq_of_covers 5 _ (by decide +kernel) fun t hf y => ?_
  have hr : t.val % 2 = 2 - 1 := (flush0_5 t).mp hf
  refine (congrFun (after0_5 m c t) y).trans ((block m c t hr y).trans ?_)
  have ht : t.val < 8 := t.isLt
  obtain ⟨-, -, i2, i3, i4, i5⟩ := idx t
  idx_vars y
  refine congr (congrArg₂ gated ?_ (Finset.sum_congr rfl fun k _ => congrArg₂ (fun u v : EReal => u * v) ?_ ?_))
    (dot_blocks rfl _ _ _ _ _ _ _ _ (fun s k hl => ?_) (fun s k hl => ?_))
  · blk_ext [iblk, V_main_arg2, i2, i5]
  · blk_ext [iblk, V_main_arg3, i3, i5]
  · unfold slab
    blk_ext [iblk, V_main_arg4, i4, i5]
  all_goals obtain ⟨i0, i1, -⟩ := idx ⟨2 * (t.val / 2) + s.val, Pipeline.run_point_lt_of_flush t hr s⟩
  · blk_ext [iblk, V_main_arg0, i0, i5]
  · unfold slab
    blk_ext [iblk, V_main_arg1, i1, i5]

end Cert.PleSIdeal.Value

namespace Cert.Proof

open Cert.Mm Idealize.ShloMosaic Idealize.SL.Sem

/-- The reference of the embedding's gate for the sample group's rows runs, leaves its arguments and every counter as they were. -/
theorem ple_s_ref_frame : Cert.quiescent_PleSRefIdeal := fun m ρ _ =>
  (θ_run Cert.PleSRefIdeal.defs _ _).mono (fun r h => ⟨fun c => (h c).2, sem_eq_zero_of_no_sems (by decide) r.2⟩)
    (Cert.PleSRefIdeal.Value.run (F := Ideal) m ρ)

/-- The kernel of the embedding's gate and its reference compute the same gated sum, for the sample group's rows. -/
theorem ple_s_algebraic : Cert.algebraic_PleSIdeal_PleSRefIdeal := by
  intro m ρ m' ρ' _ hin
  refine ⟨_, (θ_run Cert.PleSIdeal.defs _ _).mono (fun r h c => ⟨(h c).1.trans (Cert.PleSIdeal.Value.array m c), (h c).2⟩)
      (Cert.PleSIdeal.Value.run_blocks (F := Ideal) m ρ),
    (θ_run Cert.PleSRefIdeal.defs _ _).mono (fun r h c => ⟨(h c).1.trans ?_, (h c).2⟩) (Cert.PleSRefIdeal.Value.run (F := Ideal) m' ρ')⟩
  rw [(hin c).1, (hin c).2.1, (hin c).2.2.1, (hin c).2.2.2.1, (hin c).2.2.2.2]
  funext j
  idx_vars j
  pointwise
  rfl

end Cert.Proof
end
-- ==== Proof.KvSVal.lean ====
/- The shared key and value projection of the sample group's rows: two products to a block, the second of them normalised. -/
module

public import proofs.«01_k».proof.Proof.Gen.KvS.Frame
public import proofs.«01_k».proof.Proof.Gen.KvSIdeal.Value
public import proofs.«01_k».proof.Proof.Gen.KvSRefIdeal.Run
public import proofs.«01_k».proof.Proof.KvPure
public import proofs.«01_k».proof.Defs
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.KvSIdeal.Value

open Cert.KvSIdeal Cert.KvSIdeal.Gen Cert.Mm Cert.Kv2 Idealize.ShloMosaic Idealize.ShloMosaic.TcCoe Idealize.SL.Sem

/-- The store of a block's first point is the product of the point's blocks. -/
theorem first (w : Vec Ideal S2048x1024 .f32) (x : Vec Ideal S64x2048 .bf16) (j) : k0_pay1 (F := Ideal) w x j = dot x w (j 0) (j 1) := by
  idx_vars j
  pointwise! [k0_pay1]

/-- The second point adds the product of its blocks to what the block held. -/
theorem second (a : Vec Ideal S64x1024 .f32) (w : Vec Ideal S2048x1024 .f32) (x : Vec Ideal S64x2048 .bf16) (j) :
    k0_pay2 (F := Ideal) a w x j = (a j : EReal) + dot x w (j 0) (j 1) := by
  idx_vars j
  pointwise! [k0_pay2]

/-- The eight normalised groups, side by side, are the normalised entries of the block. -/
theorem groups (a : Vec Ideal S64x1024 .f32) (r : Fin 64) (q : Fin 1024) :
    k0_pay9 (F := Ideal) (k0_pay4 a) (k0_pay5 a) (k0_pay6 a) (k0_pay7 a) (k0_pay8 a) (ix2 r q) = nrm (row a r) q := by
  pointwise! [k0_pay9, k0_pay4, k0_pay5, k0_pay6, k0_pay7, k0_pay8]
  simp only [row_mk a r]
  split_ifs <;> exact nrm_eq _ _ _ _ (by omega) (fun x => by omega)

/-- The last store: a flagged column is normalised and scaled, another stays. -/
theorem last (a : Vec Ideal S64x1024 .f32) (g f : Vec Ideal S1x1024 .f32) (r : Fin 64) (q : Fin 1024) :
    k0_pay3 (F := Ideal) (k0_pay4 a) (k0_pay9 (k0_pay4 a) (k0_pay5 a) (k0_pay6 a) (k0_pay7 a) (k0_pay8 a)) g f (ix2 r q)
      = if (((1 : ℝ) / 2 : ℝ) : EReal) < f (ix2 0 q) then nrm (row a r) q * g (ix2 0 q) else row a r q := by
  have h := groups a r q
  generalize k0_pay9 (F := Ideal) (k0_pay4 a) (k0_pay5 a) (k0_pay6 a) (k0_pay7 a) (k0_pay8 a) = n at h ⊢
  pointwise! [k0_pay3, k0_pay4]
  rw [half, h, ← row_mk a r q.val q.isLt]

variable (m : (ℓ : Loc nD τ sig) → Buf (Elt Ideal) ℓ) (ρ : Dev nD → PrngReg)

/-- The gain of a column of the selected keys. -/
theorem gain_slc (c : Dev nD) (j : Fin 3072) (h : j.val / 512 = 2) : (V m c main_v8 : S1x3072.Idx → EReal) (ix2 0 j)
    = m ((c : Thread nD τ).loc main_arg2) (ix1 ⟨j.val % 128, Nat.mod_lt _ (by decide)⟩) := by
  unfold V
  after_reads_at
  pointwise
  rw [dif_neg (by omega), dif_neg (by omega), dif_pos (by omega)]
  after_reads_at
  pointwise
  exact congrArg (fun e => m (c, Proc.tc.devRef main_arg2) (ix1 e)) (Fin.ext (by show (j.val - 512 - 512) % 128 = j.val % 128; omega))

/-- The gain of a column of the window's keys. -/
theorem gain_win (c : Dev nD) (j : Fin 3072) (h : j.val / 512 = 4) : (V m c main_v8 : S1x3072.Idx → EReal) (ix2 0 j)
    = m ((c : Thread nD τ).loc main_arg3) (ix1 ⟨j.val % 128, Nat.mod_lt _ (by decide)⟩) := by
  unfold V
  after_reads_at
  pointwise
  rw [dif_neg (by omega), dif_neg (by omega), dif_neg (by omega), dif_neg (by omega), dif_pos (by omega)]
  after_reads_at
  pointwise
  exact congrArg (fun e => m (c, Proc.tc.devRef main_arg3) (ix1 e))
    (Fin.ext (by show (j.val - 512 - 512 - 512 - 512) % 128 = j.val % 128; omega))

/-- A column's flag: up for the selected and the window's keys, down for the others. -/
theorem flag (c : Dev nD) (j : Fin 3072) : (V m c main_v11 : S1x3072.Idx → EReal) (ix2 0 j)
    = if j.val / 512 = 2 ∨ j.val / 512 = 4 then Ideal.ofBits .f32 0x3F800000#32 else Ideal.ofBits .f32 0x00000000#32 := by
  split_ifs with h <;> unfold V <;> after_reads_at <;> pointwise <;> split_ifs <;>
    first | omega | (after_reads_at; done) | (after_reads_at; rfl)

/-- Where each window's block lies at a grid point. -/
theorem idx : ∀ t : Fin cfg0.N, win0_0.index t = ![0, t.val % 2] ∧ win0_1.index t = ![t.val % 2, t.val / 2 % 3]
    ∧ win0_2.index t = ![0, t.val / 2 % 3] ∧ win0_3.index t = ![0, t.val / 2 % 3] ∧ win0_4.index t = ![0, t.val / 2 % 3] :=
  (by decide +kernel : ∀ t : Fin grid0.N, _)

/-- What the second point of a block leaves in the output's block: the last store over the block with both products. -/
theorem block (c : Dev nD) (t : Fin cfg0.N) (hr : t.val % 2 = 2 - 1) : ∃ a : Vec Ideal S64x1024 .f32,
    (∀ y, a y = ∑ s : Fin 2, dot (iblk m c 0 ⟨2 * (t.val / 2) + s.val, Pipeline.run_point_lt_of_flush t hr s⟩)
      (iblk m c 1 ⟨2 * (t.val / 2) + s.val, Pipeline.run_point_lt_of_flush t hr s⟩) (y 0) (y 1)) ∧
    outsAt0 m c t.val t.isLt = k0_pay3 (F := Ideal) (k0_pay4 a)
      (k0_pay9 (k0_pay4 a) (k0_pay5 a) (k0_pay6 a) (k0_pay7 a) (k0_pay8 a)) (iblk m c 2 t) (iblk m c 3 t) := by
  refine ⟨k0_pay2 (F := Ideal) (outsAt0 m c (t.val - 1) (Nat.lt_of_le_of_lt (Nat.sub_le _ _) t.isLt)) (iblk m c 1 t) (iblk m c 0 t), fun y => ?_, ?_⟩
  · refine (second _ _ _ y).trans (run_upto (fun n h => outsAt0 m c n h) 2 (by decide)
      (fun t j => dot (iblk m c 0 t) (iblk m c 1 t) (j 0) (j 1)) (fun t h j => ?_) (fun t h h' j => by omega) t hr y)
    rw [outsAt0_A m c t h (by omega) (by omega)]; frame_out
    exact first _ _ j
  · rw [outsAt0_B m c t (by omega) hr hr]; frame_out

/-- Both products of a block: one entry of the whole product. -/
theorem dots (c : Dev nD) (t : Fin cfg0.N) (hr : t.val % 2 = 2 - 1) (r : Fin 64) (q : Fin 1024) (Q : Fin 3072)
    (hQ : Q.val = t.val / 2 % 3 * 1024 + q.val) :
    ∑ s : Fin 2, dot (iblk m c 0 ⟨2 * (t.val / 2) + s.val, Pipeline.run_point_lt_of_flush t hr s⟩)
      (iblk m c 1 ⟨2 * (t.val / 2) + s.val, Pipeline.run_point_lt_of_flush t hr s⟩) r q
      = dot (m ((c : Thread nD τ).loc main_arg0)) (m ((c : Thread nD τ).loc main_arg1)) r Q := by
  have ht : t.val < 6 := t.isLt
  refine dot_blocks rfl _ _ _ _ _ _ _ _ (fun s k hl => ?_) (fun s k hl => ?_)
  all_goals obtain ⟨i0, i1, -, -, -⟩ := idx ⟨2 * (t.val / 2) + s.val, Pipeline.run_point_lt_of_flush t hr s⟩
  · blk_ext [iblk, V_main_arg0, i0]
  · blk_ext [iblk, V_main_arg1, i1]

/-- An entry of the block that the second point leaves. -/
theorem block_entry (c : Dev nD) (t : Fin cfg0.N) (hr : t.val % 2 = 2 - 1) (r : Fin 64) (q : Fin 1024) (Q : Fin 3072)
    (hQ : Q.val = t.val / 2 % 3 * 1024 + q.val) :
    outsAt0 m c t.val t.isLt (ix2 r q) = entry (m ((c : Thread nD τ).loc main_arg0)) (m ((c : Thread nD τ).loc main_arg1))
      (m ((c : Thread nD τ).loc main_arg2)) (m ((c : Thread nD τ).loc main_arg3)) r Q := by
  obtain ⟨a, ha, ho⟩ := block m c t hr
  obtain ⟨-, -, i2, i3, -⟩ := idx t
  have hrow : ∀ n, n < 1024 → row a r n
      = dotRow (m ((c : Thread nD τ).loc main_arg0)) (m ((c : Thread nD τ).loc main_arg1)) r (t.val / 2 % 3 * 1024 + n) := fun n hn => by
    rw [← row_mk a r n hn, ← dotRow_mk _ _ r _ (by omega : t.val / 2 % 3 * 1024 + n < 3072)]
    exact (ha _).trans (dots m c t hr r ⟨n, hn⟩ _ rfl)
  have hg : iblk m c 2 t (ix2 0 q) = (V m c main_v8 : S1x3072.Idx → EReal) (ix2 0 Q) := by blk_ext [iblk, i2]
  have hf : iblk m c 3 t (ix2 0 q) = (V m c main_v11 : S1x3072.Idx → EReal) (ix2 0 Q) := by blk_ext [iblk, i3]
  rw [ho, last, hg, hf]
  exact entry_of _ _ _ _ r Q _ _ _ hQ q.isLt hrow _ _ (gain_slc m c Q) (gain_win m c Q)
    (fun h => (flag m c Q).trans (if_pos h)) (fun h => (flag m c Q).trans (if_neg h))

/-- The output array holds the projection's entries. -/
theorem array (c : Dev nD) : (dats m 0 c).arrAt 4 cfg0.N = (fun j : S64x3072.Idx => entry (m ((c : Thread nD τ).loc main_arg0))
      (m ((c : Thread nD τ).loc main_arg1)) (m ((c : Thread nD τ).loc main_arg2)) (m ((c : Thread nD τ).loc main_arg3)) (j 0) (j 1)) := by
  refine (dats m 0 c).arrAt_eq_of_covers 4 _ (by decide +kernel) fun t hf y => ?_
  have hr : t.val % 2 = 2 - 1 := (flush0_4 t).mp hf
  have ht : t.val < 6 := t.isLt
  obtain ⟨-, -, -, -, i4⟩ := idx t
  idx_vars y
  refine (congrFun (after0_4 m c t) _).trans ((block_entry m c t hr y0 y1 ⟨t.val / 2 % 3 * 1024 + y1.val, by omega⟩ rfl).trans
    (congrArg₂ (entry _ _ _ _) (Fin.ext ?_) (Fin.ext ?_)))
  · blk_simp [i4]
  · blk_simp [i4]

end Cert.KvSIdeal.Value

namespace Cert.KvSRefIdeal.Value

open Cert.KvSRefIdeal Cert.KvSRefIdeal.Gen Cert.Mm Cert.Kv2 Idealize.ShloMosaic Idealize.ShloMosaic.TcCoe Idealize.SL.Sem

/-- The reference's result holds the projection's entries. -/
theorem result (m : (ℓ : Loc nD τ sig) → Buf (Elt Ideal) ℓ) (c : Dev nD) : res_main_v45 m c = (fun j : S64x3072.Idx =>
    entry (m ((c : Thread nD τ).loc main_arg0)) (m ((c : Thread nD τ).loc main_arg1)) (m ((c : Thread nD τ).loc main_arg2))
      (m ((c : Thread nD τ).loc main_arg3)) (j 0) (j 1)) := by
  funext y
  idx_vars y
  unfold res_main_v45
  pointwise
  simp only [sum_dotRow]
  show _ = entry _ _ _ _ y0 y1
  exact (pick _ _ _ y1.val y1.isLt).trans (entry_eq _ _ _ _ y0 y1).symm

end Cert.KvSRefIdeal.Value

namespace Cert.Proof

open Cert.Mm Cert.Kv2 Idealize.ShloMosaic Idealize.SL.Sem

/-- The reference of the sample group's key and value projection runs, leaves its arguments and every counter as they were. -/
theorem kv_s_ref_frame : Cert.quiescent_KvSRefIdeal := fun m ρ _ =>
  (θ_run Cert.KvSRefIdeal.defs _ _).mono (fun r h => ⟨fun c => (h c).2, sem_eq_zero_of_no_sems (by decide) r.2⟩)
    (Cert.KvSRefIdeal.Value.run (F := Ideal) m ρ)

/-- The kernel of the sample group's key and value projection and its reference compute the same entries. -/
theorem kv_s_algebraic : Cert.algebraic_KvSIdeal_KvSRefIdeal := by
  intro m ρ m' ρ' _ hin
  refine ⟨_, (θ_run Cert.KvSIdeal.defs _ _).mono (fun r h c => ⟨(h c).1.trans (Cert.KvSIdeal.Value.array m c), (h c).2⟩)
      (Cert.KvSIdeal.Value.run_blocks (F := Ideal) m ρ),
    (θ_run Cert.KvSRefIdeal.defs _ _).mono (fun r h c => ⟨(h c).1.trans ((Cert.KvSRefIdeal.Value.result m' c).trans ?_), (h c).2⟩)
      (Cert.KvSRefIdeal.Value.run (F := Ideal) m' ρ')⟩
  rw [(hin c).1, (hin c).2.1, (hin c).2.2.1, (hin c).2.2.2]

end Cert.Proof
end
-- ==== Proof.RetSKer.lean ====
module

public import proofs.«01_k».proof.Proof.Gen.RetSIdeal.Value
public import proofs.«01_k».proof.Proof.RetPure
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RetSIdeal.Value

open Cert.RetSIdeal Cert.RetSIdeal.Gen Cert.Retention Idealize.ShloMosaic Idealize.ShloMosaic.TcCoe Idealize.SL.Sem

/-- A loaded query block, padded to 128 rows and rotated by the point's tables, is the rotated query in its first eight rows
    (the four heads' loads). -/
theorem q_read (D : Data) (b n0 h : ℕ) (x : Vec Ideal S1x8x256 .f32) (cos sin : Vec Ideal S128x128 .f32)
    (hx : ∀ r d, x (ix3 0 r d) = D.X b (n0 + r) (h * 256 + d))
    (hc : ∀ r d, r.val < 8 → cos (ix2 r d) = Ideal.cos (D.ang (n0 + r) d))
    (hs : ∀ r d, r.val < 8 → sin (ix2 r d) = Ideal.sin (D.ang (n0 + r) d)) (r : Fin 128) (hr : r.val < 8) (d : Fin 256) :
    k0_pay6 cos sin x (ix2 r d) = D.Q b (n0 + r) h d
    ∧ k0_pay14 (k0_pay4 cos) (k0_pay5 sin) x (ix2 r d) = D.Q b (n0 + r) h d
    ∧ k0_pay28 (k0_pay4 cos) (k0_pay5 sin) x (ix2 r d) = D.Q b (n0 + r) h d
    ∧ k0_pay37 (k0_pay4 cos) (k0_pay5 sin) (k0_pay35 x) (k0_pay36 (F := Ideal)) (ix2 r d) = D.Q b (n0 + r) h d := by
  refine ⟨?_, ?_, ?_, ?_⟩ <;>
    (pointwise! [k0_pay6, k0_pay14, k0_pay28, k0_pay37, k0_pay35, k0_pay36, k0_pay4, k0_pay5]
     simp only [hr, dite_true, if_true, hx, hc _ _ hr, hs _ _ hr]; rfl)

/-- A loaded key block, padded, rotated and scaled, is the rotated key in its first eight rows (the four heads' loads). -/
theorem k_read (D : Data) (b n0 h : ℕ) (x : Vec Ideal S1x8x256 .f32) (cos sin : Vec Ideal S128x128 .f32)
    (hx : ∀ r d, x (ix3 0 r d) = D.X b (n0 + r) (4096 + (h * 256 + d)))
    (hc : ∀ r d, r.val < 8 → cos (ix2 r d) = Ideal.cos (D.ang (n0 + r) d))
    (hs : ∀ r d, r.val < 8 → sin (ix2 r d) = Ideal.sin (D.ang (n0 + r) d)) (r : Fin 128) (hr : r.val < 8) (d : Fin 256) :
    k0_pay7 cos sin x (ix2 r d) = D.K b (n0 + r) h d
    ∧ k0_pay20 (k0_pay4 cos) (k0_pay17 x) (k0_pay18 (k0_pay4 cos) (k0_pay5 sin) x) (k0_pay19 (k0_pay5 sin) x) (ix2 r d)
        = D.K b (n0 + r) h d
    ∧ k0_pay29 (k0_pay4 cos) (k0_pay5 sin) x (ix2 r d) = D.K b (n0 + r) h d
    ∧ k0_pay38 (k0_pay4 cos) (k0_pay5 sin) x (ix2 r d) = D.K b (n0 + r) h d := by
  refine ⟨?_, ?_, ?_, ?_⟩ <;>
    (pointwise! [k0_pay7, k0_pay20, k0_pay15, k0_pay16, k0_pay17, k0_pay18, k0_pay19, k0_pay29, k0_pay38, k0_pay4, k0_pay5]
     simp only [hr, dite_true, if_true, hx, hc _ _ hr, hs _ _ hr]; rfl)

/-- A loaded value block, padded to 128 rows: the values in its first eight rows, zero below (the four heads' loads). -/
theorem v_read (D : Data) (b n0 h : ℕ) (v : Vec Ideal S1x8x512 .f32)
    (hx : ∀ r e, v (ix3 0 r e) = D.X b (n0 + r) (8192 + (h * 512 + e))) (r : Fin 128) (e : Fin 512) :
    k0_pay9 (k0_pay8 v) (FloatOps.ofBits FTy.f32 0#32) (ix2 r e) = (if r.val < 8 then D.V b (n0 + r) h e else 0)
    ∧ k0_pay21 v (ix2 r e) = (if r.val < 8 then D.V b (n0 + r) h e else 0)
    ∧ k0_pay30 v (ix2 r e) = (if r.val < 8 then D.V b (n0 + r) h e else 0)
    ∧ k0_pay39 v (ix2 r e) = (if r.val < 8 then D.V b (n0 + r) h e else 0) := by
  refine ⟨?_, ?_, ?_, ?_⟩ <;>
    (pointwise! [k0_pay8, k0_pay9, k0_pay21, k0_pay30, k0_pay39]
     split_ifs with hr
     · exact hx _ _
     · rfl)

section
variable (X : S8x8x24576.Idx → EReal) (S0 : S8x16x256x512.Idx → EReal) (b h k : ℕ) (qq kk : FVec Ideal S128x256 .f32)
  (v8 : FVec Ideal S8x512 .f32) (z : EReal) (vv : FVec Ideal S128x512 .bf16) (v : Vec Ideal S1x8x512 .f32)
  (c4 c5 k17 k18 k19 : FVec Ideal S128x128 .f32) (q8 : FVec Ideal S8x256 .f32) (q120 : FVec Ideal S120x256 .f32)
  (x : Vec Ideal S1x8x256 .f32) (s : Vec Ideal S1x256x512 .f32) (mk : Vec Ideal S1x128x128 .f32) (qd kd : Vec Ideal S1x128x1 .f32)
  (cd : Vec Ideal S1x1x1 .f32)

/-- A padded array of 128 rows is the retention's keys in its first eight rows. -/
def IsK (f : FVec Ideal S128x256 .f32) : Prop :=
  ∀ r : Fin 128, r.val < 8 → ∀ d : Fin 256, f (ix2 r d) = (sample X S0).K b (k * 8 + r) h d

/-- A padded array of 128 rows is the retention's queries in its first eight rows. -/
def IsQ (f : FVec Ideal S128x256 .f32) : Prop :=
  ∀ r : Fin 128, r.val < 8 → ∀ d : Fin 256, f (ix2 r d) = (sample X S0).Q b (k * 8 + r) h d

/-- A padded array of 128 rows is the retention's values in its first eight rows and zero below. -/
def IsV (f : FVec Ideal S128x512 .bf16) : Prop :=
  ∀ (r : Fin 128) (e : Fin 512), f (ix2 r e) = if r.val < 8 then (sample X S0).V b (k * 8 + r) h e else 0

/-- A head's stored state is the state after the chunk (the four heads' stores). -/
theorem upd_read (hk : IsK X S0 b h k kk) (hk' : IsK X S0 b h k (k0_pay20 c4 k17 k18 k19))
    (hv : IsV X S0 b h k vv) (hv' : IsV X S0 b h k (k0_pay9 v8 z))
    (hs : ∀ d e, s (ix3 0 d e) = (sample X S0).S b h k d e)
    (hkd : ∀ r, r.val < 8 → kd (ix3 0 r 0) = (sample X S0).kd h r) (hcd : cd (ix3 0 0 0) = (sample X S0).cd h) (y : S1x256x512.Idx) :
    k0_pay11 kk v8 z s kd cd y = (sample X S0).S b h (k + 1) (y 1) (y 2)
    ∧ k0_pay26 vv (k0_pay22 s) (k0_pay24 c4 k17 k18 k19 kd) (k0_pay25 cd) y = (sample X S0).S b h (k + 1) (y 1) (y 2)
    ∧ k0_pay33 kk vv (k0_pay31 s) kd cd y = (sample X S0).S b h (k + 1) (y 1) (y 2)
    ∧ k0_pay42 kk vv (k0_pay40 s) kd cd y = (sample X S0).S b h (k + 1) (y 1) (y 2) := by
  idx_vars y
  refine ⟨?_, ?_, ?_, ?_⟩ <;>
    (pointwise! [k0_pay11, k0_pay26, k0_pay33, k0_pay42, k0_pay10, k0_pay22, k0_pay24, k0_pay25, k0_pay31, k0_pay40]
     rw [hs, hcd]
     refine congrArg₂ (fun u v : EReal => u + v) rfl (sum_pad (n := 8) (by decide) _ _ (fun j => ?_) fun j hj => ?_)
     · have h8 : (⟨j.val, by omega⟩ : Fin 128).val < 8 := j.isLt
       simp only [hk _ h8, hk' _ h8, hkd _ h8, hv _ _, hv' _ _, if_pos h8]
       rfl
     · simp only [hv _ _, hv' _ _, if_neg (Nat.not_lt.mpr hj), mul_zero])

/-- The attention inside the chunk, over padded rows. -/
theorem att (hq : IsQ X S0 b h k qq) (hk : IsK X S0 b h k kk) (hv : IsV X S0 b h k vv)
    (hmk : ∀ i j : Fin 128, i.val < 8 → j.val < 8 → mk (ix3 0 i j) = Data.mask h i j) (r : Fin 128) (hr : r.val < 8) (e : Fin 512) :
    ∑ j : Fin 128, (∑ d : Fin 256, qq (ix2 r d) * kk (ix2 j d)) * mk (ix3 0 r j) * vv (ix2 j e)
      = ∑ j : Fin 8, (∑ d : Fin 256, (sample X S0).Q b (k * 8 + r) h d * (sample X S0).K b (k * 8 + j) h d) * Data.mask h r j
          * (sample X S0).V b (k * 8 + j) h e := by
  refine sum_pad (n := 8) (by decide) _ _ (fun j => ?_) fun j hj => ?_
  · have h8 : (⟨j.val, by omega⟩ : Fin 128).val < 8 := j.isLt
    simp only [hq _ hr, hk _ h8, hmk _ _ hr h8, hv _ _, if_pos h8]
  · simp only [hv _ _, if_neg (Nat.not_lt.mpr hj), mul_zero]

set_option maxHeartbeats 2000000 in
/-- A head's output before the normalisation is the chunk's attention and the state's part (three heads, and the attention of the
    fourth). -/
theorem o_read (hq : IsQ X S0 b h k qq) (hq' : IsQ X S0 b h k (k0_pay37 c4 c5 q8 q120))
    (hk : IsK X S0 b h k kk) (hk1 : IsK X S0 b h k (k0_pay20 c4 k17 k18 k19)) (hk2 : IsK X S0 b h k (k0_pay29 c4 c5 x))
    (hk3 : IsK X S0 b h k (k0_pay38 c4 c5 x))
    (hv : IsV X S0 b h k (k0_pay9 v8 z)) (hv1 : IsV X S0 b h k (k0_pay21 v)) (hv2 : IsV X S0 b h k (k0_pay30 v))
    (hv3 : IsV X S0 b h k (k0_pay39 v))
    (hs : ∀ d e, s (ix3 0 d e) = (sample X S0).S b h k d e)
    (hmk : ∀ i j : Fin 128, i.val < 8 → j.val < 8 → mk (ix3 0 i j) = Data.mask h i j)
    (hqd : ∀ r : Fin 128, r.val < 8 → qd (ix3 0 r 0) = Data.qd h r) (r : Fin 8) (e : Fin 512) :
    k0_pay12 qq kk v8 z s mk qd (ix2 r e) = (sample X S0).O b h k r e
    ∧ k0_pay23 c4 qq k17 k18 k19 v s mk qd (ix2 ⟨r.val, by omega⟩ e) = (sample X S0).O b h k r e
    ∧ k0_pay32 c4 c5 qq x v s mk qd (ix2 ⟨r.val, by omega⟩ e) = (sample X S0).O b h k r e
    ∧ k0_pay41 c4 c5 q8 q120 x v mk (ix2 ⟨r.val, by omega⟩ e)
      = ∑ j : Fin 8, (∑ d : Fin 256, (sample X S0).Q b (k * 8 + r) h d * (sample X S0).K b (k * 8 + j) h d) * Data.mask h r j
          * (sample X S0).V b (k * 8 + j) h e := by
  have h8 : (⟨r.val, by omega⟩ : Fin 128).val < 8 := r.isLt
  refine ⟨?_, ?_, ?_, ?_⟩
  · pointwise! [k0_pay12, k0_pay10]
    simp only [hs, hqd _ h8]
    refine congrArg₂ (fun u v : EReal => u + v) (att X S0 b h k _ _ _ mk hq hk hv hmk _ h8 e) ?_
    simp only [hq _ h8]
    rfl
  · pointwise! [k0_pay23, k0_pay22]
    simp only [hs, hqd _ h8]
    refine congrArg₂ (fun u v : EReal => u + v) (att X S0 b h k _ _ _ mk hq hk1 hv1 hmk _ h8 e) ?_
    simp only [hq _ h8]
    rfl
  · pointwise! [k0_pay32, k0_pay31]
    simp only [hs, hqd _ h8]
    refine congrArg₂ (fun u v : EReal => u + v) (att X S0 b h k _ _ _ mk hq hk2 hv2 hmk _ h8 e) ?_
    simp only [hq _ h8]
    rfl
  · pointwise! [k0_pay41]
    exact att X S0 b h k _ _ _ mk hq' hk3 hv3 hmk _ h8 e

set_option maxHeartbeats 2000000 in
/-- A head's stored output is the normalised and gated output of the chunk (the four heads' stores). -/
theorem out_read (o8 : FVec Ideal S8x512 .f32) (o att4 : FVec Ideal S128x512 .f32) (g : Vec Ideal S1x8x512 .f32)
    (ho8 : ∀ (r : Fin 8) (e : Fin 512), o8 (ix2 r e) = (sample X S0).O b h k r e)
    (ho : ∀ (r : Fin 8) (e : Fin 512), o (ix2 ⟨r.val, by omega⟩ e) = (sample X S0).O b h k r e)
    (hatt : ∀ (r : Fin 8) (e : Fin 512), att4 (ix2 ⟨r.val, by omega⟩ e)
      = ∑ j : Fin 8, (∑ d : Fin 256, (sample X S0).Q b (k * 8 + r) h d * (sample X S0).K b (k * 8 + j) h d) * Data.mask h r j
          * (sample X S0).V b (k * 8 + j) h e)
    (hq : IsQ X S0 b h k qq) (hs : ∀ d e, s (ix3 0 d e) = (sample X S0).S b h k d e)
    (hqd : ∀ r : Fin 128, r.val < 8 → qd (ix3 0 r 0) = Data.qd h r)
    (hg : ∀ r e, g (ix3 0 r e) = (sample X S0).G b (k * 8 + r) h e) (y : S1x8x512.Idx) :
    k0_pay13 o8 g y = (sample X S0).out b h k (y 1) (y 2) ∧ k0_pay27 o g y = (sample X S0).out b h k (y 1) (y 2)
    ∧ k0_pay34 o g y = (sample X S0).out b h k (y 1) (y 2)
    ∧ k0_pay1 (k0_pay43 qq (k0_pay40 s) att4 qd g) y = (sample X S0).out b h k (y 1) (y 2) := by
  idx_vars y
  refine ⟨?_, ?_, ?_, ?_⟩
  · pointwise! [k0_pay13]
    simp only [ho8, hg]
    rfl
  · pointwise! [k0_pay27]
    simp only [ho, hg]
    rfl
  · pointwise! [k0_pay34]
    simp only [ho, hg]
    rfl
  · have hq8 : ∀ (r : Fin 8) (d : Fin 256), qq (ix2 ⟨r.val, by omega⟩ d) = (sample X S0).Q b (k * 8 + r) h d := fun r d => hq _ r.isLt d
    have hqd8 : ∀ r : Fin 8, qd (ix3 0 ⟨r.val, by omega⟩ 0) = Data.qd h r := fun r => hqd _ r.isLt
    pointwise! [k0_pay1, k0_pay43, k0_pay40]
    simp only [hatt, hq8, hqd8, hs, hg]
    rfl

end

end Cert.RetSIdeal.Value
end
-- ==== Proof.RetSRun.lean ====
module

public import proofs.«01_k».proof.Proof.Gen.RetSIdeal.Value
public import proofs.«01_k».proof.Proof.RetSKer
public import proofs.«01_k».proof.Proof.RetLd
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RetSIdeal.Value

open Cert.RetSIdeal Cert.RetSIdeal.Gen Cert.Retention Idealize.ShloMosaic Idealize.ShloMosaic.TcCoe Idealize.SL.Sem

section
variable (X : S8x8x24576.Idx → EReal) (S0 : S8x16x256x512.Idx → EReal) (b h k : ℕ) (x : Vec Ideal S1x8x256 .f32)
  (v : Vec Ideal S1x8x512 .f32) (cos sin : Vec Ideal S128x128 .f32)

/-- The four heads' queries. -/
theorem isQ (hx : ∀ r d, x (ix3 0 r d) = (sample X S0).X b (k * 8 + r) (h * 256 + d))
    (hc : ∀ r d, r.val < 8 → cos (ix2 r d) = Ideal.cos ((sample X S0).ang (k * 8 + r) d))
    (hs : ∀ r d, r.val < 8 → sin (ix2 r d) = Ideal.sin ((sample X S0).ang (k * 8 + r) d)) :
    IsQ X S0 b h k (k0_pay6 cos sin x) ∧ IsQ X S0 b h k (k0_pay14 (k0_pay4 cos) (k0_pay5 sin) x)
    ∧ IsQ X S0 b h k (k0_pay28 (k0_pay4 cos) (k0_pay5 sin) x)
    ∧ IsQ X S0 b h k (k0_pay37 (k0_pay4 cos) (k0_pay5 sin) (k0_pay35 x) (k0_pay36 (F := Ideal))) := by
  have hq := q_read (sample X S0) b (k * 8) h x cos sin hx hc hs
  exact ⟨fun r hr d => (hq r hr d).1, fun r hr d => (hq r hr d).2.1, fun r hr d => (hq r hr d).2.2.1, fun r hr d => (hq r hr d).2.2.2⟩

/-- The four heads' keys. -/
theorem isK (hx : ∀ r d, x (ix3 0 r d) = (sample X S0).X b (k * 8 + r) (4096 + (h * 256 + d)))
    (hc : ∀ r d, r.val < 8 → cos (ix2 r d) = Ideal.cos ((sample X S0).ang (k * 8 + r) d))
    (hs : ∀ r d, r.val < 8 → sin (ix2 r d) = Ideal.sin ((sample X S0).ang (k * 8 + r) d)) :
    IsK X S0 b h k (k0_pay7 cos sin x)
    ∧ IsK X S0 b h k (k0_pay20 (k0_pay4 cos) (k0_pay17 x) (k0_pay18 (k0_pay4 cos) (k0_pay5 sin) x) (k0_pay19 (k0_pay5 sin) x))
    ∧ IsK X S0 b h k (k0_pay29 (k0_pay4 cos) (k0_pay5 sin) x)
    ∧ IsK X S0 b h k (k0_pay38 (k0_pay4 cos) (k0_pay5 sin) x) := by
  have hk := k_read (sample X S0) b (k * 8) h x cos sin hx hc hs
  exact ⟨fun r hr d => (hk r hr d).1, fun r hr d => (hk r hr d).2.1, fun r hr d => (hk r hr d).2.2.1, fun r hr d => (hk r hr d).2.2.2⟩

/-- The four heads' values. -/
theorem isV (hx : ∀ r e, v (ix3 0 r e) = (sample X S0).X b (k * 8 + r) (8192 + (h * 512 + e))) :
    IsV X S0 b h k (k0_pay9 (k0_pay8 v) (FloatOps.ofBits (F := Ideal) FTy.f32 0#32)) ∧ IsV X S0 b h k (k0_pay21 v)
    ∧ IsV X S0 b h k (k0_pay30 v) ∧ IsV X S0 b h k (k0_pay39 v) := by
  have hv := v_read (sample X S0) b (k * 8) h v hx
  exact ⟨fun r e => (hv r e).1, fun r e => (hv r e).2.1, fun r e => (hv r e).2.2.1, fun r e => (hv r e).2.2.2⟩

end

/-- The four stores of the states are blocks of the states after the chunk. -/
theorem state_pieces {X : S8x8x24576.Idx → EReal} {S0 : S8x16x256x512.Idx → EReal} {b hi k : ℕ}
    {x0 x1 : Vec Ideal S1x8x1024 .f32} {x2 x3 : Vec Ideal S1x8x2048 .f32} {x4 x5 : Vec Ideal S128x128 .f32}
    {x6 : Vec Ideal S4x128x128 .f32} {x7 x8 : Vec Ideal S4x128x1 .f32} {x9 : Vec Ideal S4x1x1 .f32}
    (B : Blk (sample X S0) (R := 8) b hi k x0 x1 x2 x3 x4 x5 x6 x7 x8 x9) (s : Vec Ideal S4x256x512 .f32)
    (hs : ∀ a d e, s (ix3 a d e) = (sample X S0).S b (hi * 4 + a) k d e) :
    View.PiecesOf (Val := Elt Ideal) (e := .f32) (fun y : S4x256x512.Idx => (sample X S0).S b (hi * 4 + y 0) (k + 1) (y 1) (y 2))
      [⟨Rect.unit ![3, 0, 0] ![1, 256, 512] inb_S4x256x512_S1x256x512_3_0_0, k0_pay42 (k0_pay38 (k0_pay4 x4) (k0_pay5 x5)
  (View.ld x1 (Rect.unit ![0, 0, 768] ![1, 8, 256] inb_S1x8x1024_S1x8x256_0_0_768))) (k0_pay39 (View.ld x2
  (Rect.unit ![0, 0, 1536] ![1, 8, 512] inb_S1x8x2048_S1x8x512_0_0_1536))) (k0_pay40 (View.ld s
  (Rect.unit ![3, 0, 0] ![1, 256, 512] inb_S4x256x512_S1x256x512_3_0_0))) (View.ld x8
  (Rect.unit ![3, 0, 0] ![1, 128, 1] inb_S4x128x1_S1x128x1_3_0_0)) (View.ld x9
  (Rect.unit ![3, 0, 0] ![1, 1, 1] inb_S4x1x1_S1x1x1_3_0_0))⟩,
        ⟨Rect.unit ![2, 0, 0] ![1, 256, 512] inb_S4x256x512_S1x256x512_2_0_0, k0_pay33 (k0_pay29 (k0_pay4 x4) (k0_pay5 x5)
          (View.ld x1 (Rect.unit ![0, 0, 512] ![1, 8, 256] inb_S1x8x1024_S1x8x256_0_0_512))) (k0_pay30 (View.ld x2
          (Rect.unit ![0, 0, 1024] ![1, 8, 512] inb_S1x8x2048_S1x8x512_0_0_1024))) (k0_pay31 (View.ld s
          (Rect.unit ![2, 0, 0] ![1, 256, 512] inb_S4x256x512_S1x256x512_2_0_0))) (View.ld x8
          (Rect.unit ![2, 0, 0] ![1, 128, 1] inb_S4x128x1_S1x128x1_2_0_0)) (View.ld x9
          (Rect.unit ![2, 0, 0] ![1, 1, 1] inb_S4x1x1_S1x1x1_2_0_0))⟩,
        ⟨Rect.unit ![1, 0, 0] ![1, 256, 512] inb_S4x256x512_S1x256x512_1_0_0, k0_pay26 (k0_pay21 (View.ld x2
          (Rect.unit ![0, 0, 512] ![1, 8, 512] inb_S1x8x2048_S1x8x512_0_0_512))) (k0_pay22 (View.ld s
          (Rect.unit ![1, 0, 0] ![1, 256, 512] inb_S4x256x512_S1x256x512_1_0_0))) (k0_pay24 (k0_pay4 x4) (k0_pay17 (View.ld x1
          (Rect.unit ![0, 0, 256] ![1, 8, 256] inb_S1x8x1024_S1x8x256_0_0_256))) (k0_pay18 (k0_pay4 x4) (k0_pay5 x5)
          (View.ld x1 (Rect.unit ![0, 0, 256] ![1, 8, 256] inb_S1x8x1024_S1x8x256_0_0_256))) (k0_pay19 (k0_pay5 x5)
          (View.ld x1 (Rect.unit ![0, 0, 256] ![1, 8, 256] inb_S1x8x1024_S1x8x256_0_0_256))) (View.ld x8
          (Rect.unit ![1, 0, 0] ![1, 128, 1] inb_S4x128x1_S1x128x1_1_0_0))) (k0_pay25 (View.ld x9
          (Rect.unit ![1, 0, 0] ![1, 1, 1] inb_S4x1x1_S1x1x1_1_0_0)))⟩,
        ⟨Rect.unit ![0, 0, 0] ![1, 256, 512] inb_S4x256x512_S1x256x512_0_0_0, k0_pay11 (k0_pay7 x4 x5 (View.ld x1
          (Rect.unit ![0, 0, 0] ![1, 8, 256] inb_S1x8x1024_S1x8x256_0_0_0))) (k0_pay8 (View.ld x2
          (Rect.unit ![0, 0, 0] ![1, 8, 512] inb_S1x8x2048_S1x8x512_0_0_0))) (FloatOps.ofBits (F := Ideal) FTy.f32 0#32) (View.ld s
          (Rect.unit ![0, 0, 0] ![1, 256, 512] inb_S4x256x512_S1x256x512_0_0_0)) (View.ld x8
          (Rect.unit ![0, 0, 0] ![1, 128, 1] inb_S4x128x1_S1x128x1_0_0_0)) (View.ld x9
          (Rect.unit ![0, 0, 0] ![1, 1, 1] inb_S4x1x1_S1x1x1_0_0_0))⟩] := by
  have hK := fun (n : ℕ) (hn : n < 4) (o : ℕ) (ho : o = n * 256) (inb) =>
    isK X S0 b (hi * 4 + n) k _ x4 x5 (B.ldk n hn o ho inb) B.fc B.fs
  have hV := fun (n : ℕ) (hn : n < 4) (o : ℕ) (ho : o = n * 512) (inb) =>
    isV X S0 b (hi * 4 + n) k _ (B.ldv n hn o ho inb)
  have hL := fun (n : ℕ) (hn : n < 4) (inb) =>
    lds (f := fun a d e => (sample X S0).S b (hi * 4 + a) k d e) s hs n hn inb
  refine ⟨fun x => ?_, fun x => ?_, fun x => ?_, fun x => ?_, trivial⟩
  · refine ((upd_read X S0 b (hi * 4 + 3) k _ _ _ _ _ _ _ _ _ _ _ (hK 3 (by decide) 768 rfl inb_S1x8x1024_S1x8x256_0_0_768).2.2.2
      (hK 3 (by decide) 768 rfl inb_S1x8x1024_S1x8x256_0_0_768).2.1 (hV 3 (by decide) 1536 rfl inb_S1x8x2048_S1x8x512_0_0_1536).2.2.2
      (hV 3 (by decide) 1536 rfl inb_S1x8x2048_S1x8x512_0_0_1536).1 (hL 3 (by decide) _)
      (B.ldkd 3 (by decide) _) (B.ldcd 3 (by decide) _) x).2.2.2).trans ?_
    dsimp only
    blk_simp []
  · refine ((upd_read X S0 b (hi * 4 + 2) k _ _ _ _ _ _ _ _ _ _ _ (hK 2 (by decide) 512 rfl inb_S1x8x1024_S1x8x256_0_0_512).2.2.1
      (hK 2 (by decide) 512 rfl inb_S1x8x1024_S1x8x256_0_0_512).2.1 (hV 2 (by decide) 1024 rfl inb_S1x8x2048_S1x8x512_0_0_1024).2.2.1
      (hV 2 (by decide) 1024 rfl inb_S1x8x2048_S1x8x512_0_0_1024).1 (hL 2 (by decide) _)
      (B.ldkd 2 (by decide) _) (B.ldcd 2 (by decide) _) x).2.2.1).trans ?_
    dsimp only
    blk_simp []
  · refine ((upd_read X S0 b (hi * 4 + 1) k _ _ _ _ _ _ _ _ _ _ _ (hK 1 (by decide) 256 rfl inb_S1x8x1024_S1x8x256_0_0_256).1
      (hK 1 (by decide) 256 rfl inb_S1x8x1024_S1x8x256_0_0_256).2.1 (hV 1 (by decide) 512 rfl inb_S1x8x2048_S1x8x512_0_0_512).2.1
      (hV 1 (by decide) 512 rfl inb_S1x8x2048_S1x8x512_0_0_512).1 (hL 1 (by decide) _)
      (B.ldkd 1 (by decide) _) (B.ldcd 1 (by decide) _) x).2.1).trans ?_
    dsimp only
    blk_simp []
  · refine ((upd_read X S0 b (hi * 4 + 0) k _ _ _ _ _ _ _ _ _ _ _ (hK 0 (by decide) 0 rfl inb_S1x8x1024_S1x8x256_0_0_0).1
      (hK 0 (by decide) 0 rfl inb_S1x8x1024_S1x8x256_0_0_0).2.1 (hV 0 (by decide) 0 rfl inb_S1x8x2048_S1x8x512_0_0_0).1
      (hV 0 (by decide) 0 rfl inb_S1x8x2048_S1x8x512_0_0_0).1 (hL 0 (by decide) _)
      (B.ldkd 0 (by decide) _) (B.ldcd 0 (by decide) _) x).1).trans ?_
    dsimp only
    blk_simp []

/-- The four stores of the outputs are blocks of the chunk's result. -/
theorem out_pieces {X : S8x8x24576.Idx → EReal} {S0 : S8x16x256x512.Idx → EReal} {b hi k : ℕ}
    {x0 x1 : Vec Ideal S1x8x1024 .f32} {x2 x3 : Vec Ideal S1x8x2048 .f32} {x4 x5 : Vec Ideal S128x128 .f32}
    {x6 : Vec Ideal S4x128x128 .f32} {x7 x8 : Vec Ideal S4x128x1 .f32} {x9 : Vec Ideal S4x1x1 .f32}
    (B : Blk (sample X S0) (R := 8) b hi k x0 x1 x2 x3 x4 x5 x6 x7 x8 x9) (s : Vec Ideal S4x256x512 .f32)
    (hs : ∀ a d e, s (ix3 a d e) = (sample X S0).S b (hi * 4 + a) k d e) :
    View.PiecesOf (Val := Elt Ideal) (e := .bf16)
      (fun y : S1x8x2048.Idx => (sample X S0).out b (hi * 4 + (y 2).val / 512) k (y 1) ((y 2).val % 512))
      [⟨Rect.unit ![0, 0, 1536] ![1, 8, 512] inb_S1x8x2048_S1x8x512_0_0_1536, k0_pay1 (k0_pay43 (k0_pay37 (k0_pay4 x4) (k0_pay5 x5)
  (k0_pay35 (View.ld x0 (Rect.unit ![0, 0, 768] ![1, 8, 256] inb_S1x8x1024_S1x8x256_0_0_768))) (k0_pay36 (F := Ideal))) (k0_pay40 (View.ld s
  (Rect.unit ![3, 0, 0] ![1, 256, 512] inb_S4x256x512_S1x256x512_3_0_0))) (k0_pay41 (k0_pay4 x4) (k0_pay5 x5) (k0_pay35
  (View.ld x0 (Rect.unit ![0, 0, 768] ![1, 8, 256] inb_S1x8x1024_S1x8x256_0_0_768))) (k0_pay36 (F := Ideal)) (View.ld x1
  (Rect.unit ![0, 0, 768] ![1, 8, 256] inb_S1x8x1024_S1x8x256_0_0_768)) (View.ld x2
  (Rect.unit ![0, 0, 1536] ![1, 8, 512] inb_S1x8x2048_S1x8x512_0_0_1536)) (View.ld x6
  (Rect.unit ![3, 0, 0] ![1, 128, 128] inb_S4x128x128_S1x128x128_3_0_0))) (View.ld x7
  (Rect.unit ![3, 0, 0] ![1, 128, 1] inb_S4x128x1_S1x128x1_3_0_0)) (View.ld x3
  (Rect.unit ![0, 0, 1536] ![1, 8, 512] inb_S1x8x2048_S1x8x512_0_0_1536)))⟩,
        ⟨Rect.unit ![0, 0, 1024] ![1, 8, 512] inb_S1x8x2048_S1x8x512_0_0_1024, k0_pay34 (k0_pay32 (k0_pay4 x4) (k0_pay5 x5)
          (k0_pay28 (k0_pay4 x4) (k0_pay5 x5) (View.ld x0
          (Rect.unit ![0, 0, 512] ![1, 8, 256] inb_S1x8x1024_S1x8x256_0_0_512))) (View.ld x1
          (Rect.unit ![0, 0, 512] ![1, 8, 256] inb_S1x8x1024_S1x8x256_0_0_512)) (View.ld x2
          (Rect.unit ![0, 0, 1024] ![1, 8, 512] inb_S1x8x2048_S1x8x512_0_0_1024)) (View.ld s
          (Rect.unit ![2, 0, 0] ![1, 256, 512] inb_S4x256x512_S1x256x512_2_0_0)) (View.ld x6
          (Rect.unit ![2, 0, 0] ![1, 128, 128] inb_S4x128x128_S1x128x128_2_0_0)) (View.ld x7
          (Rect.unit ![2, 0, 0] ![1, 128, 1] inb_S4x128x1_S1x128x1_2_0_0))) (View.ld x3
          (Rect.unit ![0, 0, 1024] ![1, 8, 512] inb_S1x8x2048_S1x8x512_0_0_1024))⟩,
        ⟨Rect.unit ![0, 0, 512] ![1, 8, 512] inb_S1x8x2048_S1x8x512_0_0_512, k0_pay27 (k0_pay23 (k0_pay4 x4) (k0_pay14
          (k0_pay4 x4) (k0_pay5 x5) (View.ld x0 (Rect.unit ![0, 0, 256] ![1, 8, 256] inb_S1x8x1024_S1x8x256_0_0_256)))
          (k0_pay17 (View.ld x1 (Rect.unit ![0, 0, 256] ![1, 8, 256] inb_S1x8x1024_S1x8x256_0_0_256))) (k0_pay18 (k0_pay4 x4)
          (k0_pay5 x5) (View.ld x1 (Rect.unit ![0, 0, 256] ![1, 8, 256] inb_S1x8x1024_S1x8x256_0_0_256))) (k0_pay19
          (k0_pay5 x5) (View.ld x1 (Rect.unit ![0, 0, 256] ![1, 8, 256] inb_S1x8x1024_S1x8x256_0_0_256))) (View.ld x2
          (Rect.unit ![0, 0, 512] ![1, 8, 512] inb_S1x8x2048_S1x8x512_0_0_512)) (View.ld s
          (Rect.unit ![1, 0, 0] ![1, 256, 512] inb_S4x256x512_S1x256x512_1_0_0)) (View.ld x6
          (Rect.unit ![1, 0, 0] ![1, 128, 128] inb_S4x128x128_S1x128x128_1_0_0)) (View.ld x7
          (Rect.unit ![1, 0, 0] ![1, 128, 1] inb_S4x128x1_S1x128x1_1_0_0))) (View.ld x3
          (Rect.unit ![0, 0, 512] ![1, 8, 512] inb_S1x8x2048_S1x8x512_0_0_512))⟩,
        ⟨Rect.unit ![0, 0, 0] ![1, 8, 512] inb_S1x8x2048_S1x8x512_0_0_0, k0_pay13 (k0_pay12 (k0_pay6 x4 x5 (View.ld x0
          (Rect.unit ![0, 0, 0] ![1, 8, 256] inb_S1x8x1024_S1x8x256_0_0_0))) (k0_pay7 x4 x5 (View.ld x1
          (Rect.unit ![0, 0, 0] ![1, 8, 256] inb_S1x8x1024_S1x8x256_0_0_0))) (k0_pay8 (View.ld x2
          (Rect.unit ![0, 0, 0] ![1, 8, 512] inb_S1x8x2048_S1x8x512_0_0_0))) (FloatOps.ofBits (F := Ideal) FTy.f32 0#32) (View.ld s
          (Rect.unit ![0, 0, 0] ![1, 256, 512] inb_S4x256x512_S1x256x512_0_0_0)) (View.ld x6
          (Rect.unit ![0, 0, 0] ![1, 128, 128] inb_S4x128x128_S1x128x128_0_0_0)) (View.ld x7
          (Rect.unit ![0, 0, 0] ![1, 128, 1] inb_S4x128x1_S1x128x1_0_0_0))) (View.ld x3
          (Rect.unit ![0, 0, 0] ![1, 8, 512] inb_S1x8x2048_S1x8x512_0_0_0))⟩] := by
  have hQ := fun (n : ℕ) (hn : n < 4) (o : ℕ) (ho : o = n * 256) (inb) =>
    isQ X S0 b (hi * 4 + n) k _ x4 x5 (B.ldq n hn o ho inb) B.fc B.fs
  have hK := fun (n : ℕ) (hn : n < 4) (o : ℕ) (ho : o = n * 256) (inb) =>
    isK X S0 b (hi * 4 + n) k _ x4 x5 (B.ldk n hn o ho inb) B.fc B.fs
  have hV := fun (n : ℕ) (hn : n < 4) (o : ℕ) (ho : o = n * 512) (inb) =>
    isV X S0 b (hi * 4 + n) k _ (B.ldv n hn o ho inb)
  have hL := fun (n : ℕ) (hn : n < 4) (inb) =>
    lds (f := fun a d e => (sample X S0).S b (hi * 4 + a) k d e) s hs n hn inb
  refine ⟨fun x => ?_, fun x => ?_, fun x => ?_, fun x => ?_, trivial⟩
  · have q := hQ 3 (by decide) 768 rfl inb_S1x8x1024_S1x8x256_0_0_768
    have κ := hK 3 (by decide) 768 rfl inb_S1x8x1024_S1x8x256_0_0_768
    have v := hV 3 (by decide) 1536 rfl inb_S1x8x2048_S1x8x512_0_0_1536
    have l := hL 3 (by decide) inb_S4x256x512_S1x256x512_3_0_0
    have d := B.ldqd 3 (by decide) inb_S4x128x1_S1x128x1_3_0_0
    have o := o_read X S0 b (hi * 4 + 3) k _ _ _ _ _ _ _ _ _ _ _ _ _ _ _ _ q.2.2.2 q.2.2.2 κ.1 κ.2.1 κ.2.2.1 κ.2.2.2 v.1 v.2.1 v.2.2.1 v.2.2.2 l
      (B.ldmk 3 (by decide) inb_S4x128x128_S1x128x128_3_0_0) d
    refine ((out_read X S0 b (hi * 4 + 3) k _ _ _ _ _ _ _ (fun r e => (o r e).1) (fun r e => (o r e).2.1)
      (fun r e => (o r e).2.2.2) q.2.2.2 l d (B.ldg 3 (by decide) 1536 rfl inb_S1x8x2048_S1x8x512_0_0_1536) x).2.2.2).trans ?_
    dsimp only
    blk_simp []
    idx_bounds x
    congr 1 <;> omega
  · have q := hQ 2 (by decide) 512 rfl inb_S1x8x1024_S1x8x256_0_0_512
    have κ := hK 2 (by decide) 512 rfl inb_S1x8x1024_S1x8x256_0_0_512
    have v := hV 2 (by decide) 1024 rfl inb_S1x8x2048_S1x8x512_0_0_1024
    have l := hL 2 (by decide) inb_S4x256x512_S1x256x512_2_0_0
    have d := B.ldqd 2 (by decide) inb_S4x128x1_S1x128x1_2_0_0
    have o := o_read X S0 b (hi * 4 + 2) k _ _ _ _ _ _ _ _ _ _ _ _ _ _ _ _ q.2.2.1 q.2.2.2 κ.1 κ.2.1 κ.2.2.1 κ.2.2.2 v.1 v.2.1 v.2.2.1 v.2.2.2 l
      (B.ldmk 2 (by decide) inb_S4x128x128_S1x128x128_2_0_0) d
    refine ((out_read X S0 b (hi * 4 + 2) k _ _ _ _ _ _ _ (fun r e => (o r e).1) (fun r e => (o r e).2.2.1)
      (fun r e => (o r e).2.2.2) q.2.2.1 l d (B.ldg 2 (by decide) 1024 rfl inb_S1x8x2048_S1x8x512_0_0_1024) x).2.2.1).trans ?_
    dsimp only
    blk_simp []
    idx_bounds x
    congr 1 <;> omega
  · have q := hQ 1 (by decide) 256 rfl inb_S1x8x1024_S1x8x256_0_0_256
    have κ := hK 1 (by decide) 256 rfl inb_S1x8x1024_S1x8x256_0_0_256
    have v := hV 1 (by decide) 512 rfl inb_S1x8x2048_S1x8x512_0_0_512
    have l := hL 1 (by decide) inb_S4x256x512_S1x256x512_1_0_0
    have d := B.ldqd 1 (by decide) inb_S4x128x1_S1x128x1_1_0_0
    have o := o_read X S0 b (hi * 4 + 1) k _ _ _ _ _ _ _ _ _ _ _ _ _ _ _ _ q.2.1 q.2.2.2 κ.1 κ.2.1 κ.2.2.1 κ.2.2.2 v.1 v.2.1 v.2.2.1 v.2.2.2 l
      (B.ldmk 1 (by decide) inb_S4x128x128_S1x128x128_1_0_0) d
    refine ((out_read X S0 b (hi * 4 + 1) k _ _ _ _ _ _ _ (fun r e => (o r e).1) (fun r e => (o r e).2.1)
      (fun r e => (o r e).2.2.2) q.2.1 l d (B.ldg 1 (by decide) 512 rfl inb_S1x8x2048_S1x8x512_0_0_512) x).2.1).trans ?_
    dsimp only
    blk_simp []
    idx_bounds x
    congr 1 <;> omega
  · have q := hQ 0 (by decide) 0 rfl inb_S1x8x1024_S1x8x256_0_0_0
    have κ := hK 0 (by decide) 0 rfl inb_S1x8x1024_S1x8x256_0_0_0
    have v := hV 0 (by decide) 0 rfl inb_S1x8x2048_S1x8x512_0_0_0
    have l := hL 0 (by decide) inb_S4x256x512_S1x256x512_0_0_0
    have d := B.ldqd 0 (by decide) inb_S4x128x1_S1x128x1_0_0_0
    have o := o_read X S0 b (hi * 4 + 0) k _ _ _ _ _ _ _ _ _ _ _ _ _ _ _ _ q.1 q.2.2.2 κ.1 κ.2.1 κ.2.2.1 κ.2.2.2 v.1 v.2.1 v.2.2.1 v.2.2.2 l
      (B.ldmk 0 (by decide) inb_S4x128x128_S1x128x128_0_0_0) d
    refine ((out_read X S0 b (hi * 4 + 0) k _ _ _ _ _ _ _ (fun r e => (o r e).1) (fun r e => (o r e).2.1)
      (fun r e => (o r e).2.2.2) q.1 l d (B.ldg 0 (by decide) 0 rfl inb_S1x8x2048_S1x8x512_0_0_0) x).1).trans ?_
    dsimp only
    blk_simp []
    idx_bounds x
    congr 1 <;> omega

end Cert.RetSIdeal.Value
end
-- ==== Proof.RetSBlk.lean ====
module

public import proofs.«01_k».proof.Proof.Gen.RetSIdeal.Value
public import proofs.«01_k».proof.Proof.RetSRun
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RetSIdeal.Value

open Cert.RetSIdeal Cert.RetSIdeal.Gen Cert.Retention Idealize.ShloMosaic Idealize.ShloMosaic.TcCoe Idealize.SL.Sem

variable (m : (ℓ : Loc nD τ sig) → Buf (Elt Ideal) ℓ)

/-- The retention's data in memory `m`: the packed projections and the states before. -/
abbrev dat (c : Dev nD) : Data := sample (m ((c : Thread nD τ).loc main_arg0)) (m ((c : Thread nD τ).loc main_arg1))

/-- Where each window's block lies at a grid point. -/
theorem idx : ∀ t : Fin cfg0.N,
    win0_0.index t = ![t.val / 4, 0, t.val % 4] ∧ win0_1.index t = ![t.val / 4, 0, 4 + t.val % 4]
    ∧ win0_2.index t = ![t.val / 4, 0, 4 + t.val % 4] ∧ win0_3.index t = ![t.val / 4, 0, 8 + t.val % 4]
    ∧ win0_4.index t = ![0, 0] ∧ win0_5.index t = ![0, 0] ∧ win0_6.index t = ![t.val % 4, 0, 0]
    ∧ win0_7.index t = ![t.val % 4, 0, 0] ∧ win0_8.index t = ![t.val % 4, 0, 0] ∧ win0_9.index t = ![t.val % 4, 0, 0]
    ∧ win0_10.index t = ![t.val / 4, t.val % 4, 0, 0] ∧ win0_11.index t = ![t.val / 4, 0, t.val % 4]
    ∧ win0_12.index t = ![t.val / 4, t.val % 4, 0, 0] :=
  (by decide +kernel : ∀ t : Fin grid0.N, _)

/-- The cosine table before the launch, in its first eight rows. -/
theorem V_cos (c : Dev nD) (a b : Fin 128) (ha : a.val < 8) :
    (V m c main_v65 : S128x128.Idx → EReal) (ix2 a b) = Ideal.cos ((dat m c).ang a b) := by
  unfold V
  after_reads_at
  pointwise
  simp only [ha, dite_true, if_true]
  rfl

/-- The sine table before the launch, in its first eight rows. -/
theorem V_sin (c : Dev nD) (a b : Fin 128) (ha : a.val < 8) :
    (V m c main_v67 : S128x128.Idx → EReal) (ix2 a b) = Ideal.sin ((dat m c).ang a b) := by
  unfold V
  after_reads_at
  pointwise
  simp only [ha, dite_true, if_true]
  rfl

/-- The decay masks before the launch, in their first eight rows and columns. -/
theorem V_mask (c : Dev nD) (a : Fin 16) (i j : Fin 128) (hi : i.val < 8) (hj : j.val < 8) :
    (V m c main_v46 : S16x128x128.Idx → EReal) (ix3 a i j) = Data.mask a i j := by
  unfold V
  after_reads_at
  simp only [id_eq]
  pointwise
  simp only [hi, hj, dite_true, if_true, and_self]
  rfl

theorem V_qd (c : Dev nD) (a : Fin 16) (i : Fin 128) (hi : i.val < 8) :
    (V m c main_v48 : S16x128x1.Idx → EReal) (ix3 a i 0) = Data.qd a i := by
  unfold V
  after_reads_at
  pointwise
  simp only [hi, dite_true, if_true]
  rfl

theorem V_kd (c : Dev nD) (a : Fin 16) (i : Fin 128) (hi : i.val < 8) :
    (V m c main_v50 : S16x128x1.Idx → EReal) (ix3 a i 0) = (dat m c).kd a i := by
  unfold V
  after_reads_at
  pointwise
  simp only [hi, dite_true, if_true]
  rfl

theorem V_cd (c : Dev nD) (a : Fin 16) : (V m c main_v51 : S16x1x1.Idx → EReal) (ix3 a 0 0) = (dat m c).cd a := by
  unfold V
  after_reads_at
  rfl

set_option maxHeartbeats 4000000 in
/-- The blocks of a grid point hold the retention's own parts. -/
theorem blk (c : Dev nD) (t : Fin cfg0.N) :
    Blk (dat m c) (R := 8) (t.val / 4) (t.val % 4) 0 (iblk m c 0 t) (iblk m c 1 t) (iblk m c 2 t)
      (iblk m c 3 t) (iblk m c 4 t) (iblk m c 5 t) (iblk m c 6 t) (iblk m c 7 t) (iblk m c 8 t) (iblk m c 9 t) := by
  obtain ⟨i0, i1, i2, i3, i4, i5, i6, i7, i8, i9, -, -, -⟩ := idx t
  have ht : t.val < 32 := t.isLt
  refine ⟨fun r x => ?_, fun r x => ?_, fun r x => ?_, fun r x => ?_, fun r d hr => ?_, fun r d hr => ?_,
    fun a i j hi hj => ?_, fun a i hi => ?_, fun a i hi => ?_, fun a => ?_⟩
  · show V m c main_arg0 ((win0_0.blk t).view.emb (ix3 0 r x)) = _
    rw [V_main_arg0]
    refine (rd3_idx _ _).trans ?_
    show rd3 _ _ _ _ = rd3 _ _ _ _
    blk_simp [i0]
    congr 1 <;> omega
  · show V m c main_arg0 ((win0_1.blk t).view.emb (ix3 0 r x)) = _
    rw [V_main_arg0]
    refine (rd3_idx _ _).trans ?_
    show rd3 _ _ _ _ = rd3 _ _ _ _
    blk_simp [i1]
    congr 1 <;> omega
  · show V m c main_arg0 ((win0_2.blk t).view.emb (ix3 0 r x)) = _
    rw [V_main_arg0]
    refine (rd3_idx _ _).trans ?_
    show rd3 _ _ _ _ = rd3 _ _ _ _
    blk_simp [i2]
    congr 1 <;> omega
  · show V m c main_arg0 ((win0_3.blk t).view.emb (ix3 0 r x)) = _
    rw [V_main_arg0]
    refine (rd3_idx _ _).trans ?_
    show rd3 _ _ _ _ = rd3 _ _ _ _
    blk_simp [i3]
    congr 1 <;> omega
  · show V m c main_v65 ((win0_4.blk t).view.emb (ix2 r d)) = _
    rw [Nat.zero_mul, Nat.zero_add]
    refine Eq.trans ?_ (V_cos m c r d hr)
    congr 1
    blk_ext [i4]
  · show V m c main_v67 ((win0_5.blk t).view.emb (ix2 r d)) = _
    rw [Nat.zero_mul, Nat.zero_add]
    refine Eq.trans ?_ (V_sin m c r d hr)
    congr 1
    blk_ext [i5]
  · show V m c main_v46 ((win0_6.blk t).view.emb (ix3 a i j)) = _
    refine Eq.trans ?_ (V_mask m c ⟨t.val % 4 * 4 + a, by omega⟩ i j hi hj)
    congr 1
    blk_ext [i6]
  · show V m c main_v48 ((win0_7.blk t).view.emb (ix3 a i 0)) = _
    refine Eq.trans ?_ (V_qd m c ⟨t.val % 4 * 4 + a, by omega⟩ i hi)
    congr 1
    blk_ext [i7]
  · show V m c main_v50 ((win0_8.blk t).view.emb (ix3 a i 0)) = _
    refine Eq.trans ?_ (V_kd m c ⟨t.val % 4 * 4 + a, by omega⟩ i hi)
    congr 1
    blk_ext [i8]
  · show V m c main_v51 ((win0_9.blk t).view.emb (ix3 a 0 0)) = _
    refine Eq.trans ?_ (V_cd m c ⟨t.val % 4 * 4 + a, by omega⟩)
    congr 1
    blk_ext [i9]

set_option maxHeartbeats 2000000 in
/-- The loaded states are the states before the only chunk. -/
theorem start (c : Dev nD) (t : Fin cfg0.N) (a : Fin 4) (d : Fin 256) (e : Fin 512) :
    k0_pay3 (iblk m c 10 t) (ix3 a d e) = (dat m c).S (t.val / 4) (t.val % 4 * 4 + a) 0 d e := by
  obtain ⟨-, -, -, -, -, -, -, -, -, -, i10, -, -⟩ := idx t
  have ht : t.val < 32 := t.isLt
  pointwise! [k0_pay3]
  show V m c main_arg1 ((win0_10.blk t).view.emb (ix4 0 a d e)) = _
  rw [V_main_arg1]
  refine (rd4_idx _ _).trans ?_
  show rd4 _ _ _ _ _ = rd4 _ _ _ _ _
  blk_simp [i10]
  rfl

end Cert.RetSIdeal.Value
end
-- ==== Proof.RetSIter.lean ====
module

public import proofs.«01_k».proof.Proof.Gen.RetSIdeal.Value
public import proofs.«01_k».proof.Proof.RetSBlk
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RetSIdeal.Value

open Cert.RetSIdeal Cert.RetSIdeal.Gen Cert.Retention Idealize.ShloMosaic Idealize.ShloMosaic.TcCoe Idealize.SL.Sem

variable (m : (ℓ : Loc nD τ sig) → Buf (Elt Ideal) ℓ)

/-- The rows of the output written at a grid point. -/
theorem written (c : Dev nD) (t : Fin cfg0.N) (y : S1x8x2048.Idx) :
    (outsAt0 m c t).1 y = (dat m c).out (t.val / 4) (t.val % 4 * 4 + (y 2).val / 512) 0 (y 1) ((y 2).val % 512) := by
  unfold outsAt0
  frame_out
  simp (disch := decide) only [read_unread_whole, ↓ View.readCov_skip, ↓ View.readCov_cons_toLoadRect, ↓ View.readCov_fill]
  exact View.canon_append_of_piecesOf _ [] _ (out_pieces (blk m c t) _ (start m c t)) y
    (View.cover_of_tiledL _ (![1, 8, 512] : Fin 3 → ℕ) (by rfl) y)

/-- The states' store, at an index. -/
theorem pay2_read (v : Vec Ideal S4x256x512 .f32) (y : S1x4x256x512.Idx) : k0_pay2 v y = v (ix3 (y 1) (y 2) (y 3)) := by
  idx_vars y
  pointwise! [k0_pay2]

/-- A place of the whole array of a group's states is itself. -/
theorem whole_idx (z : S4x256x512.Idx) :
    (Rect.unit (s := S4x256x512) ![0, 0, 0] ![4, 256, 512] inb_S4x256x512_S4x256x512_0_0_0).idx z = z := by
  refine funext fun a => Fin.ext ?_
  fin_cases a <;> exact (Nat.zero_add _).trans (Nat.one_mul _)

/-- The states written at a grid point. -/
theorem stored (c : Dev nD) (t : Fin cfg0.N) (y : S1x4x256x512.Idx) :
    (outsAt0 m c t).2 y = (dat m c).S (t.val / 4) (t.val % 4 * 4 + y 1) 1 (y 2) (y 3) := by
  unfold outsAt0
  frame_out
  simp (disch := decide) only [read_unread_whole, ↓ View.readCov_skip, ↓ View.readCov_cons_toLoadRect, ↓ View.readCov_fill]
  simp only [View.readCov_eq_canon']
  refine (pay2_read _ y).trans ?_
  refine (congrArg _ (whole_idx _)).trans ?_
  exact View.canon_append_of_piecesOf _ [_] _ (state_pieces (blk m c t) _ (start m c t)) (ix3 (y 1) (y 2) (y 3))
    (View.cover_of_tiledL _ (![1, 256, 512] : Fin 3 → ℕ) (by rfl) (ix3 (y 1) (y 2) (y 3)))

/-- The kernel's output array: the retention's rows. -/
theorem out_array (c : Dev nD) : (dats m 0 c).arrAt 11 cfg0.N = (fun j : S8x8x8192.Idx =>
    (dat m c).out (j 0) ((j 2).val / 512) 0 (j 1) ((j 2).val % 512)) := by
  refine (dats m 0 c).arrAt_eq_of_covers 11 _ (by decide +kernel) fun t hf y => ?_
  refine (congrFun (after0_11 m c t) y).trans ((written m c t y).trans ?_)
  obtain ⟨-, -, -, -, -, -, -, -, -, -, -, i11, -⟩ := idx t
  have ht : t.val < 32 := t.isLt
  idx_vars y
  blk_simp [i11]
  congr 1 <;> omega

/-- The kernel's state array: the retention's new states. -/
theorem state_array (c : Dev nD) : (dats m 0 c).arrAt 12 cfg0.N = (fun j : S8x16x256x512.Idx =>
    (dat m c).S (j 0) (j 1) 1 (j 2) (j 3)) := by
  refine (dats m 0 c).arrAt_eq_of_covers 12 _ (by decide +kernel) fun t hf y => ?_
  refine (congrFun (after0_12 m c t) y).trans ((stored m c t y).trans ?_)
  obtain ⟨-, -, -, -, -, -, -, -, -, -, -, -, i12⟩ := idx t
  have ht : t.val < 32 := t.isLt
  idx_vars y
  blk_simp [i12]

end Cert.RetSIdeal.Value
end
-- ==== Proof.RetSRef.lean ====
module

public import proofs.«01_k».proof.Proof.Gen.RetSRefIdeal.Run
public import proofs.«01_k».proof.Proof.RetPure
public import Idealize.ShloMosaic.Lib.Pipeline.ValueKit
public import Idealize.ShloMosaic.Lib.StableHlo.ReadAt
public import Idealize.ShloMosaic.Lib.WordCmp
public import Idealize.ShloMosaic.Lib.DynamicIndex

@[expose] public section

set_option maxRecDepth 16384

noncomputable section
namespace Cert.RetSRefIdeal.Value
open Cert.RetSRefIdeal Cert.RetSRefIdeal.Gen Cert.Retention Idealize.ShloMosaic Idealize.ShloMosaic.TcCoe Idealize.SL.Sem
  Idealize.ShloMosaic.StableHlo
/-- What the loop's buffers hold before its only trip. -/
structure Inv (X : S8x8x24576.Idx → EReal) (S0 : S8x16x256x512.Idx → EReal) (V0 : Valuation τ sig (Elt Ideal)) : Prop where
  fq : ∀ (b : Fin 8) (h : Fin 16) (r : Fin 8) (d : Fin 256),
    (V0 (Proc.devRef .tc main_v120_0) : S1x8x16x8x256.Idx → EReal) (ix5 0 b h r d) = (sample X S0).Q b (0 * 8 + r) h d
  fk : ∀ (b : Fin 8) (h : Fin 16) (r : Fin 8) (d : Fin 256),
    (V0 (Proc.devRef .tc main_v120_1) : S1x8x16x8x256.Idx → EReal) (ix5 0 b h r d) = (sample X S0).K b (0 * 8 + r) h d
  fv : ∀ (b : Fin 8) (h : Fin 16) (r : Fin 8) (d : Fin 512),
    (V0 (Proc.devRef .tc main_v120_2) : S1x8x16x8x512.Idx → EReal) (ix5 0 b h r d) = (sample X S0).V b (0 * 8 + r) h d
  fmsk : ∀ (h : Fin 16) (i j : Fin 8), (V0 (Proc.devRef .tc main_v120_3) : S16x8x8.Idx → EReal) (ix3 h i j) = Data.mask h i j
  fqd : ∀ (h : Fin 16) (i : Fin 8), (V0 (Proc.devRef .tc main_v120_4) : S16x8.Idx → EReal) (ix2 h i) = Data.qd h i
  fcd : ∀ (h : Fin 16), (V0 (Proc.devRef .tc main_v120_5) : S16.Idx → EReal) (ix1 h) = (sample X S0).cd h
  fkd : ∀ (h : Fin 16) (i : Fin 8), (V0 (Proc.devRef .tc main_v120_6) : S16x8.Idx → EReal) (ix2 h i) = (sample X S0).kd h i
  fctr : V0 (Proc.devRef .tc main_v120_7) = fun _ => 0#32
  fs : ∀ (b : Fin 8) (h : Fin 16) (d : Fin 256) (e : Fin 512),
    (V0 (Proc.devRef .tc main_v120_8) : S8x16x256x512.Idx → EReal) (ix4 b h d e) = (sample X S0).S b h 0 d e

/-- The start of the only chunk's slice: zero on every axis. -/
theorem chunk_start (a : Fin 5) :
    ((![(fun _ => 0#32 : S_.Idx → BitVec 32), constantI S_ 32 0#32, constantI S_ 32 0#32, constantI S_ 32 0#32, constantI S_ 32 0#32] :
      Fin 5 → (⟨S_, .i32⟩ : BufTy).Contents (Elt Ideal)) a (Shape.Idx.first h_S_)).toInt = (((![0, 0, 0, 0, 0] : Fin 5 → ℕ) a : ℕ) : ℤ) := by
  fin_cases a
  all_goals rfl

section
variable {X : S8x8x24576.Idx → EReal} {S0 : S8x16x256x512.Idx → EReal} {V0 : Valuation τ sig (Elt Ideal)} (I : Inv X S0 V0)
include I

theorem q_chunk (b : Fin 8) (h : Fin 16) (r : Fin 8) (d : Fin 256) :
    (res_main_while0b_v138 V0 : S8x16x8x256.Idx → EReal) (ix4 b h r d) = (sample X S0).Q b (0 * 8 + r) h d := by
  refine Eq.trans ?_ (I.fq b h r d)
  unfold res_main_while0b_v138
  rw [I.fctr]
  refine (congrArg (fun z => shapeCast S8x16x8x256 z _ (ix4 b h r d)) (Host.dynamicSlice_eq_extractStridedSlice
    (s := S1x8x16x8x256) S1x8x16x8x256 _ _ (![0, 0, 0, 0, 0]) _ ⟨rfl, fun a => by fin_cases a; all_goals exact le_of_eq rfl⟩ chunk_start)).trans ?_
  pointwise

theorem k_chunk (b : Fin 8) (h : Fin 16) (r : Fin 8) (d : Fin 256) :
    (res_main_while0b_v139 V0 : S8x16x8x256.Idx → EReal) (ix4 b h r d) = (sample X S0).K b (0 * 8 + r) h d := by
  refine Eq.trans ?_ (I.fk b h r d)
  unfold res_main_while0b_v139
  rw [I.fctr]
  refine (congrArg (fun z => shapeCast S8x16x8x256 z _ (ix4 b h r d)) (Host.dynamicSlice_eq_extractStridedSlice
    (s := S1x8x16x8x256) S1x8x16x8x256 _ _ (![0, 0, 0, 0, 0]) _ ⟨rfl, fun a => by fin_cases a; all_goals exact le_of_eq rfl⟩ chunk_start)).trans ?_
  pointwise

theorem v_chunk (b : Fin 8) (h : Fin 16) (r : Fin 8) (d : Fin 512) :
    (res_main_while0b_v140 V0 : S8x16x8x512.Idx → EReal) (ix4 b h r d) = (sample X S0).V b (0 * 8 + r) h d := by
  refine Eq.trans ?_ (I.fv b h r d)
  unfold res_main_while0b_v140
  rw [I.fctr]
  refine (congrArg (fun z => shapeCast S8x16x8x512 z _ (ix4 b h r d)) (Host.dynamicSlice_eq_extractStridedSlice
    (s := S1x8x16x8x512) S1x8x16x8x512 _ _ (![0, 0, 0, 0, 0]) _ ⟨rfl, fun a => by fin_cases a; all_goals exact le_of_eq rfl⟩ chunk_start)).trans ?_
  pointwise

theorem s_step (b : Fin 8) (h : Fin 16) (d : Fin 256) (e : Fin 512) :
    (step_main_v120_8 V0 : S8x16x256x512.Idx → EReal) (ix4 b h d e) = (sample X S0).S b h 1 d e := by
  unfold step_main_v120_8
  simp only [id_eq]
  pointwise
  rw [I.fs, I.fcd]
  show _ + _ = _ + _
  congr 1
  refine Finset.sum_congr rfl fun x _ => ?_
  rw [k_chunk I, v_chunk I, I.fkd]
  rfl

theorem o_step (b : Fin 8) (h : Fin 16) (r : Fin 8) (e : Fin 512) :
    (step_main_v120_9 V0 : S1x8x16x8x512.Idx → EReal) (ix5 0 b h r e) = (sample X S0).O b h 0 r e := by
  unfold step_main_v120_9
  simp only [id_eq]
  rw [I.fctr]
  refine (congrFun (WordCmp.dynamicUpdateSlice_eq_update (s := S1x8x16x8x512) (u := S1x8x16x8x512) _ _ _ _ (![0, 0, 0, 0, 0])
    ⟨rfl, fun a => by fin_cases a; all_goals exact le_of_eq rfl⟩ chunk_start) _).trans ?_
  pointwise
  simp only [q_chunk I, k_chunk I, v_chunk I, I.fmsk, I.fqd, I.fs]
  rfl

end

theorem out_read (X : S8x8x24576.Idx → EReal) (S0 : S8x16x256x512.Idx → EReal) (V0 : Valuation τ sig (Elt Ideal))
    (ho : ∀ (b : Fin 8) (h : Fin 16) (r : Fin 8) (e : Fin 512),
      (V0 (Proc.devRef .tc main_v120_9) : S1x8x16x8x512.Idx → EReal) (ix5 0 b h r e) = (sample X S0).O b h 0 r e)
    (hx : V0 (Proc.devRef .tc main_arg0) = X) (b : Fin 8) (n : Fin 8) (x : Fin 8192) :
    (out_main_v137 V0 : S8x8x8192.Idx → EReal) (ix3 b n x) = (sample X S0).out b (x.val / 512) 0 n (x.val % 512) := by
  unfold out_main_v137
  pointwise
  rw [hx]
  simp only [ho]
  unfold Data.out
  have hg : X (ix3 b n ⟨16384 + x.val, by omega⟩) = (sample X S0).G b (0 * (sample X S0).len + n.val) (x.val / 512) (x.val % 512) := by
    refine (rd3_ix3 X _ _ _).trans ?_
    show rd3 X _ _ _ = rd3 X _ _ _
    rw [Nat.zero_mul, Nat.zero_add]
    congr 1
    show 16384 + x.val = 16384 + (x.val / 512 * 512 + x.val % 512)
    omega
  rw [← hg]
  rfl

variable (m : (ℓ : Loc nD τ sig) → Buf (Elt Ideal) ℓ)

/-- The retention's data in memory `m`: the packed projections and the states before. -/
abbrev dat (c : Dev nD) : Data := sample (m ((c.tc : Thread nD τ).loc main_arg0)) (m ((c.tc : Thread nD τ).loc main_arg1))

/-- The argument's array at an index, before everything. -/
theorem arg_read (c : Dev nD) (i : Fin 8) (j : Fin 8) (k : Fin 24576) :
    (launchContents m c (Proc.devRef .tc main_arg0) : S8x8x24576.Idx → EReal) (ix3 i j k)
      = rd3 (m ((c.tc : Thread nD τ).loc main_arg0)) i j k := rd3_ix3 _ i j k

/-- The loop's queries at its entry. -/
theorem entry_0 (c : Dev nD) (b : Fin 8) (h : Fin 16) (r : Fin 8) (d : Fin 256) :
    (entryContents preI m c (Proc.devRef .tc main_v120_0) : S1x8x16x8x256.Idx → EReal) (ix5 0 b h r d) = (dat m c).Q b r h d := by
  simp only [entryContents, afterL_cons, afterL_nil]
  after_reads_at
  simp only [id_eq]
  pointwise
  split
  · after_reads_at
    pointwise
    refine Eq.trans ?_ (if_pos ‹_›).symm
    refine (congrArg₂ (fun u v : EReal => u * _ - v * _) (arg_read m c _ _ _) (arg_read m c _ _ _)).trans ?_
    simp only [sample, Data.ang, W, IntOp.addi]
  · after_reads_at
    pointwise
    refine Eq.trans ?_ (if_neg ‹_›).symm
    refine (congrArg₂ (fun u v : EReal => u * _ + v * _) (arg_read m c _ _ _) (arg_read m c _ _ _)).trans ?_
    simp only [sample, Data.ang, W, IntOp.addi]

/-- The loop's keys at its entry. -/
theorem entry_1 (c : Dev nD) (b : Fin 8) (h : Fin 16) (r : Fin 8) (d : Fin 256) :
    (entryContents preI m c (Proc.devRef .tc main_v120_1) : S1x8x16x8x256.Idx → EReal) (ix5 0 b h r d) = (dat m c).K b r h d := by
  simp only [entryContents, afterL_cons, afterL_nil]
  after_reads_at
  simp only [id_eq]
  pointwise
  split
  · after_reads_at
    pointwise
    refine Eq.trans ?_ (congrArg (· * Ideal.ofBits FTy.f32 1031798784#32) (if_pos ‹_›).symm)
    refine (congrArg₂ (fun u v : EReal => (u * _ - v * _) * _) (arg_read m c _ _ _) (arg_read m c _ _ _)).trans ?_
    simp only [sample, Data.ang, W, IntOp.addi]
  · after_reads_at
    pointwise
    refine Eq.trans ?_ (congrArg (· * Ideal.ofBits FTy.f32 1031798784#32) (if_neg ‹_›).symm)
    refine (congrArg₂ (fun u v : EReal => (u * _ + v * _) * _) (arg_read m c _ _ _) (arg_read m c _ _ _)).trans ?_
    simp only [sample, Data.ang, W, IntOp.addi]

/-- What the loop's buffers hold at its entry. -/
theorem inv_entry (c : Dev nD) :
    Inv (m ((c.tc : Thread nD τ).loc main_arg0)) (m ((c.tc : Thread nD τ).loc main_arg1)) (entryContents preI m c) where
  fq := by
    intro b h r d
    rw [Nat.zero_mul, Nat.zero_add]
    exact entry_0 m c b h r d
  fk := by
    intro b h r d
    rw [Nat.zero_mul, Nat.zero_add]
    exact entry_1 m c b h r d
  fv := by
    intro b h r d
    rw [Nat.zero_mul, Nat.zero_add]
    simp only [entryContents, afterL_cons, afterL_nil]
    after_reads_at
    simp only [id_eq]
    pointwise
    exact rd3_ix3 _ _ _ _
  fmsk := by
    intro h i j
    simp only [entryContents, afterL_cons, afterL_nil]
    after_reads_at
    simp only [id_eq]
    pointwise
    rfl
  fqd := by
    intro h i
    simp only [entryContents, afterL_cons, afterL_nil]
    after_reads_at
    simp only [id_eq]
    pointwise
    rfl
  fcd := by
    intro h
    simp only [entryContents, afterL_cons, afterL_nil]
    after_reads_at
    simp only [id_eq]
    pointwise
    rfl
  fkd := by
    intro h i
    simp only [entryContents, afterL_cons, afterL_nil]
    after_reads_at
    simp only [id_eq]
    pointwise
    rfl
  fctr := ctr_entry m c
  fs := by
    intro b h d e
    simp only [entryContents, afterL_cons, afterL_nil]
    after_reads_at
    simp only [id_eq]
    exact rd4_ix4 _ b h d e

/-- The reference's rows. -/
theorem ref_out (c : Dev nD) : out_main_v137 (STEP^[1] (entryContents preI m c)) = (fun j : S8x8x8192.Idx =>
    (dat m c).out (j 0) ((j 2).val / 512) 0 (j 1) ((j 2).val % 512)) := by
  refine funext fun (j : S8x8x8192.Idx) => ?_
  refine (congrArg (out_main_v137 (STEP^[1] (entryContents preI m c)) : S8x8x8192.Idx → EReal) (eq_ix3 j)).trans ?_
  refine out_read _ (m ((c.tc : Thread nD τ).loc main_arg1)) _ (fun b h r e => ?_) (iter_main_arg0 m c 1) (j 0) (j 1) (j 2)
  rw [Function.iterate_one, STEP_main_v120_9]
  exact o_step (inv_entry m c) b h r e

/-- The reference's new states. -/
theorem ref_state (c : Dev nD) : (STEP^[1] (entryContents preI m c)) (Proc.devRef .tc main_v120_8) = (fun j : S8x16x256x512.Idx =>
    (dat m c).S (j 0) (j 1) 1 (j 2) (j 3)) := by
  refine funext fun (j : S8x16x256x512.Idx) => ?_
  refine (congrArg ((STEP^[1] (entryContents preI m c)) (Proc.devRef .tc main_v120_8) : S8x16x256x512.Idx → EReal) (eq_ix4 j)).trans ?_
  rw [Function.iterate_one, STEP_main_v120_8]
  exact s_step (inv_entry m c) (j 0) (j 1) (j 2) (j 3)

end Cert.RetSRefIdeal.Value
end
-- ==== Proof.RetSClaim.lean ====
module

public import proofs.«01_k».proof.Defs
public import proofs.«01_k».proof.Proof.Gen.RetS
public import proofs.«01_k».proof.Proof.Gen.RetS.Frame
public import proofs.«01_k».proof.Proof.Gen.RetSIdeal.Frame
public import proofs.«01_k».proof.Proof.RetSIter
public import proofs.«01_k».proof.Proof.RetSRef
public import Idealize.ShloMosaic.Adequacy
public import Idealize.ShloMosaic.Init

@[expose] public section

noncomputable section

namespace Cert.Proof

open Cert.Retention Idealize.ShloMosaic Idealize.SL.Sem

/-- The reference of the retention at the sample's shapes runs, leaves its arguments and every counter as they were. -/
theorem ret_s_ref_frame : Cert.quiescent_RetSRefIdeal := fun m ρ _ =>
  (θ_run Cert.RetSRefIdeal.defs _ _).mono (fun r h => ⟨fun c => (h c).2.2, sem_eq_zero_of_no_sems (by decide) r.2⟩)
    (Cert.RetSRefIdeal.Value.run (F := Ideal) m ρ)

/-- The retention kernel at the sample's shapes and its reference compute the same rows and the same new states. -/
theorem ret_s_algebraic : Cert.algebraic_RetSIdeal_RetSRefIdeal := by
  intro m ρ m' ρ' _ hin
  have hd : ∀ c, Cert.RetSRefIdeal.Value.dat m' c = Cert.RetSIdeal.Value.dat m c := fun c => congrArg₂ sample (hin c).1 (hin c).2
  refine ⟨fun c => (fun j : Cert.RetSIdeal.S8x8x8192.Idx =>
      (Cert.RetSIdeal.Value.dat m c).out (j 0) ((j 2).val / 512) 0 (j 1) ((j 2).val % 512)),
    fun c => (fun j : Cert.RetSIdeal.S8x16x256x512.Idx => (Cert.RetSIdeal.Value.dat m c).S (j 0) (j 1) 1 (j 2) (j 3)), ?_, ?_⟩
  · exact (θ_run Cert.RetSIdeal.defs _ _).mono (fun r h c => ⟨(h c).1.trans (Cert.RetSIdeal.Value.out_array m c),
      (h c).2.1.trans (Cert.RetSIdeal.Value.state_array m c), (h c).2.2⟩) (Cert.RetSIdeal.Value.run_blocks (F := Ideal) m ρ)
  · exact (θ_run Cert.RetSRefIdeal.defs _ _).mono (fun r h c => ⟨(h c).1.trans ((Cert.RetSRefIdeal.Value.ref_out m' c).trans (by rw [hd])),
      (h c).2.1.trans ((Cert.RetSRefIdeal.Value.ref_state m' c).trans (by rw [hd])), (h c).2.2⟩) (Cert.RetSRefIdeal.Value.run (F := Ideal) m' ρ')

end Cert.Proof

end
-- ==== Proof.lean ====
/- The proof of the certificate's claim: the frames, the idealisation and the value claim of every call stated. -/
module

public import proofs.«01_k».proof.Defs
public import proofs.«01_k».proof.Proof.Gen.RetIdeal.Value
public import proofs.«01_k».proof.Proof.Gen.RetRefIdeal.Run
public import proofs.«01_k».proof.Proof.Gen.RetInIdeal.Value
public import proofs.«01_k».proof.Proof.Gen.RetInRefIdeal.Run
public import proofs.«01_k».proof.Proof.Gen.RetOutIdeal.Value
public import proofs.«01_k».proof.Proof.Gen.RetOutRefIdeal.Run
public import proofs.«01_k».proof.Proof.Gen.NsaOutIdeal.Value
public import proofs.«01_k».proof.Proof.Gen.NsaOutRefIdeal.Run
public import proofs.«01_k».proof.Proof.Gen.PleIdeal.Value
public import proofs.«01_k».proof.Proof.Gen.PleRefIdeal.Run
public import proofs.«01_k».proof.Proof.Gen.KvIdeal.Value
public import proofs.«01_k».proof.Proof.Gen.KvRefIdeal.Run
public import proofs.«01_k».proof.Proof.Gen.NsaQIdeal.Value
public import proofs.«01_k».proof.Proof.Gen.NsaQRefIdeal.Run
public import proofs.«01_k».proof.Proof.Gen.RetIn.Frame
public import proofs.«01_k».proof.Proof.Gen.RetOut.Frame
public import proofs.«01_k».proof.Proof.Gen.NsaOut.Frame
public import proofs.«01_k».proof.Proof.Gen.Ple.Frame
public import proofs.«01_k».proof.Proof.Gen.Kv.Frame
public import proofs.«01_k».proof.Proof.Gen.NsaQ.Frame
public import proofs.«01_k».proof.Proof.Gen.PleSIdeal.Value
public import proofs.«01_k».proof.Proof.Gen.PleSRefIdeal.Run
public import proofs.«01_k».proof.Proof.Gen.KvSIdeal.Value
public import proofs.«01_k».proof.Proof.Gen.KvSRefIdeal.Run
public import proofs.«01_k».proof.Proof.Gen.PleS.Frame
public import proofs.«01_k».proof.Proof.Gen.KvS.Frame
public import proofs.«01_k».proof.Proof.Gen.RetSIdeal.Value
public import proofs.«01_k».proof.Proof.Gen.RetSRefIdeal.Run
public import proofs.«01_k».proof.Proof.Gen.RetS.Frame
public import proofs.«01_k».proof.Proof.RetClaim
public import proofs.«01_k».proof.Proof.RetInVal
public import proofs.«01_k».proof.Proof.ResidVal
public import proofs.«01_k».proof.Proof.PleVal
public import proofs.«01_k».proof.Proof.KvVal
public import proofs.«01_k».proof.Proof.NsaQVal
public import proofs.«01_k».proof.Proof.PleSVal
public import proofs.«01_k».proof.Proof.KvSVal
public import proofs.«01_k».proof.Proof.RetSClaim

@[expose] public section

noncomputable section

namespace Cert.Proof

/-- Every claim stated of the ten calls. -/
theorem claim : Cert.Claim := ⟨Cert.Ret.Gen.facts, Cert.RetIdeal.Gen.facts, Cert.RetRefIdeal.Gen.facts,
  Cert.RetIn.Gen.facts, Cert.RetInIdeal.Gen.facts, Cert.RetInRefIdeal.Gen.facts,
  Cert.RetOut.Gen.facts, Cert.RetOutIdeal.Gen.facts, Cert.RetOutRefIdeal.Gen.facts,
  Cert.NsaOut.Gen.facts, Cert.NsaOutIdeal.Gen.facts, Cert.NsaOutRefIdeal.Gen.facts,
  Cert.Ple.Gen.facts, Cert.PleIdeal.Gen.facts, Cert.PleRefIdeal.Gen.facts,
  Cert.Kv.Gen.facts, Cert.KvIdeal.Gen.facts, Cert.KvRefIdeal.Gen.facts,
  Cert.NsaQ.Gen.facts, Cert.NsaQIdeal.Gen.facts, Cert.NsaQRefIdeal.Gen.facts,
  Cert.PleS.Gen.facts, Cert.PleSIdeal.Gen.facts, Cert.PleSRefIdeal.Gen.facts,
  Cert.KvS.Gen.facts, Cert.KvSIdeal.Gen.facts, Cert.KvSRefIdeal.Gen.facts,
  Cert.RetS.Gen.facts, Cert.RetSIdeal.Gen.facts, Cert.RetSRefIdeal.Gen.facts,
  fun m ρ _ => Cert.Ret.Gen.frame m ρ, fun m ρ _ => Cert.RetIdeal.Gen.frame m ρ, ret_ref_frame,
  fun m ρ _ => Cert.RetIn.Gen.frame m ρ, fun m ρ _ => Cert.RetInIdeal.Gen.frame m ρ, retIn_ref_frame,
  fun m ρ _ => Cert.RetOut.Gen.frame m ρ, fun m ρ _ => Cert.RetOutIdeal.Gen.frame m ρ, retOut_ref_frame,
  fun m ρ _ => Cert.NsaOut.Gen.frame m ρ, fun m ρ _ => Cert.NsaOutIdeal.Gen.frame m ρ, nsaOut_ref_frame,
  fun m ρ _ => Cert.Ple.Gen.frame m ρ, fun m ρ _ => Cert.PleIdeal.Gen.frame m ρ, ple_ref_frame,
  fun m ρ _ => Cert.Kv.Gen.frame m ρ, fun m ρ _ => Cert.KvIdeal.Gen.frame m ρ, kv_ref_frame,
  fun m ρ _ => Cert.NsaQ.Gen.frame m ρ, fun m ρ _ => Cert.NsaQIdeal.Gen.frame m ρ, nsaQ_ref_frame,
  fun m ρ _ => Cert.PleS.Gen.frame m ρ, fun m ρ _ => Cert.PleSIdeal.Gen.frame m ρ, ple_s_ref_frame,
  fun m ρ _ => Cert.KvS.Gen.frame m ρ, fun m ρ _ => Cert.KvSIdeal.Gen.frame m ρ, kv_s_ref_frame,
  fun m ρ _ => Cert.RetS.Gen.frame m ρ, fun m ρ _ => Cert.RetSIdeal.Gen.frame m ρ, ret_s_ref_frame,
  trivial, ret_algebraic, trivial, retIn_algebraic, trivial, retOut_algebraic, trivial, nsaOut_algebraic, trivial, ple_algebraic, trivial, kv_algebraic, trivial, nsaQ_algebraic,
  trivial, ple_s_algebraic, trivial, kv_s_algebraic, trivial, ret_s_algebraic⟩

end Cert.Proof

end
